-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_decaying [hPre_finite_and_decaying : Cert.Pre_finite_and_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_decaying [hPre_finite_and_decaying : Cert.Pre_finite_and_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_decaying [hKernelIdeal : Cert.KernelIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_decaying [hReferenceIdeal : Cert.ReferenceIdeal.Facts] [hPre_finite_and_decaying : Cert.Pre_finite_and_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_and_decaying [hKernelIdeal : Cert.KernelIdeal.Facts] [hReferenceIdeal : Cert.ReferenceIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v156_0)) (v1 : (c : Dev Cert.KernelIdeal.nD) → Buf (Elt Ideal) ((c.tc : Thread Cert.KernelIdeal.nD Cert.KernelIdeal.τ).loc Cert.KernelIdeal.main_v156_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156_0) = v0 c
          ∧ r.2.mem ((c.tc : Thread Cert.KernelIdeal.nD Cert.KernelIdeal.τ).loc Cert.KernelIdeal.main_v156_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v117) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_and_decaying : Cert.Pre_finite_and_decaying.Facts),
    quiescent_Kernel (hKernel := hKernel)
    ∧ quiescent_KernelIdeal (hKernelIdeal := hKernelIdeal)
    ∧ quiescent_KernelIdeal_pre_finite_and_decaying (hKernelIdeal := hKernelIdeal) (hPre_finite_and_decaying := hPre_finite_and_decaying)
    ∧ quiescent_ReferenceIdeal (hReferenceIdeal := hReferenceIdeal)
    ∧ quiescent_ReferenceIdeal_pre_finite_and_decaying (hReferenceIdeal := hReferenceIdeal) (hPre_finite_and_decaying := hPre_finite_and_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_and_decaying (hKernelIdeal := hKernelIdeal) (hReferenceIdeal := hReferenceIdeal) (hPre_finite_and_decaying := hPre_finite_and_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_and_decaying.lean ====
abbrev S8x2304x6272 : Shape := ⟨3, ![8, 2304, 6272]⟩
abbrev S2x8x2304x1024 : Shape := ⟨4, ![2, 8, 2304, 1024]⟩
abbrev S8x2304x4096 : Shape := ⟨3, ![8, 2304, 4096]⟩
abbrev S_ : Shape := ⟨0, ![]⟩

class Facts : Prop where
  slices_S8x2304x6272_S8x2304x4096_0_0_0 : S8x2304x6272.Slices ![0, 0, 0] S8x2304x4096
  bitsLt_bf16_f32 : FTy.bits .bf16 < FTy.bits .f32
  bcast_S_S8x2304x4096 : S_.BroadcastsInDim S8x2304x4096 (![] : Fin 0 → Fin S8x2304x4096.rank)
  reducesTo_S8x2304x4096_S_d0_1_2 : S8x2304x4096.ReducesTo [0, 1, 2] S_
  h_S_ : 0 < S_.numel
  bcast_S_S2x8x2304x1024 : S_.BroadcastsInDim S2x8x2304x1024 (![] : Fin 0 → Fin S2x8x2304x1024.rank)
  reducesTo_S2x8x2304x1024_S_d0_1_2_3 : S2x8x2304x1024.ReducesTo [0, 1, 2, 3] S_

variable [Facts]

def fn {F : FTy → Type} [FloatOps F] (main_arg0 : FVec F S8x2304x6272 .bf16) (main_arg1 : FVec F S2x8x2304x1024 .f32) : IVec S_ 1 :=
  let main_v0 : FVec F S8x2304x4096 .bf16 := (extractStridedSlice S8x2304x4096 ![0, 0, 0] · slices_S8x2304x6272_S8x2304x4096_0_0_0) main_arg0
  let main_v1 : FVec F S8x2304x4096 .f32 := (extf .f32 · bitsLt_bf16_f32) main_v0
  let main_v2 : FVec F S8x2304x4096 .f32 := Host.absf main_v1
  let main_cst : FVec F S_ .f32 := constant S_ .f32 0x7F800000#32
  let main_v3 : FVec F S8x2304x4096 .f32 := broadcastInDim S8x2304x4096 ![] bcast_S_S8x2304x4096 main_cst
  let main_v4 : IVec S8x2304x4096 1 := cmpf .olt main_v2 main_v3
  let main_c : IVec S_ 1 := constantI S_ 1 1#1
  let main_v5 : IVec S_ 1 := (fun x v => Host.reduce IntOp.andi x v reducesTo_S8x2304x4096_S_d0_1_2 h_S_) main_v4 main_c
  let main_cst_0 : FVec F S_ .f32 := constant S_ .f32 0xFF800000#32
  let main_v6 : FVec F S2x8x2304x1024 .f32 := broadcastInDim S2x8x2304x1024 ![] bcast_S_S2x8x2304x1024 main_cst_0
  let main_v7 : IVec S2x8x2304x1024 1 := cmpf .ogt main_arg1 main_v6
  let main_cst_1 : FVec F S_ .f32 := constant S_ .f32 0x00000000#32
  let main_v8 : FVec F S2x8x2304x1024 .f32 := broadcastInDim S2x8x2304x1024 ![] bcast_S_S2x8x2304x1024 main_cst_1
  let main_v9 : IVec S2x8x2304x1024 1 := cmpf .ole main_arg1 main_v8
  let main_v10 : IVec S2x8x2304x1024 1 := andi main_v7 main_v9
  let main_c_2 : IVec S_ 1 := constantI S_ 1 1#1
  let main_v11 : IVec S_ 1 := (fun x v => Host.reduce IntOp.andi x v reducesTo_S2x8x2304x1024_S_d0_1_2_3 h_S_) main_v10 main_c_2
  let main_v12 : IVec S_ 1 := andi main_v5 main_v11
  main_v12
-- ==== Kernel.lean ====
abbrev S8x2304x6272 : Shape := ⟨3, ![8, 2304, 6272]⟩
abbrev S2x8x2304x1024 : Shape := ⟨4, ![2, 8, 2304, 1024]⟩
abbrev S256x256 : Shape := ⟨2, ![256, 256]⟩
abbrev S_ : Shape := ⟨0, ![]⟩
abbrev S256x512 : Shape := ⟨2, ![256, 512]⟩
abbrev S1x256x512 : Shape := ⟨3, ![1, 256, 512]⟩
abbrev S2x256x512 : Shape := ⟨3, ![2, 256, 512]⟩
abbrev S1x256x256 : Shape := ⟨3, ![1, 256, 256]⟩
abbrev S2x256x256 : Shape := ⟨3, ![2, 256, 256]⟩
abbrev S8x2304x2048 : Shape := ⟨3, ![8, 2304, 2048]⟩
abbrev S1x1x256x256 : Shape := ⟨4, ![1, 1, 256, 256]⟩
abbrev S512x256 : Shape := ⟨2, ![512, 256]⟩
abbrev S1x256 : Shape := ⟨2, ![1, 256]⟩
abbrev S256x1 : Shape := ⟨2, ![256, 1]⟩
abbrev S1x1x256 : Shape := ⟨3, ![1, 1, 256]⟩
abbrev S1x128x256 : Shape := ⟨3, ![1, 128, 256]⟩
abbrev S2x128x256 : Shape := ⟨3, ![2, 128, 256]⟩
abbrev S2x1x256 : Shape := ⟨3, ![2, 1, 256]⟩
abbrev S2x64x256 : Shape := ⟨3, ![2, 64, 256]⟩
abbrev S4x64x256 : Shape := ⟨3, ![4, 64, 256]⟩
abbrev S4x1x256 : Shape := ⟨3, ![4, 1, 256]⟩
abbrev S4x32x256 : Shape := ⟨3, ![4, 32, 256]⟩
abbrev S8x32x256 : Shape := ⟨3, ![8, 32, 256]⟩
abbrev S8x1x256 : Shape := ⟨3, ![8, 1, 256]⟩
abbrev S8x16x256 : Shape := ⟨3, ![8, 16, 256]⟩
abbrev S16x16x256 : Shape := ⟨3, ![16, 16, 256]⟩
abbrev S16x1x256 : Shape := ⟨3, ![16, 1, 256]⟩
abbrev S16x8x256 : Shape := ⟨3, ![16, 8, 256]⟩
abbrev S32x8x256 : Shape := ⟨3, ![32, 8, 256]⟩
abbrev S32x1x256 : Shape := ⟨3, ![32, 1, 256]⟩
abbrev S64x4x256 : Shape := ⟨3, ![64, 4, 256]⟩
abbrev S64x1x256 : Shape := ⟨3, ![64, 1, 256]⟩
abbrev S128x2x256 : Shape := ⟨3, ![128, 2, 256]⟩
abbrev S128x1x256 : Shape := ⟨3, ![128, 1, 256]⟩
abbrev S128x256 : Shape := ⟨2, ![128, 256]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 232
  | .vmem => 24
  | .smem => 0
  | _ => 0

abbrev hbmTy0_0 (i : Nat) : BufTy := match i % 128 with
  | 0 => ⟨S8x2304x6272, .bf16⟩
  | 1 => ⟨S2x8x2304x1024, .f32⟩
  | 2 => ⟨S256x256, .i32⟩
  | 3 => ⟨S256x256, .i32⟩
  | 4 => ⟨S256x256, .i1⟩
  | 5 => ⟨S_, .i32⟩
  | 6 => ⟨S_, .i32⟩
  | 7 => ⟨S256x256, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i1⟩
  | 16 => ⟨S_, .i32⟩
  | 17 => ⟨S256x256, .i32⟩
  | 18 => ⟨S256x256, .i32⟩
  | 19 => ⟨S_, .i32⟩
  | 20 => ⟨S256x256, .i32⟩
  | 21 => ⟨S256x256, .i1⟩
  | 22 => ⟨S_, .i32⟩
  | 23 => ⟨S256x256, .i32⟩
  | 24 => ⟨S256x256, .i32⟩
  | 25 => ⟨S_, .i32⟩
  | 26 => ⟨S256x256, .i32⟩
  | 27 => ⟨S256x256, .i32⟩
  | 28 => ⟨S256x256, .i1⟩
  | 29 => ⟨S256x256, .i1⟩
  | 30 => ⟨S256x256, .i1⟩
  | 31 => ⟨S256x256, .i1⟩
  | 32 => ⟨S_, .i32⟩
  | 33 => ⟨S256x256, .i32⟩
  | 34 => ⟨S256x256, .i32⟩
  | 35 => ⟨S_, .i32⟩
  | 36 => ⟨S256x256, .i32⟩
  | 37 => ⟨S256x256, .i32⟩
  | 38 => ⟨S_, .i32⟩
  | 39 => ⟨S256x256, .i32⟩
  | 40 => ⟨S256x256, .i1⟩
  | 41 => ⟨S_, .i32⟩
  | 42 => ⟨S256x256, .i32⟩
  | 43 => ⟨S256x256, .i32⟩
  | 44 => ⟨S_, .i32⟩
  | 45 => ⟨S256x256, .i32⟩
  | 46 => ⟨S256x256, .i1⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i32⟩
  | 53 => ⟨S256x256, .i1⟩
  | 54 => ⟨S256x256, .i1⟩
  | 55 => ⟨S256x256, .i1⟩
  | 56 => ⟨S256x256, .i1⟩
  | 57 => ⟨S_, .i32⟩
  | 58 => ⟨S256x256, .i32⟩
  | 59 => ⟨S256x256, .i32⟩
  | 60 => ⟨S_, .i32⟩
  | 61 => ⟨S256x256, .i32⟩
  | 62 => ⟨S256x256, .i32⟩
  | 63 => ⟨S_, .i32⟩
  | 64 => ⟨S256x256, .i32⟩
  | 65 => ⟨S256x256, .i1⟩
  | 66 => ⟨S_, .i32⟩
  | 67 => ⟨S256x256, .i32⟩
  | 68 => ⟨S256x256, .i32⟩
  | 69 => ⟨S_, .i32⟩
  | 70 => ⟨S256x256, .i32⟩
  | 71 => ⟨S256x256, .i1⟩
  | 72 => ⟨S_, .i32⟩
  | 73 => ⟨S256x256, .i32⟩
  | 74 => ⟨S256x256, .i32⟩
  | 75 => ⟨S_, .i32⟩
  | 76 => ⟨S256x256, .i32⟩
  | 77 => ⟨S256x256, .i32⟩
  | 78 => ⟨S256x256, .i1⟩
  | 79 => ⟨S256x256, .i1⟩
  | 80 => ⟨S256x256, .i1⟩
  | 81 => ⟨S256x256, .i1⟩
  | 82 => ⟨S_, .i32⟩
  | 83 => ⟨S256x256, .i32⟩
  | 84 => ⟨S256x256, .i32⟩
  | 85 => ⟨S_, .i32⟩
  | 86 => ⟨S256x256, .i32⟩
  | 87 => ⟨S256x256, .i32⟩
  | 88 => ⟨S_, .i32⟩
  | 89 => ⟨S256x256, .i32⟩
  | 90 => ⟨S256x256, .i1⟩
  | 91 => ⟨S_, .i32⟩
  | 92 => ⟨S256x256, .i32⟩
  | 93 => ⟨S256x256, .i32⟩
  | 94 => ⟨S_, .i32⟩
  | 95 => ⟨S256x256, .i32⟩
  | 96 => ⟨S256x256, .i1⟩
  | 97 => ⟨S_, .i32⟩
  | 98 => ⟨S256x256, .i32⟩
  | 99 => ⟨S256x256, .i32⟩
  | 100 => ⟨S_, .i32⟩
  | 101 => ⟨S256x256, .i32⟩
  | 102 => ⟨S256x256, .i32⟩
  | 103 => ⟨S256x256, .i1⟩
  | 104 => ⟨S256x256, .i1⟩
  | 105 => ⟨S256x256, .i1⟩
  | 106 => ⟨S256x256, .i1⟩
  | 107 => ⟨S_, .i32⟩
  | 108 => ⟨S256x256, .i32⟩
  | 109 => ⟨S256x256, .i32⟩
  | 110 => ⟨S_, .i32⟩
  | 111 => ⟨S256x256, .i32⟩
  | 112 => ⟨S256x256, .i32⟩
  | 113 => ⟨S_, .i32⟩
  | 114 => ⟨S256x256, .i32⟩
  | 115 => ⟨S256x256, .i1⟩
  | 116 => ⟨S_, .i32⟩
  | 117 => ⟨S256x256, .i32⟩
  | 118 => ⟨S256x256, .i32⟩
  | 119 => ⟨S_, .i32⟩
  | 120 => ⟨S256x256, .i32⟩
  | 121 => ⟨S256x256, .i1⟩
  | 122 => ⟨S_, .i32⟩
  | 123 => ⟨S256x256, .i32⟩
  | 124 => ⟨S256x256, .i32⟩
  | 125 => ⟨S_, .i32⟩
  | 126 => ⟨S256x256, .i32⟩
  | 127 => ⟨S256x256, .i32⟩
  | _ => ⟨S8x2304x6272, .bf16⟩

abbrev hbmTy0_1 (i : Nat) : BufTy := match i % 128 with
  | 0 => ⟨S256x256, .i1⟩
  | 1 => ⟨S256x256, .i1⟩
  | 2 => ⟨S256x256, .i1⟩
  | 3 => ⟨S256x256, .i1⟩
  | 4 => ⟨S_, .i32⟩
  | 5 => ⟨S256x256, .i32⟩
  | 6 => ⟨S256x256, .i32⟩
  | 7 => ⟨S_, .i32⟩
  | 8 => ⟨S256x256, .i32⟩
  | 9 => ⟨S256x256, .i32⟩
  | 10 => ⟨S_, .i32⟩
  | 11 => ⟨S256x256, .i32⟩
  | 12 => ⟨S256x256, .i1⟩
  | 13 => ⟨S_, .i32⟩
  | 14 => ⟨S256x256, .i32⟩
  | 15 => ⟨S256x256, .i32⟩
  | 16 => ⟨S_, .i32⟩
  | 17 => ⟨S256x256, .i32⟩
  | 18 => ⟨S256x256, .i1⟩
  | 19 => ⟨S_, .i32⟩
  | 20 => ⟨S256x256, .i32⟩
  | 21 => ⟨S256x256, .i32⟩
  | 22 => ⟨S_, .i32⟩
  | 23 => ⟨S256x256, .i32⟩
  | 24 => ⟨S256x256, .i32⟩
  | 25 => ⟨S256x256, .i1⟩
  | 26 => ⟨S256x256, .i1⟩
  | 27 => ⟨S256x256, .i1⟩
  | 28 => ⟨S256x256, .i1⟩
  | 29 => ⟨S_, .i32⟩
  | 30 => ⟨S256x256, .i32⟩
  | 31 => ⟨S256x256, .i32⟩
  | 32 => ⟨S_, .i32⟩
  | 33 => ⟨S256x256, .i32⟩
  | 34 => ⟨S256x256, .i32⟩
  | 35 => ⟨S_, .i32⟩
  | 36 => ⟨S256x256, .i32⟩
  | 37 => ⟨S256x256, .i1⟩
  | 38 => ⟨S_, .i32⟩
  | 39 => ⟨S256x256, .i32⟩
  | 40 => ⟨S256x256, .i32⟩
  | 41 => ⟨S_, .i32⟩
  | 42 => ⟨S256x256, .i32⟩
  | 43 => ⟨S256x256, .i1⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S256x256, .i1⟩
  | 51 => ⟨S256x256, .i1⟩
  | 52 => ⟨S256x256, .i1⟩
  | 53 => ⟨S256x256, .i1⟩
  | 54 => ⟨S_, .i32⟩
  | 55 => ⟨S256x256, .i32⟩
  | 56 => ⟨S256x256, .i32⟩
  | 57 => ⟨S_, .i32⟩
  | 58 => ⟨S256x256, .i32⟩
  | 59 => ⟨S256x256, .i32⟩
  | 60 => ⟨S_, .i32⟩
  | 61 => ⟨S256x256, .i32⟩
  | 62 => ⟨S256x256, .i1⟩
  | 63 => ⟨S_, .i32⟩
  | 64 => ⟨S256x256, .i32⟩
  | 65 => ⟨S256x256, .i32⟩
  | 66 => ⟨S_, .i32⟩
  | 67 => ⟨S256x256, .i32⟩
  | 68 => ⟨S256x256, .i1⟩
  | 69 => ⟨S_, .i32⟩
  | 70 => ⟨S256x256, .i32⟩
  | 71 => ⟨S256x256, .i32⟩
  | 72 => ⟨S_, .i32⟩
  | 73 => ⟨S256x256, .i32⟩
  | 74 => ⟨S256x256, .i32⟩
  | 75 => ⟨S256x256, .i1⟩
  | 76 => ⟨S256x256, .i1⟩
  | 77 => ⟨S256x256, .i1⟩
  | 78 => ⟨S256x256, .i1⟩
  | 79 => ⟨S_, .i32⟩
  | 80 => ⟨S256x256, .i32⟩
  | 81 => ⟨S256x256, .i32⟩
  | 82 => ⟨S256x256, .i1⟩
  | 83 => ⟨S_, .f32⟩
  | 84 => ⟨S_, .f32⟩
  | 85 => ⟨S256x256, .f32⟩
  | 86 => ⟨S256x256, .f32⟩
  | 87 => ⟨S256x256, .f32⟩
  | 88 => ⟨S256x256, .f32⟩
  | 89 => ⟨S256x512, .f32⟩
  | 90 => ⟨S256x256, .f32⟩
  | 91 => ⟨S256x256, .f32⟩
  | 92 => ⟨S256x512, .f32⟩
  | 93 => ⟨S1x256x512, .f32⟩
  | 94 => ⟨S1x256x512, .f32⟩
  | 95 => ⟨S2x256x512, .f32⟩
  | 96 => ⟨S256x256, .i32⟩
  | 97 => ⟨S1x256x256, .i32⟩
  | 98 => ⟨S1x256x256, .i32⟩
  | 99 => ⟨S2x256x256, .i32⟩
  | 100 => ⟨S2x256x512, .bf16⟩
  | 101 => ⟨S2x256x256, .i32⟩
  | 102 => ⟨S8x2304x2048, .bf16⟩
  | 103 => ⟨S8x2304x2048, .bf16⟩
  | _ => ⟨S8x2304x6272, .bf16⟩

abbrev hbmTy (i : Nat) : BufTy := match i / 128 with
  | 0 => hbmTy0_0 i
  | 1 => hbmTy0_1 i
  | _ => ⟨S8x2304x6272, .bf16⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x1x256x256, .f32⟩
  | .local _ .vmem, ⟨7, _⟩ => ⟨S1x1x256x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x512, .bf16⟩
  | .local _ .vmem, ⟨13, _⟩ => ⟨S1x256x512, .bf16⟩
  | .local _ .vmem, ⟨14, _⟩ => ⟨S1x1x256x256, .f32⟩
  | .local _ .vmem, ⟨15, _⟩ => ⟨S1x1x256x256, .f32⟩
  | .local _ .vmem, ⟨16, _⟩ => ⟨S2x256x512, .bf16⟩
  | .local _ .vmem, ⟨17, _⟩ => ⟨S2x256x256, .i32⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S512x256, .f32⟩
  | .local _ .vmem, ⟨23, _⟩ => ⟨S512x256, .f32⟩
  | _, _ => ⟨S8x2304x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_7 : Ref sig .tc := ⟨.hbm, 32, rfl⟩
abbrev main_call1_v0 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_v24 : Ref sig .tc := ⟨.hbm, 40, rfl⟩
abbrev main_c_10 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_v28 : Ref sig .tc := ⟨.hbm, 46, rfl⟩
abbrev main_c_12 : Ref sig .tc := ⟨.hbm, 47, rfl⟩
abbrev main_v29 : Ref sig .tc := ⟨.hbm, 48, rfl⟩
abbrev main_v30 : Ref sig .tc := ⟨.hbm, 49, rfl⟩
abbrev main_c_13 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_14 : Ref sig .tc := ⟨.hbm, 57, rfl⟩
abbrev main_call2_v0 : Ref sig .tc := ⟨.hbm, 58, rfl⟩
abbrev main_v37 : Ref sig .tc := ⟨.hbm, 59, rfl⟩
abbrev main_c_15 : Ref sig .tc := ⟨.hbm, 60, rfl⟩
abbrev main_v38 : Ref sig .tc := ⟨.hbm, 61, rfl⟩
abbrev main_v39 : Ref sig .tc := ⟨.hbm, 62, rfl⟩
abbrev main_c_16 : Ref sig .tc := ⟨.hbm, 63, rfl⟩
abbrev main_v40 : Ref sig .tc := ⟨.hbm, 64, rfl⟩
abbrev main_v41 : Ref sig .tc := ⟨.hbm, 65, rfl⟩
abbrev main_c_17 : Ref sig .tc := ⟨.hbm, 66, rfl⟩
abbrev main_v42 : Ref sig .tc := ⟨.hbm, 67, rfl⟩
abbrev main_v43 : Ref sig .tc := ⟨.hbm, 68, rfl⟩
abbrev main_c_18 : Ref sig .tc := ⟨.hbm, 69, rfl⟩
abbrev main_v44 : Ref sig .tc := ⟨.hbm, 70, rfl⟩
abbrev main_v45 : Ref sig .tc := ⟨.hbm, 71, rfl⟩
abbrev main_c_19 : Ref sig .tc := ⟨.hbm, 72, rfl⟩
abbrev main_v46 : Ref sig .tc := ⟨.hbm, 73, rfl⟩
abbrev main_v47 : Ref sig .tc := ⟨.hbm, 74, rfl⟩
abbrev main_c_20 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_21 : Ref sig .tc := ⟨.hbm, 82, rfl⟩
abbrev main_call3_v0 : Ref sig .tc := ⟨.hbm, 83, rfl⟩
abbrev main_v54 : Ref sig .tc := ⟨.hbm, 84, rfl⟩
abbrev main_c_22 : Ref sig .tc := ⟨.hbm, 85, rfl⟩
abbrev main_v55 : Ref sig .tc := ⟨.hbm, 86, rfl⟩
abbrev main_v56 : Ref sig .tc := ⟨.hbm, 87, rfl⟩
abbrev main_c_23 : Ref sig .tc := ⟨.hbm, 88, rfl⟩
abbrev main_v57 : Ref sig .tc := ⟨.hbm, 89, rfl⟩
abbrev main_v58 : Ref sig .tc := ⟨.hbm, 90, rfl⟩
abbrev main_c_24 : Ref sig .tc := ⟨.hbm, 91, rfl⟩
abbrev main_v59 : Ref sig .tc := ⟨.hbm, 92, rfl⟩
abbrev main_v60 : Ref sig .tc := ⟨.hbm, 93, rfl⟩
abbrev main_c_25 : Ref sig .tc := ⟨.hbm, 94, rfl⟩
abbrev main_v61 : Ref sig .tc := ⟨.hbm, 95, rfl⟩
abbrev main_v62 : Ref sig .tc := ⟨.hbm, 96, rfl⟩
abbrev main_c_26 : Ref sig .tc := ⟨.hbm, 97, rfl⟩
abbrev main_v63 : Ref sig .tc := ⟨.hbm, 98, rfl⟩
abbrev main_v64 : Ref sig .tc := ⟨.hbm, 99, rfl⟩
abbrev main_c_27 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_28 : Ref sig .tc := ⟨.hbm, 107, rfl⟩
abbrev main_call4_v0 : Ref sig .tc := ⟨.hbm, 108, rfl⟩
abbrev main_v71 : Ref sig .tc := ⟨.hbm, 109, rfl⟩
abbrev main_c_29 : Ref sig .tc := ⟨.hbm, 110, rfl⟩
abbrev main_v72 : Ref sig .tc := ⟨.hbm, 111, rfl⟩
abbrev main_v73 : Ref sig .tc := ⟨.hbm, 112, rfl⟩
abbrev main_c_30 : Ref sig .tc := ⟨.hbm, 113, rfl⟩
abbrev main_v74 : Ref sig .tc := ⟨.hbm, 114, rfl⟩
abbrev main_v75 : Ref sig .tc := ⟨.hbm, 115, rfl⟩
abbrev main_c_31 : Ref sig .tc := ⟨.hbm, 116, rfl⟩
abbrev main_v76 : Ref sig .tc := ⟨.hbm, 117, rfl⟩
abbrev main_v77 : Ref sig .tc := ⟨.hbm, 118, rfl⟩
abbrev main_c_32 : Ref sig .tc := ⟨.hbm, 119, rfl⟩
abbrev main_v78 : Ref sig .tc := ⟨.hbm, 120, rfl⟩
abbrev main_v79 : Ref sig .tc := ⟨.hbm, 121, rfl⟩
abbrev main_c_33 : Ref sig .tc := ⟨.hbm, 122, rfl⟩
abbrev main_v80 : Ref sig .tc := ⟨.hbm, 123, rfl⟩
abbrev main_v81 : Ref sig .tc := ⟨.hbm, 124, rfl⟩
abbrev main_c_34 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_35 : Ref sig .tc := ⟨.hbm, 132, rfl⟩
abbrev main_call5_v0 : Ref sig .tc := ⟨.hbm, 133, rfl⟩
abbrev main_v88 : Ref sig .tc := ⟨.hbm, 134, rfl⟩
abbrev main_c_36 : Ref sig .tc := ⟨.hbm, 135, rfl⟩
abbrev main_v89 : Ref sig .tc := ⟨.hbm, 136, rfl⟩
abbrev main_v90 : Ref sig .tc := ⟨.hbm, 137, rfl⟩
abbrev main_c_37 : Ref sig .tc := ⟨.hbm, 138, rfl⟩
abbrev main_v91 : Ref sig .tc := ⟨.hbm, 139, rfl⟩
abbrev main_v92 : Ref sig .tc := ⟨.hbm, 140, rfl⟩
abbrev main_c_38 : Ref sig .tc := ⟨.hbm, 141, rfl⟩
abbrev main_v93 : Ref sig .tc := ⟨.hbm, 142, rfl⟩
abbrev main_v94 : Ref sig .tc := ⟨.hbm, 143, rfl⟩
abbrev main_c_39 : Ref sig .tc := ⟨.hbm, 144, rfl⟩
abbrev main_v95 : Ref sig .tc := ⟨.hbm, 145, rfl⟩
abbrev main_v96 : Ref sig .tc := ⟨.hbm, 146, rfl⟩
abbrev main_c_40 : Ref sig .tc := ⟨.hbm, 147, rfl⟩
abbrev main_v97 : Ref sig .tc := ⟨.hbm, 148, rfl⟩
abbrev main_v98 : Ref sig .tc := ⟨.hbm, 149, rfl⟩
abbrev main_c_41 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_42 : Ref sig .tc := ⟨.hbm, 157, rfl⟩
abbrev main_call6_v0 : Ref sig .tc := ⟨.hbm, 158, rfl⟩
abbrev main_v105 : Ref sig .tc := ⟨.hbm, 159, rfl⟩
abbrev main_c_43 : Ref sig .tc := ⟨.hbm, 160, rfl⟩
abbrev main_v106 : Ref sig .tc := ⟨.hbm, 161, rfl⟩
abbrev main_v107 : Ref sig .tc := ⟨.hbm, 162, rfl⟩
abbrev main_c_44 : Ref sig .tc := ⟨.hbm, 163, rfl⟩
abbrev main_v108 : Ref sig .tc := ⟨.hbm, 164, rfl⟩
abbrev main_v109 : Ref sig .tc := ⟨.hbm, 165, rfl⟩
abbrev main_c_45 : Ref sig .tc := ⟨.hbm, 166, rfl⟩
abbrev main_v110 : Ref sig .tc := ⟨.hbm, 167, rfl⟩
abbrev main_v111 : Ref sig .tc := ⟨.hbm, 168, rfl⟩
abbrev main_c_46 : Ref sig .tc := ⟨.hbm, 169, rfl⟩
abbrev main_v112 : Ref sig .tc := ⟨.hbm, 170, rfl⟩
abbrev main_v113 : Ref sig .tc := ⟨.hbm, 171, rfl⟩
abbrev main_c_47 : Ref sig .tc := ⟨.hbm, 172, rfl⟩
abbrev main_v114 : Ref sig .tc := ⟨.hbm, 173, rfl⟩
abbrev main_v115 : Ref sig .tc := ⟨.hbm, 174, rfl⟩
abbrev main_c_48 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_49 : Ref sig .tc := ⟨.hbm, 182, rfl⟩
abbrev main_call7_v0 : Ref sig .tc := ⟨.hbm, 183, rfl⟩
abbrev main_v122 : Ref sig .tc := ⟨.hbm, 184, rfl⟩
abbrev main_c_50 : Ref sig .tc := ⟨.hbm, 185, rfl⟩
abbrev main_v123 : Ref sig .tc := ⟨.hbm, 186, rfl⟩
abbrev main_v124 : Ref sig .tc := ⟨.hbm, 187, rfl⟩
abbrev main_c_51 : Ref sig .tc := ⟨.hbm, 188, rfl⟩
abbrev main_v125 : Ref sig .tc := ⟨.hbm, 189, rfl⟩
abbrev main_v126 : Ref sig .tc := ⟨.hbm, 190, rfl⟩
abbrev main_c_52 : Ref sig .tc := ⟨.hbm, 191, rfl⟩
abbrev main_v127 : Ref sig .tc := ⟨.hbm, 192, rfl⟩
abbrev main_v128 : Ref sig .tc := ⟨.hbm, 193, rfl⟩
abbrev main_c_53 : Ref sig .tc := ⟨.hbm, 194, rfl⟩
abbrev main_v129 : Ref sig .tc := ⟨.hbm, 195, rfl⟩
abbrev main_v130 : Ref sig .tc := ⟨.hbm, 196, rfl⟩
abbrev main_c_54 : Ref sig .tc := ⟨.hbm, 197, rfl⟩
abbrev main_v131 : Ref sig .tc := ⟨.hbm, 198, rfl⟩
abbrev main_v132 : Ref sig .tc := ⟨.hbm, 199, rfl⟩
abbrev main_c_55 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_c_56 : Ref sig .tc := ⟨.hbm, 207, rfl⟩
abbrev main_call8_v0 : Ref sig .tc := ⟨.hbm, 208, rfl⟩
abbrev main_v139 : Ref sig .tc := ⟨.hbm, 209, rfl⟩
abbrev main_v140 : Ref sig .tc := ⟨.hbm, 210, rfl⟩
abbrev main_cst : Ref sig .tc := ⟨.hbm, 211, rfl⟩
abbrev main_cst_57 : Ref sig .tc := ⟨.hbm, 212, rfl⟩
abbrev main_call9_v0 : Ref sig .tc := ⟨.hbm, 213, rfl⟩
abbrev main_call9_v1 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156_0 : Ref sig .tc := ⟨.hbm, 230, rfl⟩
abbrev main_v156_1 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![8, 4, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let v1 : BitVec 32 := Scalar.subi arg2 c1_i32
  let c8_i32 : BitVec 32 := 8#32
  let v2 : BitVec 32 := Scalar.select v0 c8_i32 v1
  let c0_i32_0 : BitVec 32 := 0#32
  ![arg0.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let v1 : BitVec 32 := Scalar.subi arg2 c1_i32
  let c8_i32 : BitVec 32 := 8#32
  let v2 : BitVec 32 := Scalar.select v0 c8_i32 v1
  let c4_i32 : BitVec 32 := 4#32
  let v3 : BitVec 32 := Scalar.addi c4_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let v1 : BitVec 32 := Scalar.subi arg2 c1_i32
  let c8_i32 : BitVec 32 := 8#32
  let v2 : BitVec 32 := Scalar.select v0 c8_i32 v1
  let c4_i32 : BitVec 32 := 4#32
  let v3 : BitVec 32 := Scalar.addi c4_i32 arg1
  let c0_i32_0 : BitVec 32 := 0#32
  ![arg0.toNat, v2.toNat, v3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let v1 : BitVec 32 := Scalar.subi arg2 c1_i32
  let c8_i32 : BitVec 32 := 8#32
  let v2 : BitVec 32 := Scalar.select v0 c8_i32 v1
  let c0_i32_0 : BitVec 32 := 0#32
  let c0_i32_1 : BitVec 32 := 0#32
  ![c0_i32_0.toNat, arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c8_i32 : BitVec 32 := 8#32
  let v1 : BitVec 32 := Scalar.subi c8_i32 arg2
  let c8_i32_0 : BitVec 32 := 8#32
  let v2 : BitVec 32 := Scalar.select v0 c8_i32_0 v1
  let c0_i32_1 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c8_i32 : BitVec 32 := 8#32
  let v1 : BitVec 32 := Scalar.subi c8_i32 arg2
  let c8_i32_0 : BitVec 32 := 8#32
  let v2 : BitVec 32 := Scalar.select v0 c8_i32_0 v1
  let c4_i32 : BitVec 32 := 4#32
  let v3 : BitVec 32 := Scalar.addi c4_i32 arg1
  let c0_i32_1 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c8_i32 : BitVec 32 := 8#32
  let v1 : BitVec 32 := Scalar.subi c8_i32 arg2
  let c8_i32_0 : BitVec 32 := 8#32
  let v2 : BitVec 32 := Scalar.select v0 c8_i32_0 v1
  let c4_i32 : BitVec 32 := 4#32
  let v3 : BitVec 32 := Scalar.addi c4_i32 arg1
  let c0_i32_1 : BitVec 32 := 0#32
  ![arg0.toNat, v2.toNat, v3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c8_i32 : BitVec 32 := 8#32
  let v1 : BitVec 32 := Scalar.subi c8_i32 arg2
  let c8_i32_0 : BitVec 32 := 8#32
  let v2 : BitVec 32 := Scalar.select v0 c8_i32_0 v1
  let c1_i32 : BitVec 32 := 1#32
  let c0_i32_1 : BitVec 32 := 0#32
  ![c1_i32.toNat, arg0.toNat, v2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let v1 : BitVec 32 := Scalar.subi arg2 c1_i32
  let c8_i32 : BitVec 32 := 8#32
  let v2 : BitVec 32 := Scalar.select v0 c8_i32 v1
  let c0_i32_0 : BitVec 32 := 0#32
  ![arg0.toNat, v2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c8_i32 : BitVec 32 := 8#32
  let v1 : BitVec 32 := Scalar.subi c8_i32 arg2
  let c8_i32_0 : BitVec 32 := 8#32
  let v2 : BitVec 32 := Scalar.select v0 c8_i32_0 v1
  let c0_i32_1 : BitVec 32 := 0#32
  ![arg0.toNat, v2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S2x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x256x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2304x6272 : Shape := ⟨3, ![8, 2304, 6272]⟩
abbrev S2x8x2304x1024 : Shape := ⟨4, ![2, 8, 2304, 1024]⟩
abbrev S8x2304x1024 : Shape := ⟨3, ![8, 2304, 1024]⟩
abbrev S8x256x1024 : Shape := ⟨3, ![8, 256, 1024]⟩
abbrev S8x2048x1024 : Shape := ⟨3, ![8, 2048, 1024]⟩
abbrev S1x8x2304x1024 : Shape := ⟨4, ![1, 8, 2304, 1024]⟩
abbrev S2x8x2304x4x256 : Shape := ⟨5, ![2, 8, 2304, 4, 256]⟩
abbrev S2304x2x8x4x256 : Shape := ⟨5, ![2304, 2, 8, 4, 256]⟩
abbrev S_ : Shape := ⟨0, ![]⟩
abbrev S8x2304x2048 : Shape := ⟨3, ![8, 2304, 2048]⟩
abbrev S8x256x2048 : Shape := ⟨3, ![8, 256, 2048]⟩
abbrev S8x2048x2048 : Shape := ⟨3, ![8, 2048, 2048]⟩
abbrev S1x8x2304x2048 : Shape := ⟨4, ![1, 8, 2304, 2048]⟩
abbrev S2x8x2304x2048 : Shape := ⟨4, ![2, 8, 2304, 2048]⟩
abbrev S2x8x2304x4x512 : Shape := ⟨5, ![2, 8, 2304, 4, 512]⟩
abbrev S2304x2x8x4x512 : Shape := ⟨5, ![2304, 2, 8, 4, 512]⟩
abbrev S2x8x4x256x512 : Shape := ⟨5, ![2, 8, 4, 256, 512]⟩
abbrev S1x2x8x4x256 : Shape := ⟨5, ![1, 2, 8, 4, 256]⟩
abbrev S2x8x4x256 : Shape := ⟨4, ![2, 8, 4, 256]⟩
abbrev S1x2x8x4x512 : Shape := ⟨5, ![1, 2, 8, 4, 512]⟩
abbrev S2x8x4x512 : Shape := ⟨4, ![2, 8, 4, 512]⟩
abbrev S2x8x4x256x1 : Shape := ⟨5, ![2, 8, 4, 256, 1]⟩
abbrev S2x8x4x1x512 : Shape := ⟨5, ![2, 8, 4, 1, 512]⟩
abbrev S1x8x2048x2048 : Shape := ⟨4, ![1, 8, 2048, 2048]⟩
abbrev S1x8x256x2048 : Shape := ⟨4, ![1, 8, 256, 2048]⟩

abbrev nBuf : Space → Nat
  | .hbm => 144
  | .vmem => 0
  | .smem => 0
  | _ => 0

abbrev hbmTy0_0 (i : Nat) : BufTy := match i % 128 with
  | 0 => ⟨S8x2304x6272, .bf16⟩
  | 1 => ⟨S2x8x2304x1024, .f32⟩
  | 2 => ⟨S8x2304x6272, .f32⟩
  | 3 => ⟨S8x2304x1024, .f32⟩
  | 4 => ⟨S8x2304x1024, .f32⟩
  | 5 => ⟨S8x256x1024, .f32⟩
  | 6 => ⟨S8x2048x1024, .f32⟩
  | 7 => ⟨S8x2304x1024, .f32⟩
  | 8 => ⟨S8x256x1024, .f32⟩
  | 9 => ⟨S8x256x1024, .f32⟩
  | 10 => ⟨S8x2048x1024, .f32⟩
  | 11 => ⟨S8x2048x1024, .f32⟩
  | 12 => ⟨S8x2304x1024, .f32⟩
  | 13 => ⟨S1x8x2304x1024, .f32⟩
  | 14 => ⟨S1x8x2304x1024, .f32⟩
  | 15 => ⟨S2x8x2304x1024, .f32⟩
  | 16 => ⟨S2x8x2304x4x256, .f32⟩
  | 17 => ⟨S2304x2x8x4x256, .f32⟩
  | 18 => ⟨S_, .f32⟩
  | 19 => ⟨S2304x2x8x4x256, .f32⟩
  | 20 => ⟨S2304x2x8x4x256, .f32⟩
  | 21 => ⟨S8x2304x1024, .f32⟩
  | 22 => ⟨S8x2304x1024, .f32⟩
  | 23 => ⟨S8x256x1024, .f32⟩
  | 24 => ⟨S8x2048x1024, .f32⟩
  | 25 => ⟨S8x2304x1024, .f32⟩
  | 26 => ⟨S8x256x1024, .f32⟩
  | 27 => ⟨S8x256x1024, .f32⟩
  | 28 => ⟨S8x2048x1024, .f32⟩
  | 29 => ⟨S8x2048x1024, .f32⟩
  | 30 => ⟨S8x2304x1024, .f32⟩
  | 31 => ⟨S1x8x2304x1024, .f32⟩
  | 32 => ⟨S1x8x2304x1024, .f32⟩
  | 33 => ⟨S2x8x2304x1024, .f32⟩
  | 34 => ⟨S2x8x2304x4x256, .f32⟩
  | 35 => ⟨S2304x2x8x4x256, .f32⟩
  | 36 => ⟨S8x2304x2048, .f32⟩
  | 37 => ⟨S8x2304x2048, .f32⟩
  | 38 => ⟨S8x256x2048, .f32⟩
  | 39 => ⟨S8x2048x2048, .f32⟩
  | 40 => ⟨S8x2304x2048, .f32⟩
  | 41 => ⟨S8x256x2048, .f32⟩
  | 42 => ⟨S8x256x2048, .f32⟩
  | 43 => ⟨S8x2048x2048, .f32⟩
  | 44 => ⟨S8x2048x2048, .f32⟩
  | 45 => ⟨S8x2304x2048, .f32⟩
  | 46 => ⟨S1x8x2304x2048, .f32⟩
  | 47 => ⟨S1x8x2304x2048, .f32⟩
  | 48 => ⟨S2x8x2304x2048, .f32⟩
  | 49 => ⟨S2x8x2304x4x512, .f32⟩
  | 50 => ⟨S2304x2x8x4x512, .f32⟩
  | 51 => ⟨S1x8x2304x1024, .f32⟩
  | 52 => ⟨S8x2304x1024, .f32⟩
  | 53 => ⟨S1x8x2304x1024, .f32⟩
  | 54 => ⟨S8x2304x1024, .f32⟩
  | 55 => ⟨S8x256x1024, .f32⟩
  | 56 => ⟨S8x2048x1024, .f32⟩
  | 57 => ⟨S8x2304x1024, .f32⟩
  | 58 => ⟨S8x256x1024, .f32⟩
  | 59 => ⟨S8x256x1024, .f32⟩
  | 60 => ⟨S8x2048x1024, .f32⟩
  | 61 => ⟨S8x2048x1024, .f32⟩
  | 62 => ⟨S8x2304x1024, .f32⟩
  | 63 => ⟨S1x8x2304x1024, .f32⟩
  | 64 => ⟨S1x8x2304x1024, .f32⟩
  | 65 => ⟨S2x8x2304x1024, .f32⟩
  | 66 => ⟨S2x8x2304x4x256, .f32⟩
  | 67 => ⟨S2304x2x8x4x256, .f32⟩
  | 68 => ⟨S_, .f32⟩
  | 69 => ⟨S2x8x4x256x512, .f32⟩
  | 70 => ⟨S_, .f32⟩
  | 71 => ⟨S2304x2x8x4x512, .f32⟩
  | 72 => ⟨S_, .i32⟩
  | 73 => ⟨S2304x2x8x4x256, .f32⟩
  | 74 => ⟨S2304x2x8x4x256, .f32⟩
  | 75 => ⟨S2304x2x8x4x512, .f32⟩
  | 76 => ⟨S2304x2x8x4x256, .f32⟩
  | 77 => ⟨S_, .i32⟩
  | 78 => ⟨S2x8x4x256x512, .f32⟩
  | 79 => ⟨S2304x2x8x4x512, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1x2x8x4x256, .f32⟩
  | 87 => ⟨S2x8x4x256, .f32⟩
  | 88 => ⟨S_, .i32⟩
  | 89 => ⟨S_, .i32⟩
  | 90 => ⟨S_, .i32⟩
  | 91 => ⟨S_, .i32⟩
  | 92 => ⟨S1x2x8x4x256, .f32⟩
  | 93 => ⟨S2x8x4x256, .f32⟩
  | 94 => ⟨S_, .i32⟩
  | 95 => ⟨S_, .i32⟩
  | 96 => ⟨S_, .i32⟩
  | 97 => ⟨S_, .i32⟩
  | 98 => ⟨S1x2x8x4x512, .f32⟩
  | 99 => ⟨S2x8x4x512, .f32⟩
  | 100 => ⟨S_, .i32⟩
  | 101 => ⟨S_, .i32⟩
  | 102 => ⟨S_, .i32⟩
  | 103 => ⟨S_, .i32⟩
  | 104 => ⟨S1x2x8x4x256, .f32⟩
  | 105 => ⟨S2x8x4x256, .f32⟩
  | 106 => ⟨S2x8x4x256, .f32⟩
  | 107 => ⟨S2x8x4x256x1, .f32⟩
  | 108 => ⟨S2x8x4x256x512, .f32⟩
  | 109 => ⟨S2x8x4x256x512, .f32⟩
  | 110 => ⟨S2x8x4x256x1, .f32⟩
  | 111 => ⟨S2x8x4x1x512, .f32⟩
  | 112 => ⟨S2x8x4x256x512, .f32⟩
  | 113 => ⟨S2x8x4x256x512, .f32⟩
  | 114 => ⟨S2x8x4x256x512, .f32⟩
  | 115 => ⟨S2x8x4x256x512, .f32⟩
  | 116 => ⟨S2x8x4x256x1, .f32⟩
  | 117 => ⟨S2x8x4x256x512, .f32⟩
  | 118 => ⟨S2x8x4x256x512, .f32⟩
  | 119 => ⟨S_, .f32⟩
  | 120 => ⟨S2x8x4x512, .f32⟩
  | 121 => ⟨S1x2x8x4x512, .f32⟩
  | 122 => ⟨S_, .i32⟩
  | 123 => ⟨S_, .i32⟩
  | 124 => ⟨S_, .i32⟩
  | 125 => ⟨S_, .i32⟩
  | 126 => ⟨S2304x2x8x4x512, .f32⟩
  | 127 => ⟨S_, .i32⟩
  | _ => ⟨S8x2304x6272, .bf16⟩

abbrev hbmTy0_1 (i : Nat) : BufTy := match i % 128 with
  | 0 => ⟨S_, .i32⟩
  | 1 => ⟨S2x8x2304x4x512, .f32⟩
  | 2 => ⟨S2x8x2304x2048, .f32⟩
  | 3 => ⟨S2x8x2304x2048, .bf16⟩
  | 4 => ⟨S1x8x2048x2048, .bf16⟩
  | 5 => ⟨S8x2048x2048, .bf16⟩
  | 6 => ⟨S1x8x256x2048, .bf16⟩
  | 7 => ⟨S8x256x2048, .bf16⟩
  | 8 => ⟨S8x2304x2048, .bf16⟩
  | 9 => ⟨S1x8x2048x2048, .bf16⟩
  | 10 => ⟨S8x2048x2048, .bf16⟩
  | 11 => ⟨S8x2048x2048, .bf16⟩
  | 12 => ⟨S1x8x256x2048, .bf16⟩
  | 13 => ⟨S8x256x2048, .bf16⟩
  | 14 => ⟨S8x256x2048, .bf16⟩
  | 15 => ⟨S8x2304x2048, .bf16⟩
  | _ => ⟨S8x2304x6272, .bf16⟩

abbrev hbmTy (i : Nat) : BufTy := match i / 128 with
  | 0 => hbmTy0_0 i
  | 1 => hbmTy0_1 i
  | _ => ⟨S8x2304x6272, .bf16⟩

abbrev bufTy : (tb : Table) → Fin (tcTables nBuf tb) → BufTy
  | .hbm, ⟨i, _⟩ => hbmTy i
  | _, _ => ⟨S8x2304x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_cst_0 : Ref sig .tc := ⟨.hbm, 68, rfl⟩
abbrev main_v65 : Ref sig .tc := ⟨.hbm, 69, rfl⟩
abbrev main_cst_1 : Ref sig .tc := ⟨.hbm, 70, rfl⟩
abbrev main_v66 : Ref sig .tc := ⟨.hbm, 71, rfl⟩
abbrev main_c : Ref sig .tc := ⟨.hbm, 72, rfl⟩
abbrev main_v67_0 : Ref sig .tc := ⟨.hbm, 73, rfl⟩
abbrev main_v67_1 : Ref sig .tc := ⟨.hbm, 74, rfl⟩
abbrev main_v67_2 : Ref sig .tc := ⟨.hbm, 75, rfl⟩
abbrev main_v67_3 : Ref sig .tc := ⟨.hbm, 76, rfl⟩
abbrev main_v67_4 : Ref sig .tc := ⟨.hbm, 77, rfl⟩
abbrev main_v67_5 : Ref sig .tc := ⟨.hbm, 78, rfl⟩
abbrev main_v67_6 : Ref sig .tc := ⟨.hbm, 79, rfl⟩
abbrev main_while0c_c_8 : Ref sig .tc := ⟨.hbm, 80, rfl⟩
abbrev main_while0c_v83 : Ref sig .tc := ⟨.hbm, 81, rfl⟩
abbrev main_while0b_call0_c : Ref sig .tc := ⟨.hbm, 82, rfl⟩
abbrev main_while0b_call0_c_0 : Ref sig .tc := ⟨.hbm, 83, rfl⟩
abbrev main_while0b_call0_c_1 : Ref sig .tc := ⟨.hbm, 84, rfl⟩
abbrev main_while0b_call0_c_2 : Ref sig .tc := ⟨.hbm, 85, rfl⟩
abbrev main_while0b_call0_v0 : Ref sig .tc := ⟨.hbm, 86, rfl⟩
abbrev main_while0b_v83 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v84 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v85 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v86 : Ref sig .tc := ⟨.hbm, 105, rfl⟩
abbrev main_while0b_v87 : Ref sig .tc := ⟨.hbm, 106, rfl⟩
abbrev main_while0b_v88 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_cst_8 : Ref sig .tc := ⟨.hbm, 119, rfl⟩
abbrev main_while0b_v100 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_v101 : Ref sig .tc := ⟨.hbm, 126, rfl⟩
abbrev main_while0b_c_9 : Ref sig .tc := ⟨.hbm, 127, rfl⟩
abbrev main_while0b_v102 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S16x2304x1024 : Shape := ⟨3, ![16, 2304, 1024]⟩
abbrev S4x16x2048x1024 : Shape := ⟨4, ![4, 16, 2048, 1024]⟩
abbrev S1x1152x1024 : Shape := ⟨3, ![1, 1152, 1024]⟩
abbrev S1x1x2048x512 : Shape := ⟨4, ![1, 1, 2048, 512]⟩
abbrev S1x1152x512 : Shape := ⟨3, ![1, 1152, 512]⟩
abbrev S1152x1024 : Shape := ⟨2, ![1152, 1024]⟩
abbrev S1152x2048 : Shape := ⟨2, ![1152, 2048]⟩
abbrev S2048x512 : Shape := ⟨2, ![2048, 512]⟩
abbrev S1152x512 : Shape := ⟨2, ![1152, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x2304x1024, .i32⟩
  | .hbm, ⟨1, _⟩ => ⟨S4x16x2048x1024, .f32⟩
  | .hbm, ⟨2, _⟩ => ⟨S4x16x2048x1024, .f32⟩
  | .hbm, ⟨3, _⟩ => ⟨S16x2304x1024, .bf16⟩
  | .local _ .vmem, ⟨0, _⟩ => ⟨S1x1152x1024, .i32⟩
  | .local _ .vmem, ⟨1, _⟩ => ⟨S1x1152x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1152x512, .bf16⟩
  | .local _ .vmem, ⟨7, _⟩ => ⟨S1x1152x512, .bf16⟩
  | _, _ => ⟨S16x2304x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1152x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1152x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S16x2304x1024 : Shape := ⟨3, ![16, 2304, 1024]⟩
abbrev S4x16x2048x1024 : Shape := ⟨4, ![4, 16, 2048, 1024]⟩
abbrev S16x2304x1024x2 : Shape := ⟨4, ![16, 2304, 1024, 2]⟩
abbrev S16x2304x1024x1 : Shape := ⟨4, ![16, 2304, 1024, 1]⟩
abbrev S16x2304x2048 : Shape := ⟨3, ![16, 2304, 2048]⟩
abbrev S1x16x2048x1024 : Shape := ⟨4, ![1, 16, 2048, 1024]⟩
abbrev S16x2048x1024 : Shape := ⟨3, ![16, 2048, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16x2304x1024, .i32⟩
  | .hbm, ⟨1, _⟩ => ⟨S4x16x2048x1024, .f32⟩
  | .hbm, ⟨2, _⟩ => ⟨S4x16x2048x1024, .f32⟩
  | .hbm, ⟨3, _⟩ => ⟨S16x2304x1024x2, .bf16⟩
  | .hbm, ⟨4, _⟩ => ⟨S16x2304x1024x1, .bf16⟩
  | .hbm, ⟨5, _⟩ => ⟨S16x2304x1024, .bf16⟩
  | .hbm, ⟨6, _⟩ => ⟨S16x2304x1024x1, .bf16⟩
  | .hbm, ⟨7, _⟩ => ⟨S16x2304x1024, .bf16⟩
  | .hbm, ⟨8, _⟩ => ⟨S16x2304x2048, .bf16⟩
  | .hbm, ⟨9, _⟩ => ⟨S16x2304x2048, .f32⟩
  | .hbm, ⟨10, _⟩ => ⟨S1x16x2048x1024, .f32⟩
  | .hbm, ⟨11, _⟩ => ⟨S16x2048x1024, .f32⟩
  | .hbm, ⟨12, _⟩ => ⟨S16x2304x1024, .f32⟩
  | .hbm, ⟨13, _⟩ => ⟨S16x2304x1024, .f32⟩
  | .hbm, ⟨14, _⟩ => ⟨S16x2304x1024, .f32⟩
  | .hbm, ⟨15, _⟩ => ⟨S_, .f32⟩
  | .hbm, ⟨16, _⟩ => ⟨S16x2304x1024, .f32⟩
  | .hbm, ⟨17, _⟩ => ⟨S16x2304x1024, .f32⟩
  | .hbm, ⟨18, _⟩ => ⟨S_, .f32⟩
  | .hbm, ⟨19, _⟩ => ⟨S16x2304x1024, .f32⟩
  | .hbm, ⟨20, _⟩ => ⟨S16x2304x1024, .f32⟩
  | .hbm, ⟨21, _⟩ => ⟨S16x2304x1024, .f32⟩
  | .hbm, ⟨22, _⟩ => ⟨S1x16x2048x1024, .f32⟩
  | .hbm, ⟨23, _⟩ => ⟨S16x2048x1024, .f32⟩
  | .hbm, ⟨24, _⟩ => ⟨S16x2304x1024, .f32⟩
  | .hbm, ⟨25, _⟩ => ⟨S16x2304x1024, .f32⟩
  | .hbm, ⟨26, _⟩ => ⟨S16x2304x1024, .bf16⟩
  | _, _ => ⟨S16x2304x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel3.lean ====
abbrev S16x2304x1024 : Shape := ⟨3, ![16, 2304, 1024]⟩
abbrev S4x16x1024x2048 : Shape := ⟨4, ![4, 16, 1024, 2048]⟩
abbrev S16x2304x1 : Shape := ⟨3, ![16, 2304, 1]⟩
abbrev S16x2304x2048 : Shape := ⟨3, ![16, 2304, 2048]⟩
abbrev S1x1152x1024 : Shape := ⟨3, ![1, 1152, 1024]⟩
abbrev S1x1x1024x2048 : Shape := ⟨4, ![1, 1, 1024, 2048]⟩
abbrev S1x1152x1 : Shape := ⟨3, ![1, 1152, 1]⟩
abbrev S1x1152x2048 : Shape := ⟨3, ![1, 1152, 2048]⟩
abbrev S1152x1024 : Shape := ⟨2, ![1152, 1024]⟩
abbrev S1024x2048 : Shape := ⟨2, ![1024, 2048]⟩
abbrev S1152x2048 : Shape := ⟨2, ![1152, 2048]⟩
abbrev S1152x1 : Shape := ⟨2, ![1152, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S16x2304x1, .f32⟩
  | .hbm, ⟨3, _⟩ => ⟨S16x2304x2048, .bf16⟩
  | .local _ .vmem, ⟨0, _⟩ => ⟨S1x1152x1024, .bf16⟩
  | .local _ .vmem, ⟨1, _⟩ => ⟨S1x1152x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1152x1, .f32⟩
  | .local _ .vmem, ⟨5, _⟩ => ⟨S1x1152x1, .f32⟩
  | .local _ .vmem, ⟨6, _⟩ => ⟨S1x1152x2048, .bf16⟩
  | .local _ .vmem, ⟨7, _⟩ => ⟨S1x1152x2048, .bf16⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1152x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1152x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S16x2304x1024 : Shape := ⟨3, ![16, 2304, 1024]⟩
abbrev S4x16x1024x2048 : Shape := ⟨4, ![4, 16, 1024, 2048]⟩
abbrev S16x2304x1 : Shape := ⟨3, ![16, 2304, 1]⟩
abbrev S1x16x1024x2048 : Shape := ⟨4, ![1, 16, 1024, 2048]⟩
abbrev S16x1024x2048 : Shape := ⟨3, ![16, 1024, 2048]⟩
abbrev S16x2304x2048 : Shape := ⟨3, ![16, 2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S4x16x1024x2048, .f32⟩
  | .hbm, ⟨2, _⟩ => ⟨S16x2304x1, .f32⟩
  | .hbm, ⟨3, _⟩ => ⟨S16x2304x1024, .f32⟩
  | .hbm, ⟨4, _⟩ => ⟨S1x16x1024x2048, .f32⟩
  | .hbm, ⟨5, _⟩ => ⟨S16x1024x2048, .f32⟩
  | .hbm, ⟨6, _⟩ => ⟨S16x2304x2048, .f32⟩
  | .hbm, ⟨7, _⟩ => ⟨S16x2304x2048, .f32⟩
  | .hbm, ⟨8, _⟩ => ⟨S16x2304x2048, .f32⟩
  | .hbm, ⟨9, _⟩ => ⟨S16x2304x2048, .bf16⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S18432x2048 : Shape := ⟨2, ![18432, 2048]⟩
abbrev S2048 : Shape := ⟨1, ![2048]⟩
abbrev S16x6x2048 : Shape := ⟨3, ![16, 6, 2048]⟩
abbrev S2048x6272 : Shape := ⟨2, ![2048, 6272]⟩
abbrev S1x2048 : Shape := ⟨2, ![1, 2048]⟩
abbrev S18432x6272 : Shape := ⟨2, ![18432, 6272]⟩
abbrev S1152x2048 : Shape := ⟨2, ![1152, 2048]⟩
abbrev S1x6x2048 : Shape := ⟨3, ![1, 6, 2048]⟩
abbrev S2048x896 : Shape := ⟨2, ![2048, 896]⟩
abbrev S1152x896 : Shape := ⟨2, ![1152, 896]⟩
abbrev S288x2048 : Shape := ⟨2, ![288, 2048]⟩
abbrev S288 : Shape := ⟨1, ![288]⟩
abbrev S288x1 : Shape := ⟨2, ![288, 1]⟩
abbrev S1x1x2048 : Shape := ⟨3, ![1, 1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S16x6x2048, .f32⟩
  | .hbm, ⟨3, _⟩ => ⟨S2048x6272, .f32⟩
  | .hbm, ⟨4, _⟩ => ⟨S2048x6272, .bf16⟩
  | .hbm, ⟨5, _⟩ => ⟨S1x2048, .f32⟩
  | .hbm, ⟨6, _⟩ => ⟨S18432x6272, .bf16⟩
  | .local _ .vmem, ⟨0, _⟩ => ⟨S1152x2048, .f32⟩
  | .local _ .vmem, ⟨1, _⟩ => ⟨S1152x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x896, .bf16⟩
  | .local _ .vmem, ⟨7, _⟩ => ⟨S2048x896, .bf16⟩
  | .local _ .vmem, ⟨8, _⟩ => ⟨S1152x896, .bf16⟩
  | .local _ .vmem, ⟨9, _⟩ => ⟨S1152x896, .bf16⟩
  | .local _ .vmem, ⟨10, _⟩ => ⟨S1152x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1152x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S18432x2048 : Shape := ⟨2, ![18432, 2048]⟩
abbrev S2048 : Shape := ⟨1, ![2048]⟩
abbrev S16x6x2048 : Shape := ⟨3, ![16, 6, 2048]⟩
abbrev S2048x6272 : Shape := ⟨2, ![2048, 6272]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x256x2048 : Shape := ⟨3, ![8, 256, 2048]⟩
abbrev S8x256 : Shape := ⟨2, ![8, 256]⟩
abbrev S8x256x1 : Shape := ⟨3, ![8, 256, 1]⟩
abbrev S8x2304x6272 : Shape := ⟨3, ![8, 2304, 6272]⟩
abbrev S18432x6272 : Shape := ⟨2, ![18432, 6272]⟩

abbrev nBuf : Space → Nat
  | .hbm => 69
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S16x6x2048, .f32⟩
  | .hbm, ⟨3, _⟩ => ⟨S2048x6272, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S8x2048, .f32⟩
  | .hbm, ⟨8, _⟩ => ⟨S8x1x2048, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x256x2048, .f32⟩
  | .hbm, ⟨36, _⟩ => ⟨S1x1x2048, .f32⟩
  | .hbm, ⟨37, _⟩ => ⟨S2048, .f32⟩
  | .hbm, ⟨38, _⟩ => ⟨S1x1x2048, .f32⟩
  | .hbm, ⟨39, _⟩ => ⟨S2048, .f32⟩
  | .hbm, ⟨40, _⟩ => ⟨S8x256x2048, .f32⟩
  | .hbm, ⟨41, _⟩ => ⟨S_, .f32⟩
  | .hbm, ⟨42, _⟩ => ⟨S8x256, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S_, .f32⟩
  | .hbm, ⟨48, _⟩ => ⟨S8x256x1, .f32⟩
  | .hbm, ⟨49, _⟩ => ⟨S8x256x1, .f32⟩
  | .hbm, ⟨50, _⟩ => ⟨S8x256x1, .f32⟩
  | .hbm, ⟨51, _⟩ => ⟨S8x256x2048, .f32⟩
  | .hbm, ⟨52, _⟩ => ⟨S8x256x2048, .f32⟩
  | .hbm, ⟨53, _⟩ => ⟨S1x1x2048, .f32⟩
  | .hbm, ⟨54, _⟩ => ⟨S8x256x2048, .f32⟩
  | .hbm, ⟨55, _⟩ => ⟨S8x256x2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S1x1x2048, .f32⟩
  | .hbm, ⟨60, _⟩ => ⟨S8x256x2048, .f32⟩
  | .hbm, ⟨61, _⟩ => ⟨S8x256x2048, .f32⟩
  | .hbm, ⟨62, _⟩ => ⟨S1x1x2048, .f32⟩
  | .hbm, ⟨63, _⟩ => ⟨S8x256x2048, .f32⟩
  | .hbm, ⟨64, _⟩ => ⟨S8x256x2048, .f32⟩
  | .hbm, ⟨65, _⟩ => ⟨S8x2304x2048, .f32⟩
  | .hbm, ⟨66, _⟩ => ⟨S8x2304x6272, .f32⟩
  | .hbm, ⟨67, _⟩ => ⟨S18432x6272, .f32⟩
  | .hbm, ⟨68, _⟩ => ⟨S18432x6272, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel5.lean ====
abbrev S18432x2048 : Shape := ⟨2, ![18432, 2048]⟩
abbrev S2048x2048 : Shape := ⟨2, ![2048, 2048]⟩
abbrev S2048 : Shape := ⟨1, ![2048]⟩
abbrev S16x6x2048 : Shape := ⟨3, ![16, 6, 2048]⟩
abbrev S1x2048 : Shape := ⟨2, ![1, 2048]⟩
abbrev S1152x2048 : Shape := ⟨2, ![1152, 2048]⟩
abbrev S2048x1024 : Shape := ⟨2, ![2048, 1024]⟩
abbrev S1x1024 : Shape := ⟨2, ![1, 1024]⟩
abbrev S1152x1024 : Shape := ⟨2, ![1152, 1024]⟩
abbrev S1x6x1024 : Shape := ⟨3, ![1, 6, 1024]⟩
abbrev S1152x1 : Shape := ⟨2, ![1152, 1]⟩
abbrev S1x1x1024 : Shape := ⟨3, ![1, 1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S2048, .f32⟩
  | .hbm, ⟨3, _⟩ => ⟨S18432x2048, .f32⟩
  | .hbm, ⟨4, _⟩ => ⟨S16x6x2048, .f32⟩
  | .hbm, ⟨5, _⟩ => ⟨S2048x2048, .bf16⟩
  | .hbm, ⟨6, _⟩ => ⟨S1x2048, .f32⟩
  | .hbm, ⟨7, _⟩ => ⟨S18432x2048, .f32⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1152x1024, .f32⟩
  | .local _ .vmem, ⟨7, _⟩ => ⟨S1152x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x6x1024, .f32⟩
  | .local _ .vmem, ⟨11, _⟩ => ⟨S1x6x1024, .f32⟩
  | .local _ .vmem, ⟨12, _⟩ => ⟨S1152x1024, .f32⟩
  | .local _ .vmem, ⟨13, _⟩ => ⟨S1152x1024, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1152x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S18432x2048 : Shape := ⟨2, ![18432, 2048]⟩
abbrev S2048x2048 : Shape := ⟨2, ![2048, 2048]⟩
abbrev S2048 : Shape := ⟨1, ![2048]⟩
abbrev S16x6x2048 : Shape := ⟨3, ![16, 6, 2048]⟩
abbrev S1x2048 : Shape := ⟨2, ![1, 2048]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S8x2048 : Shape := ⟨2, ![8, 2048]⟩
abbrev S8x256x2048 : Shape := ⟨3, ![8, 256, 2048]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S2048, .f32⟩
  | .hbm, ⟨3, _⟩ => ⟨S18432x2048, .f32⟩
  | .hbm, ⟨4, _⟩ => ⟨S16x6x2048, .f32⟩
  | .hbm, ⟨5, _⟩ => ⟨S18432x2048, .f32⟩
  | .hbm, ⟨6, _⟩ => ⟨S18432x2048, .f32⟩
  | .hbm, ⟨7, _⟩ => ⟨S1x2048, .f32⟩
  | .hbm, ⟨8, _⟩ => ⟨S18432x2048, .f32⟩
  | .hbm, ⟨9, _⟩ => ⟨S18432x2048, .f32⟩
  | .hbm, ⟨10, _⟩ => ⟨S8x2304x2048, .f32⟩
  | .hbm, ⟨11, _⟩ => ⟨S8x2304x2048, .f32⟩
  | .hbm, ⟨12, _⟩ => ⟨S8x2048x2048, .f32⟩
  | .hbm, ⟨13, _⟩ => ⟨S8x1x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x256x2048, .f32⟩
  | .hbm, ⟨21, _⟩ => ⟨S1x1x2048, .f32⟩
  | .hbm, ⟨22, _⟩ => ⟨S2048, .f32⟩
  | .hbm, ⟨23, _⟩ => ⟨S8x256x2048, .f32⟩
  | .hbm, ⟨24, _⟩ => ⟨S1x1x2048, .f32⟩
  | .hbm, ⟨25, _⟩ => ⟨S8x256x2048, .f32⟩
  | .hbm, ⟨26, _⟩ => ⟨S8x256x2048, .f32⟩
  | .hbm, ⟨27, _⟩ => ⟨S8x256x2048, .f32⟩
  | .hbm, ⟨28, _⟩ => ⟨S8x2304x2048, .f32⟩
  | .hbm, ⟨29, _⟩ => ⟨S18432x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel6.lean ====
abbrev S18432x2048 : Shape := ⟨2, ![18432, 2048]⟩
abbrev S2048 : Shape := ⟨1, ![2048]⟩
abbrev S16x6x2048 : Shape := ⟨3, ![16, 6, 2048]⟩
abbrev S2048x6144 : Shape := ⟨2, ![2048, 6144]⟩
abbrev S6144 : Shape := ⟨1, ![6144]⟩
abbrev S3x6144 : Shape := ⟨2, ![3, 6144]⟩
abbrev S1x6144 : Shape := ⟨2, ![1, 6144]⟩
abbrev S1x2048 : Shape := ⟨2, ![1, 2048]⟩
abbrev S1152x2048 : Shape := ⟨2, ![1152, 2048]⟩
abbrev S1x6x2048 : Shape := ⟨3, ![1, 6, 2048]⟩
abbrev S2048x512 : Shape := ⟨2, ![2048, 512]⟩
abbrev S1x512 : Shape := ⟨2, ![1, 512]⟩
abbrev S3x512 : Shape := ⟨2, ![3, 512]⟩
abbrev S1152x512 : Shape := ⟨2, ![1152, 512]⟩
abbrev S288x2048 : Shape := ⟨2, ![288, 2048]⟩
abbrev S288 : Shape := ⟨1, ![288]⟩
abbrev S288x1 : Shape := ⟨2, ![288, 1]⟩
abbrev S1x1x2048 : Shape := ⟨3, ![1, 1, 2048]⟩
abbrev S1152x1 : Shape := ⟨2, ![1152, 1]⟩

abbrev nBuf : Space → Nat
  | .hbm => 13
  | .vmem => 35
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S16x6x2048, .f32⟩
  | .hbm, ⟨3, _⟩ => ⟨S2048x6144, .f32⟩
  | .hbm, ⟨4, _⟩ => ⟨S6144, .f32⟩
  | .hbm, ⟨5, _⟩ => ⟨S3x6144, .f32⟩
  | .hbm, ⟨6, _⟩ => ⟨S6144, .f32⟩
  | .hbm, ⟨7, _⟩ => ⟨S2048x6144, .bf16⟩
  | .hbm, ⟨8, _⟩ => ⟨S1x6144, .f32⟩
  | .hbm, ⟨9, _⟩ => ⟨S1x6144, .f32⟩
  | .hbm, ⟨10, _⟩ => ⟨S1x2048, .f32⟩
  | .hbm, ⟨11, _⟩ => ⟨S18432x2048, .bf16⟩
  | .hbm, ⟨12, _⟩ => ⟨S18432x2048, .bf16⟩
  | .local _ .vmem, ⟨0, _⟩ => ⟨S1152x2048, .f32⟩
  | .local _ .vmem, ⟨1, _⟩ => ⟨S1152x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1152x512, .bf16⟩
  | .local _ .vmem, ⟨31, _⟩ => ⟨S1152x512, .bf16⟩
  | .local _ .vmem, ⟨32, _⟩ => ⟨S1152x512, .bf16⟩
  | .local _ .vmem, ⟨33, _⟩ => ⟨S1152x512, .bf16⟩
  | .local _ .vmem, ⟨34, _⟩ => ⟨S1152x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1152x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1152x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference6Ideal.lean ====
abbrev S18432x2048 : Shape := ⟨2, ![18432, 2048]⟩
abbrev S2048 : Shape := ⟨1, ![2048]⟩
abbrev S16x6x2048 : Shape := ⟨3, ![16, 6, 2048]⟩
abbrev S2048x6144 : Shape := ⟨2, ![2048, 6144]⟩
abbrev S6144 : Shape := ⟨1, ![6144]⟩
abbrev S3x6144 : Shape := ⟨2, ![3, 6144]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x256x2048 : Shape := ⟨3, ![8, 256, 2048]⟩
abbrev S8x256 : Shape := ⟨2, ![8, 256]⟩
abbrev S8x256x1 : Shape := ⟨3, ![8, 256, 1]⟩
abbrev S8x2304x6144 : Shape := ⟨3, ![8, 2304, 6144]⟩
abbrev S1x1x6144 : Shape := ⟨3, ![1, 1, 6144]⟩
abbrev S8x2048x6144 : Shape := ⟨3, ![8, 2048, 6144]⟩
abbrev S8x32x64x6144 : Shape := ⟨4, ![8, 32, 64, 6144]⟩
abbrev S8x32x1x6144 : Shape := ⟨4, ![8, 32, 1, 6144]⟩
abbrev S8x32x63x6144 : Shape := ⟨4, ![8, 32, 63, 6144]⟩
abbrev S1x6144 : Shape := ⟨2, ![1, 6144]⟩
abbrev S1x1x1x6144 : Shape := ⟨4, ![1, 1, 1, 6144]⟩
abbrev S8x256x6144 : Shape := ⟨3, ![8, 256, 6144]⟩
abbrev S8x1x6144 : Shape := ⟨3, ![8, 1, 6144]⟩
abbrev S8x255x6144 : Shape := ⟨3, ![8, 255, 6144]⟩
abbrev S18432x6144 : Shape := ⟨2, ![18432, 6144]⟩

abbrev nBuf : Space → Nat
  | .hbm => 139
  | .vmem => 0
  | .smem => 0
  | _ => 0

abbrev hbmTy0_0 (i : Nat) : BufTy := match i % 128 with
  | 0 => ⟨S18432x2048, .f32⟩
  | 1 => ⟨S2048, .f32⟩
  | 2 => ⟨S16x6x2048, .f32⟩
  | 3 => ⟨S2048x6144, .f32⟩
  | 4 => ⟨S6144, .f32⟩
  | 5 => ⟨S3x6144, .f32⟩
  | 6 => ⟨S6144, .f32⟩
  | 7 => ⟨S8x2304x2048, .f32⟩
  | 8 => ⟨S8x2048x2048, .f32⟩
  | 9 => ⟨S8x1x2048, .f32⟩
  | 10 => ⟨S8x2048, .f32⟩
  | 11 => ⟨S8x1x2048, .f32⟩
  | 12 => ⟨S8x1x2048, .f32⟩
  | 13 => ⟨S8x2048, .f32⟩
  | 14 => ⟨S8x1x2048, .f32⟩
  | 15 => ⟨S8x2048x2048, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x2048, .f32⟩
  | 27 => ⟨S8x2048x2048, .f32⟩
  | 28 => ⟨S1x1x2048, .f32⟩
  | 29 => ⟨S8x2048x2048, .f32⟩
  | 30 => ⟨S8x2048x2048, .f32⟩
  | 31 => ⟨S_, .f32⟩
  | 32 => ⟨S8x1x2048, .f32⟩
  | 33 => ⟨S8x1x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x256x2048, .f32⟩
  | 39 => ⟨S1x1x2048, .f32⟩
  | 40 => ⟨S2048, .f32⟩
  | 41 => ⟨S1x1x2048, .f32⟩
  | 42 => ⟨S2048, .f32⟩
  | 43 => ⟨S8x256x2048, .f32⟩
  | 44 => ⟨S_, .f32⟩
  | 45 => ⟨S8x256, .f32⟩
  | 46 => ⟨S8x256x1, .f32⟩
  | 47 => ⟨S_, .f32⟩
  | 48 => ⟨S8x256x1, .f32⟩
  | 49 => ⟨S8x256x1, .f32⟩
  | 50 => ⟨S_, .f32⟩
  | 51 => ⟨S8x256x1, .f32⟩
  | 52 => ⟨S8x256x1, .f32⟩
  | 53 => ⟨S8x256x1, .f32⟩
  | 54 => ⟨S8x256x2048, .f32⟩
  | 55 => ⟨S8x256x2048, .f32⟩
  | 56 => ⟨S1x1x2048, .f32⟩
  | 57 => ⟨S8x256x2048, .f32⟩
  | 58 => ⟨S8x256x2048, .f32⟩
  | 59 => ⟨S_, .f32⟩
  | 60 => ⟨S2048, .f32⟩
  | 61 => ⟨S2048, .f32⟩
  | 62 => ⟨S1x1x2048, .f32⟩
  | 63 => ⟨S8x256x2048, .f32⟩
  | 64 => ⟨S8x256x2048, .f32⟩
  | 65 => ⟨S1x1x2048, .f32⟩
  | 66 => ⟨S8x256x2048, .f32⟩
  | 67 => ⟨S8x256x2048, .f32⟩
  | 68 => ⟨S8x2304x2048, .f32⟩
  | 69 => ⟨S8x2304x6144, .f32⟩
  | 70 => ⟨S1x1x6144, .f32⟩
  | 71 => ⟨S8x2304x6144, .f32⟩
  | 72 => ⟨S8x2304x6144, .f32⟩
  | 73 => ⟨S8x2048x6144, .f32⟩
  | 74 => ⟨S8x32x64x6144, .f32⟩
  | 75 => ⟨S8x32x1x6144, .f32⟩
  | 76 => ⟨S_, .f32⟩
  | 77 => ⟨S8x32x1x6144, .f32⟩
  | 78 => ⟨S8x32x63x6144, .f32⟩
  | 79 => ⟨S8x32x64x6144, .f32⟩
  | 80 => ⟨S8x32x63x6144, .f32⟩
  | 81 => ⟨S8x32x64x6144, .f32⟩
  | 82 => ⟨S1x6144, .f32⟩
  | 83 => ⟨S6144, .f32⟩
  | 84 => ⟨S1x1x1x6144, .f32⟩
  | 85 => ⟨S8x32x64x6144, .f32⟩
  | 86 => ⟨S8x32x64x6144, .f32⟩
  | 87 => ⟨S1x6144, .f32⟩
  | 88 => ⟨S6144, .f32⟩
  | 89 => ⟨S1x1x1x6144, .f32⟩
  | 90 => ⟨S8x32x64x6144, .f32⟩
  | 91 => ⟨S8x32x64x6144, .f32⟩
  | 92 => ⟨S8x32x64x6144, .f32⟩
  | 93 => ⟨S1x6144, .f32⟩
  | 94 => ⟨S6144, .f32⟩
  | 95 => ⟨S1x1x1x6144, .f32⟩
  | 96 => ⟨S8x32x64x6144, .f32⟩
  | 97 => ⟨S8x32x64x6144, .f32⟩
  | 98 => ⟨S8x32x64x6144, .f32⟩
  | 99 => ⟨S1x1x1x6144, .f32⟩
  | 100 => ⟨S8x32x64x6144, .f32⟩
  | 101 => ⟨S8x32x64x6144, .f32⟩
  | 102 => ⟨S8x2048x6144, .f32⟩
  | 103 => ⟨S8x256x6144, .f32⟩
  | 104 => ⟨S8x1x6144, .f32⟩
  | 105 => ⟨S_, .f32⟩
  | 106 => ⟨S8x1x6144, .f32⟩
  | 107 => ⟨S8x255x6144, .f32⟩
  | 108 => ⟨S8x256x6144, .f32⟩
  | 109 => ⟨S8x255x6144, .f32⟩
  | 110 => ⟨S8x256x6144, .f32⟩
  | 111 => ⟨S1x6144, .f32⟩
  | 112 => ⟨S6144, .f32⟩
  | 113 => ⟨S1x1x6144, .f32⟩
  | 114 => ⟨S8x256x6144, .f32⟩
  | 115 => ⟨S8x256x6144, .f32⟩
  | 116 => ⟨S1x6144, .f32⟩
  | 117 => ⟨S6144, .f32⟩
  | 118 => ⟨S1x1x6144, .f32⟩
  | 119 => ⟨S8x256x6144, .f32⟩
  | 120 => ⟨S8x256x6144, .f32⟩
  | 121 => ⟨S8x256x6144, .f32⟩
  | 122 => ⟨S1x6144, .f32⟩
  | 123 => ⟨S6144, .f32⟩
  | 124 => ⟨S1x1x6144, .f32⟩
  | 125 => ⟨S8x256x6144, .f32⟩
  | 126 => ⟨S8x256x6144, .f32⟩
  | 127 => ⟨S8x256x6144, .f32⟩
  | _ => ⟨S18432x2048, .f32⟩

abbrev hbmTy0_1 (i : Nat) : BufTy := match i % 128 with
  | 0 => ⟨S1x1x6144, .f32⟩
  | 1 => ⟨S8x256x6144, .f32⟩
  | 2 => ⟨S8x256x6144, .f32⟩
  | 3 => ⟨S8x2304x6144, .f32⟩
  | 4 => ⟨S18432x6144, .f32⟩
  | 5 => ⟨S18432x2048, .f32⟩
  | 6 => ⟨S18432x2048, .bf16⟩
  | 7 => ⟨S18432x2048, .f32⟩
  | 8 => ⟨S18432x2048, .f32⟩
  | 9 => ⟨S18432x2048, .f32⟩
  | 10 => ⟨S18432x2048, .bf16⟩
  | _ => ⟨S18432x2048, .f32⟩

abbrev hbmTy (i : Nat) : BufTy := match i / 128 with
  | 0 => hbmTy0_0 i
  | 1 => hbmTy0_1 i
  | _ => ⟨S18432x2048, .f32⟩

abbrev bufTy : (tb : Table) → Fin (tcTables nBuf tb) → BufTy
  | .hbm, ⟨i, _⟩ => hbmTy i
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩

abbrev nD : Nat := 1
abbrev τ : Topo := Topo.v7x

variable {F : FTy → Type} [FloatOps F]
-- ==== Proof.Decay.lean ====
/- The real arithmetic of the gated scan: nothing here mentions a program.

   `G` is the running sum of the log-decays inside a chunk of 256 tokens, from the chunk's first token (forward) or
   from its last one (backward). A level of half-length `s` pairs a token of the second half of a block of `2 s` tokens
   with one of the first half through the decay to a token between them. -/
module

public import Mathlib.Analysis.SpecialFunctions.Pow.Real
public import Mathlib.Data.EReal.Operations
public import Mathlib.Algebra.BigOperators.Intervals
public import Mathlib.Algebra.BigOperators.Fin

@[expose] public section

noncomputable section

namespace Cert.Proof

open Finset

/-- A finite sum of real numbers read as extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Two decays through a midpoint make the whole decay. -/
theorem exp_mid {x y m : ℝ} (h1 : x ≤ m) (h2 : m ≤ y) : Real.exp (-|x - m|) * Real.exp (-|y - m|) = Real.exp (x - y) := by
  rw [← Real.exp_add, abs_of_nonpos (by linarith), abs_of_nonneg (by linarith)]
  congr 1; ring

/-- A row of a level: `X` in the first half of its block, `Y` in the second, times the decay to row `c` of the block. -/
def mlev (s c : ℕ) (X Y G : ℕ → Fin 256 → ℝ) (i : ℕ) (d : Fin 256) : ℝ :=
  (if i % (2 * s) < s then X i d else Y i d) * Real.exp (-|G i d - G (i / (2 * s) * (2 * s) + c) d|)

/-- The weight with which token `i` reads token `j`. -/
def wt (Q K G : ℕ → Fin 256 → ℝ) (i j : ℕ) : ℝ := ∑ d : Fin 256, Q i d * K j d * Real.exp (G i d - G j d)

/-- Running sums that fall with the row. -/
def Falls (G : ℕ → Fin 256 → ℝ) : Prop := ∀ i j d, i ≤ j → j < 256 → G j d ≤ G i d

/-- Running sums that rise with the row. -/
def Rises (G : ℕ → Fin 256 → ℝ) : Prop := ∀ i j d, i ≤ j → j < 256 → G i d ≤ G j d

/-- Forward: a second-half row against a first-half row of the same block. -/
theorem dot_falls {Q K G : ℕ → Fin 256 → ℝ} (hG : Falls G) {s i j : ℕ} (hi : i < 256) (hb : i / (2 * s) = j / (2 * s))
    (h1 : s ≤ i % (2 * s)) (h2 : j % (2 * s) < s) :
    ∑ d : Fin 256, mlev s (s - 1) K Q G i d * mlev s (s - 1) K Q G j d = wt Q K G i j := by
  refine Finset.sum_congr rfl fun d _ => ?_
  unfold mlev
  rw [if_neg (by omega), if_pos h2, ← hb]
  have e1 := Nat.div_add_mod i (2 * s)
  have e2 := Nat.div_add_mod j (2 * s)
  rw [← hb] at e2
  have e3 : i / (2 * s) * (2 * s) = 2 * s * (i / (2 * s)) := Nat.mul_comm _ _
  have a := hG (i / (2 * s) * (2 * s) + (s - 1)) i d (by omega) hi
  have b := hG j (i / (2 * s) * (2 * s) + (s - 1)) d (by omega) (by omega)
  rw [← exp_mid a b]; ring

/-- Backward: a first-half row against a second-half row of the same block. -/
theorem dot_rises {Q K G : ℕ → Fin 256 → ℝ} (hG : Rises G) {s i j : ℕ} (hj : j < 256) (hb : i / (2 * s) = j / (2 * s))
    (h1 : i % (2 * s) < s) (h2 : s ≤ j % (2 * s)) :
    ∑ d : Fin 256, mlev s s Q K G i d * mlev s s Q K G j d = wt Q K G i j := by
  refine Finset.sum_congr rfl fun d _ => ?_
  unfold mlev
  rw [if_pos h1, if_neg (by omega), ← hb]
  have e1 := Nat.div_add_mod i (2 * s)
  have e2 := Nat.div_add_mod j (2 * s)
  rw [← hb] at e2
  have e3 : i / (2 * s) * (2 * s) = 2 * s * (i / (2 * s)) := Nat.mul_comm _ _
  have a := hG i (i / (2 * s) * (2 * s) + s) d (by omega) (by omega)
  have b := hG (i / (2 * s) * (2 * s) + s) j d (by omega) hj
  rw [← exp_mid a b]; ring

/-- A token's weight on itself. -/
theorem wt_self (Q K G : ℕ → Fin 256 → ℝ) (i : ℕ) : ∑ d : Fin 256, Q i d * K i d = wt Q K G i i := by
  unfold wt; simp

/-! ## The recurrence and its chunks -/

/-- The state after `n` tokens at one pair of coordinates: `g` the log-decays, `k` and `v` the keys and values there. -/
def state (g k v : ℕ → ℝ) : ℕ → ℝ
  | 0 => 0
  | n + 1 => Real.exp (g n) * state g k v n + k n * v n

/-- The log-decays of tokens `n` to `n + p`, summed. -/
def run (g : ℕ → ℝ) (n p : ℕ) : ℝ := ∑ u ∈ range (p + 1), g (n + u)

theorem run_succ (g : ℕ → ℝ) (n p : ℕ) : run g n (p + 1) = run g n p + g (n + (p + 1)) := by
  unfold run; rw [Finset.sum_range_succ]

/-- The state `p + 1` tokens on: the decayed old state and the decayed contributions of the tokens in between. -/
theorem state_chunk (g k v : ℕ → ℝ) (n p : ℕ) :
    state g k v (n + p + 1) = Real.exp (run g n p) * state g k v n
      + ∑ j ∈ range (p + 1), Real.exp (run g n p - run g n j) * (k (n + j) * v (n + j)) := by
  induction p with
  | zero => simp [state, run]
  | succ p ih =>
    have hs : state g k v (n + (p + 1) + 1) = Real.exp (g (n + (p + 1))) * state g k v (n + p + 1) + k (n + (p + 1)) * v (n + (p + 1)) := rfl
    rw [hs, ih, Finset.sum_range_succ _ (p + 1), sub_self, Real.exp_zero, one_mul, mul_add, ← mul_assoc, ← Real.exp_add,
      run_succ, Finset.mul_sum, add_comm (g (n + (p + 1)))]
    rw [add_assoc]
    congr 2
    refine Finset.sum_congr rfl fun j _ => ?_
    rw [← mul_assoc, ← Real.exp_add]
    congr 2; ring

/-- The output of token `n`: the query against the state that already holds the token. -/
def outAt (q g k : Fin 256 → ℕ → ℝ) (v : ℕ → ℝ) (n : ℕ) : ℝ := ∑ d : Fin 256, q d n * state (g d) (k d) v (n + 1)

/-- The output of token `p` of the chunk that begins at token `n`, from the state at the chunk's beginning. -/
theorem outAt_chunk (q g k : Fin 256 → ℕ → ℝ) (v : ℕ → ℝ) (n p : ℕ) :
    outAt q g k v (n + p) = ∑ d : Fin 256, q d (n + p) * Real.exp (run (g d) n p) * state (g d) (k d) v n
      + ∑ j ∈ range (p + 1), (∑ d : Fin 256, q d (n + p) * k d (n + j) * Real.exp (run (g d) n p - run (g d) n j)) * v (n + j) := by
  unfold outAt
  have : ∀ d : Fin 256, q d (n + p) * state (g d) (k d) v (n + p + 1)
      = q d (n + p) * Real.exp (run (g d) n p) * state (g d) (k d) v n
        + ∑ j ∈ range (p + 1), (q d (n + p) * k d (n + j) * Real.exp (run (g d) n p - run (g d) n j)) * v (n + j) := fun d => by
    rw [state_chunk, mul_add, Finset.mul_sum, ← mul_assoc]
    congr 1
    exact Finset.sum_congr rfl fun j _ => by ring
  rw [Finset.sum_congr rfl fun d _ => this d, Finset.sum_add_distrib, Finset.sum_comm]
  congr 1
  exact Finset.sum_congr rfl fun j _ => by rw [Finset.sum_mul]

end Cert.Proof

end
-- ==== Proof.Levels.lean ====
/- The eight levels of each direction: what the rows of a level hold. -/
module

public import proofs.«01_k».proof.Proof.Gen.KernelIdeal.Skeleton
public import proofs.«01_k».proof.Proof.Decay
public import Idealize.ShloMosaic.Lib.Pointwise

@[expose] public section

set_option maxRecDepth 16384
noncomputable section

namespace Cert.Proof

open Idealize Idealize.ShloMosaic Cert.KernelIdeal Cert.KernelIdeal.Gen

/-- A tile's entries are the real numbers `X`. -/
def Reads {φ : FTy} (x : FVec Ideal S256x256 φ) (X : ℕ → Fin 256 → ℝ) : Prop :=
  ∀ i d : Fin 256, x (ix2 i d) = ((X i d : ℝ) : EReal)

/-- A tile of running sums in units of `log 2`. -/
def ReadsLog {φ : FTy} (x : FVec Ideal S256x256 φ) (G : ℕ → Fin 256 → ℝ) : Prop :=
  ∀ i d : Fin 256, x (ix2 i d) = ((G i d * (Real.log 2)⁻¹ : ℝ) : EReal)

/-- A power of two of a sum in units of `log 2` is the exponential of the sum. -/
theorem exp2_log (x : ℝ) : FloatOps.exp2 (F := Ideal) (φ := .f32) ((x * (Real.log 2)⁻¹ : ℝ) : EReal) = ((Real.exp x : ℝ) : EReal) := by
  show Ideal.exp2 _ = _
  rw [Ideal.exp2_coe, EReal.coe_eq_coe_iff]
  show (2 : ℝ) ^ (x * (Real.log 2)⁻¹) = _
  rw [Real.rpow_def_of_pos (by norm_num)]
  congr 1
  have : Real.log 2 ≠ 0 := (Real.log_pos (by norm_num)).ne'
  field_simp

/-- The decay between two rows of running sums, whichever is the larger. -/
theorem exp2_dist (x y : ℝ) :
    FloatOps.exp2 (F := Ideal) (φ := .f32) (0 - FloatOps.absf (F := Ideal) (φ := .f32) (((x * (Real.log 2)⁻¹ : ℝ) : EReal) - ((y * (Real.log 2)⁻¹ : ℝ) : EReal)))
      = ((Real.exp (-|x - y|) : ℝ) : EReal) := by
  have hc : (0 : ℝ) < (Real.log 2)⁻¹ := inv_pos.mpr (Real.log_pos (by norm_num))
  have : (0 : EReal) - FloatOps.absf (F := Ideal) (φ := .f32) (((x * (Real.log 2)⁻¹ : ℝ) : EReal) - ((y * (Real.log 2)⁻¹ : ℝ) : EReal))
      = ((-|x - y| * (Real.log 2)⁻¹ : ℝ) : EReal) := by
    rw [Ideal.absf_def, ← EReal.coe_sub, ← EReal.coe_neg, ← EReal.coe_strictMono.monotone.map_max, ← EReal.coe_zero, ← EReal.coe_sub]
    rw [EReal.coe_eq_coe_iff, zero_sub, neg_mul]
    congr 1
    rw [← sub_mul, ← neg_mul, ← max_mul_of_nonneg _ _ hc.le]
    rfl
  rw [this, exp2_log]

/-- The row number modulo a word, as the kernel computes it, compared with a word. -/
def rowHalf (w h : BitVec 32) (i : ℕ) : BitVec 1 :=
  IntOp.cmpi .sge
    (Scalar.select
      (IntOp.andi
        (IntOp.xori (IntOp.cmpi .slt (IntOp.remsi .vector (BitVec.ofNat 32 i) w) 0#32) (Scalar.cmpi .slt w 0#32))
        (IntOp.cmpi .ne (IntOp.remsi .vector (BitVec.ofNat 32 i) w) 0#32))
      (IntOp.addi (IntOp.remsi .vector (BitVec.ofNat 32 i) w) w)
      (IntOp.remsi .vector (BitVec.ofNat 32 i) w)) h

theorem half4 (i : Fin 256) (x y : EReal) : Scalar.select (rowHalf 8#32 4#32 i) x y = if (i : ℕ) % 8 < 4 then y else x := by
  have : ∀ i : Fin 256, rowHalf 8#32 4#32 i = if (i : ℕ) % 8 < 4 then 0#1 else 1#1 := by decide +kernel
  rw [this]; split_ifs <;> rfl

theorem half2 (i : Fin 256) (x y : EReal) : Scalar.select (rowHalf 4#32 2#32 i) x y = if (i : ℕ) % 4 < 2 then y else x := by
  have : ∀ i : Fin 256, rowHalf 4#32 2#32 i = if (i : ℕ) % 4 < 2 then 0#1 else 1#1 := by decide +kernel
  rw [this]; split_ifs <;> rfl

theorem half1 (i : Fin 256) (x y : EReal) : Scalar.select (rowHalf 2#32 1#32 i) x y = if (i : ℕ) % 2 < 1 then y else x := by
  have : ∀ i : Fin 256, rowHalf 2#32 1#32 i = if (i : ℕ) % 2 < 1 then 0#1 else 1#1 := by decide +kernel
  rw [this]; split_ifs <;> rfl

variable {b q k : FVec Ideal S256x256 .f32} {G Q K : ℕ → Fin 256 → ℝ}

/-! ## Forward -/

theorem fwd0 (hb : ReadsLog b G) (hq : Reads q Q) (hk : Reads k K) :
    Reads (k0_pay11 b q k) (mlev 128 127 K Q G) := fun i d => by
  pointwise [k0_pay11]
  simp only [hb _ _, exp2_dist, hq _ _, hk _ _]
  unfold mlev
  rw [show (i : ℕ) / (2 * 128) * (2 * 128) + 127 = 127 by omega, show (i : ℕ) % (2 * 128) = i by omega]
  split_ifs with h
  · rw [EReal.coe_mul]; rfl
  · rw [EReal.coe_mul, show 128 + ((i : ℕ) - 128) = i by omega]; rfl

theorem fwd1 (hb : ReadsLog b G) (hq : Reads q Q) (hk : Reads k K) :
    Reads (k0_pay12 b q k) (mlev 64 63 K Q G) := fun i d => by
  pointwise [k0_pay12]
  simp only [hb _ _, exp2_dist, hq _ _, hk _ _]
  unfold mlev
  split_ifs with h
  · first | rw [EReal.coe_mul] | omega
  · first | rw [EReal.coe_mul, show (i : ℕ) / 128 * 128 + (64 + (i % 128 - 64)) = i by omega] | omega

theorem fwd2 (hb : ReadsLog b G) (hq : Reads q Q) (hk : Reads k K) :
    Reads (k0_pay15 (k0_pay13 q k) (k0_pay14 b)) (mlev 32 31 K Q G) := fun i d => by
  pointwise [k0_pay15, k0_pay13, k0_pay14]
  simp only [hb _ _, exp2_dist, hq _ _, hk _ _]
  unfold mlev
  split_ifs with h
  · first | rw [EReal.coe_mul] | omega
  · first | rw [EReal.coe_mul, show (i : ℕ) / 64 * 64 + (32 + (i % 64 - 32)) = i by omega] | omega

theorem fwd3 (hb : ReadsLog b G) (hq : Reads q Q) (hk : Reads k K) :
    Reads (k0_pay16 b q k) (mlev 16 15 K Q G) := fun i d => by
  pointwise [k0_pay16]
  simp only [hb _ _, exp2_dist, hq _ _, hk _ _]
  unfold mlev
  split_ifs with h
  · first | rw [EReal.coe_mul] | omega
  · first | rw [EReal.coe_mul, show (i : ℕ) / 32 * 32 + (16 + (i % 32 - 16)) = i by omega] | omega

theorem fwd4 (hb : ReadsLog b G) (hq : Reads q Q) (hk : Reads k K) :
    Reads (k0_pay17 b q k) (mlev 8 7 K Q G) := fun i d => by
  pointwise [k0_pay17]
  simp only [hb _ _, exp2_dist, hq _ _, hk _ _]
  unfold mlev
  split_ifs with h
  · first | rw [EReal.coe_mul] | omega
  · first | rw [EReal.coe_mul, show (i : ℕ) / 16 * 16 + (8 + (i % 16 - 8)) = i by omega] | omega

theorem fwd5 (hb : ReadsLog b G) (hq : Reads q Q) (hk : Reads k K) :
    Reads (k0_pay22 b q k (k0_pay18 b) (8#32) (k0_pay19 (iota Kind.tc S256x1 32 [0] iota_S256x1_d0_w32)) (k0_pay20 (iota Kind.tc S256x1 32 [0] iota_S256x1_d0_w32)) (k0_pay21 (iota Kind.tc S256x1 32 [0] iota_S256x1_d0_w32)) 0#1) (mlev 4 3 K Q G) := fun i d => by
  pointwise [k0_pay22, k0_pay18, k0_pay19, k0_pay20, k0_pay21]
  simp only [hb _ _, exp2_dist, hq _ _, hk _ _]
  change Scalar.select (rowHalf 8#32 4#32 i) _ _ * _ = _
  rw [half4]
  unfold mlev
  split_ifs with h
  · rw [EReal.coe_mul]
  · rw [EReal.coe_mul]

theorem fwd6 (hb : ReadsLog b G) (hq : Reads q Q) (hk : Reads k K) :
    Reads (k0_pay25 (k0_pay23 q k (iota Kind.tc S256x1 32 [0] iota_S256x1_d0_w32)) (k0_pay24 b)) (mlev 2 1 K Q G) := fun i d => by
  pointwise [k0_pay25, k0_pay23, k0_pay24]
  simp only [hb _ _, exp2_dist, hq _ _, hk _ _]
  change Scalar.select (rowHalf 4#32 2#32 i) _ _ * _ = _
  rw [half2]
  unfold mlev
  split_ifs with h
  · rw [EReal.coe_mul]
  · rw [EReal.coe_mul]

theorem fwd7 (hb : ReadsLog b G) (hq : Reads q Q) (hk : Reads k K) :
    Reads (k0_pay26 b q k (iota Kind.tc S256x1 32 [0] iota_S256x1_d0_w32)) (mlev 1 0 K Q G) := fun i d => by
  pointwise [k0_pay26]
  simp only [hb _ _, exp2_dist, hq _ _, hk _ _]
  change Scalar.select (rowHalf 2#32 1#32 i) _ _ * _ = _
  rw [half1]
  unfold mlev
  split_ifs with h
  · rw [EReal.coe_mul]; rfl
  · rw [EReal.coe_mul]; rfl

/-! ## Backward -/

theorem bwd0 {t : FVec Ideal S256x512 .bf16} {l : FVec Ideal S512x256 .bf16} {x4 x5 : Vec Ideal S1x256x256 .bf16}
    (eb : k0_pay38 t l (constant (F := Ideal) S256x256 FTy.f32 0#32) = b) (eq : k0_pay39 x4 = q) (ek : k0_pay40 x5 = k)
    (hb : ReadsLog b G) (hq : Reads q Q) (hk : Reads k K) :
    Reads (k0_pay44 t l (constant (F := Ideal) S256x256 FTy.f32 0#32) x4 x5) (mlev 128 128 Q K G) := fun i d => by
  pointwise [k0_pay44]
  rw [eb, eq, ek]
  simp only [hb _ _, exp2_dist, hq _ _, hk _ _]
  unfold mlev
  rw [show (i : ℕ) / (2 * 128) * (2 * 128) + 128 = 128 by omega, show (i : ℕ) % (2 * 128) = i by omega]
  split_ifs with h
  · rw [EReal.coe_mul]; rfl
  · rw [EReal.coe_mul, show 128 + ((i : ℕ) - 128) = i by omega]; rfl

theorem bwd1 {t : FVec Ideal S256x512 .bf16} {l : FVec Ideal S512x256 .bf16} {x4 x5 : Vec Ideal S1x256x256 .bf16}
    (eb : k0_pay38 t l (constant (F := Ideal) S256x256 FTy.f32 0#32) = b) (eq : k0_pay39 x4 = q) (ek : k0_pay40 x5 = k)
    (hb : ReadsLog b G) (hq : Reads q Q) (hk : Reads k K) :
    Reads (k0_pay48 b (k0_pay45 t l (constant (F := Ideal) S256x256 FTy.f32 0#32)) (k0_pay46 x4) (k0_pay47 x5)) (mlev 64 64 Q K G) := fun i d => by
  pointwise [k0_pay48, k0_pay45, k0_pay46, k0_pay47]
  rw [eb, eq, ek]
  simp only [hb _ _, exp2_dist, hq _ _, hk _ _]
  unfold mlev
  split_ifs with h
  · first | rw [EReal.coe_mul] | omega
  · first | rw [EReal.coe_mul, show (i : ℕ) / 128 * 128 + (64 + (i % 128 - 64)) = i by omega] | omega

theorem bwd2 (hb : ReadsLog b G) (hq : Reads q Q) (hk : Reads k K) :
    Reads (k0_pay49 b q k) (mlev 32 32 Q K G) := fun i d => by
  pointwise [k0_pay49]
  simp only [hb _ _, exp2_dist, hq _ _, hk _ _]
  unfold mlev
  split_ifs with h
  · first | rw [EReal.coe_mul] | omega
  · first | rw [EReal.coe_mul, show (i : ℕ) / 64 * 64 + (32 + (i % 64 - 32)) = i by omega] | omega

theorem bwd3 (hb : ReadsLog b G) (hq : Reads q Q) (hk : Reads k K) :
    Reads (k0_pay50 b q k) (mlev 16 16 Q K G) := fun i d => by
  pointwise [k0_pay50]
  simp only [hb _ _, exp2_dist, hq _ _, hk _ _]
  unfold mlev
  split_ifs with h
  · first | rw [EReal.coe_mul] | omega
  · first | rw [EReal.coe_mul, show (i : ℕ) / 32 * 32 + (16 + (i % 32 - 16)) = i by omega] | omega

theorem bwd4 (hb : ReadsLog b G) (hq : Reads q Q) (hk : Reads k K) :
    Reads (k0_pay53 (k0_pay51 q k) (k0_pay52 b)) (mlev 8 8 Q K G) := fun i d => by
  pointwise [k0_pay53, k0_pay51, k0_pay52]
  simp only [hb _ _, exp2_dist, hq _ _, hk _ _]
  unfold mlev
  split_ifs with h
  · first | rw [EReal.coe_mul] | omega
  · first | rw [EReal.coe_mul, show (i : ℕ) / 16 * 16 + (8 + (i % 16 - 8)) = i by omega] | omega

theorem bwd5 (hb : ReadsLog b G) (hq : Reads q Q) (hk : Reads k K) :
    Reads (k0_pay54 b q k (iota Kind.tc S256x1 32 [0] iota_S256x1_d0_w32)) (mlev 4 4 Q K G) := fun i d => by
  pointwise [k0_pay54]
  simp only [hb _ _, exp2_dist, hq _ _, hk _ _]
  change Scalar.select (rowHalf 8#32 4#32 i) _ _ * _ = _
  rw [half4]
  unfold mlev
  split_ifs with h
  · rw [EReal.coe_mul]
  · rw [EReal.coe_mul]

theorem bwd6 (hb : ReadsLog b G) (hq : Reads q Q) (hk : Reads k K) :
    Reads (k0_pay57 b q k (k0_pay55 b) (4#32) (k0_pay56 (iota Kind.tc S256x1 32 [0] iota_S256x1_d0_w32))) (mlev 2 2 Q K G) := fun i d => by
  pointwise [k0_pay57, k0_pay55, k0_pay56]
  simp only [hb _ _, exp2_dist, hq _ _, hk _ _]
  change Scalar.select (rowHalf 4#32 2#32 i) _ _ * _ = _
  rw [half2]
  unfold mlev
  split_ifs with h
  · rw [EReal.coe_mul]
  · rw [EReal.coe_mul]

theorem bwd7 (hb : ReadsLog b G) (hq : Reads q Q) (hk : Reads k K) :
    Reads (k0_pay60 b q k (k0_pay58 b) (k0_pay59 (iota Kind.tc S256x1 32 [0] iota_S256x1_d0_w32))) (mlev 1 1 Q K G) := fun i d => by
  pointwise [k0_pay60, k0_pay58, k0_pay59]
  simp only [hb _ _, exp2_dist, hq _ _, hk _ _]
  change Scalar.select (rowHalf 2#32 1#32 i) _ _ * _ = _
  rw [half1]
  unfold mlev
  split_ifs with h
  · rw [EReal.coe_mul]
  · rw [EReal.coe_mul]

end Cert.Proof

end
-- ==== Proof.Weights.lean ====
/- The pair table, the running sums of log-decays and the weights inside a chunk. -/
module

public import proofs.«01_k».proof.Proof.Gen.KernelIdeal.Skeleton
public import proofs.«01_k».proof.Proof.Levels
public import Idealize.ShloMosaic.Lib.Pointwise

@[expose] public section

set_option maxRecDepth 16384
noncomputable section

namespace Cert.Proof

open Idealize Idealize.ShloMosaic Cert.KernelIdeal Cert.KernelIdeal.Gen

/-! ## The pair table -/

/-- Entry `(i, j)` of the forward pair table inside a diagonal square of 128: the level that joins the two rows,
    8 on the diagonal and 9 where row `i` does not read row `j`. -/
def pairW (i j : ℕ) : BitVec 32 :=
  if i = j then 8#32
  else if i < j then 9#32
  else if i / 2 = j / 2 then 7#32
  else if i / 4 = j / 4 then 6#32
  else if i / 8 = j / 8 then 5#32
  else if i / 16 = j / 16 then 4#32
  else if i / 32 = j / 32 then 3#32
  else if i / 64 = j / 64 then 2#32
  else 1#32

/-- The kernel's selection among the level products. -/
abbrev pick (p : BitVec 32) (x1 x2 x3 x4 x5 x6 x7 x8 : EReal) : EReal :=
  Scalar.select (IntOp.cmpi CmpIPredicate.eq p 7#32) x7
    (Scalar.select (IntOp.cmpi CmpIPredicate.eq p 6#32) x6
      (Scalar.select (IntOp.cmpi CmpIPredicate.eq p 5#32) x5
        (Scalar.select (IntOp.cmpi CmpIPredicate.eq p 4#32) x4
          (Scalar.select (IntOp.cmpi CmpIPredicate.eq p 3#32) x3
            (Scalar.select (IntOp.cmpi CmpIPredicate.eq p 2#32) x2
              (Scalar.select (IntOp.cmpi CmpIPredicate.eq p 1#32) x1
                (Scalar.select (IntOp.cmpi CmpIPredicate.eq p 8#32) x8 0)))))))

theorem pick1 (x1 x2 x3 x4 x5 x6 x7 x8 : EReal) : pick 1#32 x1 x2 x3 x4 x5 x6 x7 x8 = x1 := rfl
theorem pick2 (x1 x2 x3 x4 x5 x6 x7 x8 : EReal) : pick 2#32 x1 x2 x3 x4 x5 x6 x7 x8 = x2 := rfl
theorem pick3 (x1 x2 x3 x4 x5 x6 x7 x8 : EReal) : pick 3#32 x1 x2 x3 x4 x5 x6 x7 x8 = x3 := rfl
theorem pick4 (x1 x2 x3 x4 x5 x6 x7 x8 : EReal) : pick 4#32 x1 x2 x3 x4 x5 x6 x7 x8 = x4 := rfl
theorem pick5 (x1 x2 x3 x4 x5 x6 x7 x8 : EReal) : pick 5#32 x1 x2 x3 x4 x5 x6 x7 x8 = x5 := rfl
theorem pick6 (x1 x2 x3 x4 x5 x6 x7 x8 : EReal) : pick 6#32 x1 x2 x3 x4 x5 x6 x7 x8 = x6 := rfl
theorem pick7 (x1 x2 x3 x4 x5 x6 x7 x8 : EReal) : pick 7#32 x1 x2 x3 x4 x5 x6 x7 x8 = x7 := rfl
theorem pick8 (x1 x2 x3 x4 x5 x6 x7 x8 : EReal) : pick 8#32 x1 x2 x3 x4 x5 x6 x7 x8 = x8 := rfl

/-- A row of products of real entries, summed. -/
theorem dot_coe (f g : Fin 256 → ℝ) : ∑ d, ((f d : ℝ) : EReal) * ((g d : ℝ) : EReal) = ((∑ d, f d * g d : ℝ) : EReal) := by
  rw [← sum_coe]; exact Finset.sum_congr rfl fun d _ => (EReal.coe_mul _ _).symm

/-- A sum of products over the 128 rows of a diagonal square. -/
theorem dot_coe' (f g : Fin 128 → ℝ) : ∑ d, ((f d : ℝ) : EReal) * ((g d : ℝ) : EReal) = ((∑ d, f d * g d : ℝ) : EReal) := by
  rw [← sum_coe]; exact Finset.sum_congr rfl fun d _ => (EReal.coe_mul _ _).symm

variable {G Q K : ℕ → Fin 256 → ℝ}

set_option maxHeartbeats 2000000 in
/-- Forward, a diagonal square: the selected product is the weight, and nothing is read from later rows. -/
theorem pick_fwd (hG : Falls G) {o i j : ℕ} (ho : o = 0 ∨ o = 128) (hi : i < 128) (hj : j < 128) :
    pick (pairW i j)
      ((∑ d : Fin 256, mlev 64 63 K Q G (o + i) d * mlev 64 63 K Q G (o + j) d : ℝ) : EReal)
      ((∑ d : Fin 256, mlev 32 31 K Q G (o + i) d * mlev 32 31 K Q G (o + j) d : ℝ) : EReal)
      ((∑ d : Fin 256, mlev 16 15 K Q G (o + i) d * mlev 16 15 K Q G (o + j) d : ℝ) : EReal)
      ((∑ d : Fin 256, mlev 8 7 K Q G (o + i) d * mlev 8 7 K Q G (o + j) d : ℝ) : EReal)
      ((∑ d : Fin 256, mlev 4 3 K Q G (o + i) d * mlev 4 3 K Q G (o + j) d : ℝ) : EReal)
      ((∑ d : Fin 256, mlev 2 1 K Q G (o + i) d * mlev 2 1 K Q G (o + j) d : ℝ) : EReal)
      ((∑ d : Fin 256, mlev 1 0 K Q G (o + i) d * mlev 1 0 K Q G (o + j) d : ℝ) : EReal)
      ((∑ d : Fin 256, Q (o + i) d * K (o + j) d : ℝ) : EReal)
      = ((if j ≤ i then wt Q K G (o + i) (o + j) else 0 : ℝ) : EReal) := by
  unfold pairW
  by_cases h0 : i = j
  · subst h0; rw [if_pos rfl, if_pos le_rfl, ← wt_self]; rfl
  rw [if_neg h0]
  by_cases h1 : i < j
  · rw [if_pos h1, if_neg (by omega)]; rfl
  rw [if_neg h1, if_pos (show j ≤ i by omega)]
  split_ifs
  · exact (pick7 ..).trans (congrArg Real.toEReal (dot_falls hG (Q := Q) (K := K) (i := o + i) (j := o + j) (s := 1) (by omega) (by omega) (by omega) (by omega)))
  · exact (pick6 ..).trans (congrArg Real.toEReal (dot_falls hG (Q := Q) (K := K) (i := o + i) (j := o + j) (s := 2) (by omega) (by omega) (by omega) (by omega)))
  · exact (pick5 ..).trans (congrArg Real.toEReal (dot_falls hG (Q := Q) (K := K) (i := o + i) (j := o + j) (s := 4) (by omega) (by omega) (by omega) (by omega)))
  · exact (pick4 ..).trans (congrArg Real.toEReal (dot_falls hG (Q := Q) (K := K) (i := o + i) (j := o + j) (s := 8) (by omega) (by omega) (by omega) (by omega)))
  · exact (pick3 ..).trans (congrArg Real.toEReal (dot_falls hG (Q := Q) (K := K) (i := o + i) (j := o + j) (s := 16) (by omega) (by omega) (by omega) (by omega)))
  · exact (pick2 ..).trans (congrArg Real.toEReal (dot_falls hG (Q := Q) (K := K) (i := o + i) (j := o + j) (s := 32) (by omega) (by omega) (by omega) (by omega)))
  · exact (pick1 ..).trans (congrArg Real.toEReal (dot_falls hG (Q := Q) (K := K) (i := o + i) (j := o + j) (s := 64) (by omega) (by omega) (by omega) (by omega)))

set_option maxHeartbeats 2000000 in
/-- Backward, a diagonal square: nothing is read from earlier rows. -/
theorem pick_bwd (hG : Rises G) {o i j : ℕ} (ho : o = 0 ∨ o = 128) (hi : i < 128) (hj : j < 128) :
    pick (pairW j i)
      ((∑ d : Fin 256, mlev 64 64 Q K G (o + i) d * mlev 64 64 Q K G (o + j) d : ℝ) : EReal)
      ((∑ d : Fin 256, mlev 32 32 Q K G (o + i) d * mlev 32 32 Q K G (o + j) d : ℝ) : EReal)
      ((∑ d : Fin 256, mlev 16 16 Q K G (o + i) d * mlev 16 16 Q K G (o + j) d : ℝ) : EReal)
      ((∑ d : Fin 256, mlev 8 8 Q K G (o + i) d * mlev 8 8 Q K G (o + j) d : ℝ) : EReal)
      ((∑ d : Fin 256, mlev 4 4 Q K G (o + i) d * mlev 4 4 Q K G (o + j) d : ℝ) : EReal)
      ((∑ d : Fin 256, mlev 2 2 Q K G (o + i) d * mlev 2 2 Q K G (o + j) d : ℝ) : EReal)
      ((∑ d : Fin 256, mlev 1 1 Q K G (o + i) d * mlev 1 1 Q K G (o + j) d : ℝ) : EReal)
      ((∑ d : Fin 256, Q (o + i) d * K (o + j) d : ℝ) : EReal)
      = ((if i ≤ j then wt Q K G (o + i) (o + j) else 0 : ℝ) : EReal) := by
  unfold pairW
  by_cases h0 : j = i
  · subst h0; rw [if_pos rfl, if_pos le_rfl, ← wt_self]; rfl
  rw [if_neg h0]
  by_cases h1 : j < i
  · rw [if_pos h1, if_neg (by omega)]; rfl
  rw [if_neg h1, if_pos (show i ≤ j by omega)]
  split_ifs
  · exact (pick7 ..).trans (congrArg Real.toEReal (dot_rises hG (Q := Q) (K := K) (i := o + i) (j := o + j) (s := 1) (by omega) (by omega) (by omega) (by omega)))
  · exact (pick6 ..).trans (congrArg Real.toEReal (dot_rises hG (Q := Q) (K := K) (i := o + i) (j := o + j) (s := 2) (by omega) (by omega) (by omega) (by omega)))
  · exact (pick5 ..).trans (congrArg Real.toEReal (dot_rises hG (Q := Q) (K := K) (i := o + i) (j := o + j) (s := 4) (by omega) (by omega) (by omega) (by omega)))
  · exact (pick4 ..).trans (congrArg Real.toEReal (dot_rises hG (Q := Q) (K := K) (i := o + i) (j := o + j) (s := 8) (by omega) (by omega) (by omega) (by omega)))
  · exact (pick3 ..).trans (congrArg Real.toEReal (dot_rises hG (Q := Q) (K := K) (i := o + i) (j := o + j) (s := 16) (by omega) (by omega) (by omega) (by omega)))
  · exact (pick2 ..).trans (congrArg Real.toEReal (dot_rises hG (Q := Q) (K := K) (i := o + i) (j := o + j) (s := 32) (by omega) (by omega) (by omega) (by omega)))
  · exact (pick1 ..).trans (congrArg Real.toEReal (dot_rises hG (Q := Q) (K := K) (i := o + i) (j := o + j) (s := 64) (by omega) (by omega) (by omega) (by omega)))

/-- A sum over 256 rows, by its halves. -/
theorem sum_halves (f : ℕ → ℝ) : ∑ j : Fin 256, f j = ∑ j : Fin 128, f j + ∑ j : Fin 128, f (128 + j) := by
  rw [Fin.sum_univ_add (a := 128) (b := 128) (fun j : Fin (128 + 128) => f j)]; rfl

/-! ## The running sums and the scaled queries -/

/-- The constant the queries are scaled by. -/
theorem sixteenth : Ideal.ofBits .f32 0x3D800000#32 = (((1 : ℝ) / 16 : ℝ) : EReal) := by
  simp [Ideal.ofBits, Ideal.ieee, -EReal.coe_mul]; norm_num

theorem log2e : Named.named (F := Ideal) κ "log2e" (φ := .f32) 0x3FB8AA3B#32 = (((Real.log 2)⁻¹ : ℝ) : EReal) :=
  IdealRules.named_const.ideal_named_scalar _ _ _ _ rfl

/-- The sum of the log-decays of the chunk's rows up to row `i`. -/
def upto (g : ℕ → Fin 256 → ℝ) (i : ℕ) (d : Fin 256) : ℝ := ∑ u : Fin 256, if (u : ℕ) ≤ i then g u d else 0

/-- The sum of the log-decays of the chunk's rows from row `i`. -/
def from' (g : ℕ → Fin 256 → ℝ) (i : ℕ) (d : Fin 256) : ℝ := ∑ u : Fin 256, if i ≤ (u : ℕ) then g u d else 0

theorem falls_upto {g : ℕ → Fin 256 → ℝ} (hg : ∀ u d, g u d ≤ 0) : Falls (upto g) := fun i j d h _ => by
  refine Finset.sum_le_sum fun u _ => ?_
  split_ifs <;> first | exact le_rfl | exact hg _ _ | omega

theorem rises_from {g : ℕ → Fin 256 → ℝ} (hg : ∀ u d, g u d ≤ 0) : Rises (from' g) := fun i j d h _ => by
  refine Finset.sum_le_sum fun u _ => ?_
  split_ifs <;> first | exact le_rfl | exact hg _ _ | omega

section
variable {x0 x1 : Vec Ideal S1x256x256 .bf16} {x2 : Vec Ideal S1x256x512 .bf16} {x3 : Vec Ideal S1x1x256x256 .f32}
  {tri : Vec Ideal S1x256x512 .bf16} {A K g : ℕ → Fin 256 → ℝ}

theorem tri_sum (P : ℕ → Prop) [DecidablePred P] (f : Fin 256 → ℝ) (c : ℝ) :
    (∑ u : Fin 256, (if P u then (1 : EReal) else 0) * (((f u : ℝ) : EReal) * ((c : ℝ) : EReal)))
      + (∑ u : Fin 256, (if P u then (1 : EReal) else 0) * (((f u : ℝ) : EReal) * ((c : ℝ) : EReal) - ((f u : ℝ) : EReal) * ((c : ℝ) : EReal)))
      = (((∑ u : Fin 256, if P u then f u else 0) * c : ℝ) : EReal) := by
  have e1 : ∀ u : Fin 256, (if P u then (1 : EReal) else 0) * (((f u : ℝ) : EReal) * ((c : ℝ) : EReal)) = (((if P u then f u else 0) * c : ℝ) : EReal) := fun u => by
    split_ifs
    · rw [one_mul, EReal.coe_mul]
    · rw [zero_mul, zero_mul, EReal.coe_zero]
  have e2 : ∀ u : Fin 256, (if P u then (1 : EReal) else 0) * (((f u : ℝ) : EReal) * ((c : ℝ) : EReal) - ((f u : ℝ) : EReal) * ((c : ℝ) : EReal)) = 0 := fun u => by
    rw [← EReal.coe_mul, ← EReal.coe_sub, sub_self, EReal.coe_zero, mul_zero]
  rw [Finset.sum_congr rfl fun u _ => e1 u, Finset.sum_congr rfl fun u _ => e2 u, Finset.sum_const_zero, add_zero, sum_coe, Finset.sum_mul]

theorem sums_fwd (h3 : ∀ u d : Fin 256, x3 (ix4 0 0 u d) = ((g u d : ℝ) : EReal))
    (ht : ∀ (i : Fin 256) (u : Fin 512), tri (ix3 0 i u) = if (u : ℕ) % 256 ≤ i then (1 : EReal) else 0) :
    ReadsLog (k0_pay4 x3 tri) (upto g) := fun i d => by
  pointwise [k0_pay4]
  simp only [h3 _ _, ht _ _, log2e]
  refine Eq.trans ?_ (tri_sum (fun u => u ≤ (i : ℕ)) (fun u => g u d) _)
  congr 1

theorem sums_bwd (h3 : ∀ u d : Fin 256, x3 (ix4 0 0 u d) = ((g u d : ℝ) : EReal))
    (ht : ∀ (i : Fin 256) (u : Fin 512), tri (ix3 0 i u) = if (i : ℕ) ≤ (u : ℕ) % 256 then (1 : EReal) else 0) :
    ReadsLog (k0_pay38 (k0_pay36 tri) (k0_pay37 x3) (constant (F := Ideal) S256x256 FTy.f32 0#32)) (from' g) := fun i d => by
  pointwise [k0_pay38, k0_pay36, k0_pay37]
  simp only [h3 _ _, ht _ _, log2e]
  refine Eq.trans ?_ (tri_sum (fun u => (i : ℕ) ≤ u) (fun u => g u d) _)
  congr 1

theorem queries_fwd (h0 : ∀ u d : Fin 256, x0 (ix3 0 u d) = ((A u d : ℝ) : EReal)) :
    Reads (k0_pay5 x0) (fun i d => A i d * (1 / 16)) := fun i d => by
  pointwise [k0_pay5]
  rw [h0, EReal.coe_mul, ← sixteenth]

theorem queries_bwd (h0 : ∀ u d : Fin 256, x0 (ix3 0 u d) = ((A u d : ℝ) : EReal)) :
    Reads (k0_pay39 x0) (fun i d => A i d * (1 / 16)) := fun i d => by
  pointwise [k0_pay39]
  rw [h0, EReal.coe_mul, ← sixteenth]

theorem keys_fwd (h1 : ∀ u d : Fin 256, x1 (ix3 0 u d) = ((K u d : ℝ) : EReal)) : Reads (k0_pay6 x1) K := fun i d => by
  pointwise [k0_pay6]
  exact h1 i d

theorem keys_bwd (h1 : ∀ u d : Fin 256, x1 (ix3 0 u d) = ((K u d : ℝ) : EReal)) : Reads (k0_pay40 x1) K := fun i d => by
  pointwise [k0_pay40]
  exact h1 i d

end

end Cert.Proof

end
-- ==== Proof.Points.lean ====
/- What a grid point reads: its blocks of the arguments, element by element. -/
module

public import proofs.«01_k».proof.Proof.Gen.KernelIdeal.Frame
public import proofs.«01_k».proof.Proof.Weights
public import Idealize.ShloMosaic.Lib.Pipeline.ValueKit
public import Idealize.ShloMosaic.Lib.Pointwise

@[expose] public section

set_option maxRecDepth 16384
noncomputable section

namespace Cert.Proof

open Idealize Idealize.ShloMosaic Cert.KernelIdeal Cert.KernelIdeal.Gen

/-- The block of rows that the forward scan takes at its step `u`: the context's, then the latent's in order. -/
def fblk (u : ℕ) : ℕ := if u = 0 then 8 else u - 1

/-- The block of rows that the backward scan takes at its step `u`: the context's, then the latent's from its end. -/
def bblk (u : ℕ) : ℕ := if u = 0 then 8 else 8 - u

theorem fblk_lt (u : ℕ) (h : u < 9) : fblk u < 9 := by unfold fblk; split <;> omega
theorem bblk_lt (u : ℕ) (h : u < 9) : bblk u < 9 := by unfold bblk; split <;> omega

theorem index_fwd : ∀ t : Fin cfg0.N,
    win0_0.index t = ![t.val / 36, fblk (t.val % 9), t.val / 9 % 4] ∧
    win0_1.index t = ![t.val / 36, fblk (t.val % 9), 4 + t.val / 9 % 4] ∧
    win0_2.index t = ![t.val / 36, fblk (t.val % 9), 4 + t.val / 9 % 4] ∧
    win0_3.index t = ![0, t.val / 36, fblk (t.val % 9), t.val / 9 % 4] ∧
    win0_10.index t = ![t.val / 36, fblk (t.val % 9), t.val / 9 % 4] := by decide +kernel

theorem index_bwd : ∀ t : Fin cfg0.N,
    win0_4.index t = ![t.val / 36, bblk (t.val % 9), t.val / 9 % 4] ∧
    win0_5.index t = ![t.val / 36, bblk (t.val % 9), 4 + t.val / 9 % 4] ∧
    win0_6.index t = ![t.val / 36, bblk (t.val % 9), 4 + t.val / 9 % 4] ∧
    win0_7.index t = ![1, t.val / 36, bblk (t.val % 9), t.val / 9 % 4] ∧
    win0_11.index t = ![t.val / 36, bblk (t.val % 9), t.val / 9 % 4] := by decide +kernel

theorem index_tables : ∀ t : Fin cfg0.N, win0_8.index t = ![0, 0, 0] ∧ win0_9.index t = ![0, 0, 0] := by decide +kernel

theorem point_lt (t : Fin cfg0.N) : t.val < 288 := t.isLt.trans_eq N_0

variable (m : (ℓ : Loc nD τ sig) → Buf (Elt Ideal) ℓ) (c : Dev nD)

theorem q_fwd (t : Fin cfg0.N) (u : Fin 256) (d : Fin 256) :
    X0_0 m c t (ix3 0 u d) = m (c.tc.loc main_arg0) (ix3 ⟨t.val / 36, by have := point_lt t; omega⟩
      ⟨256 * fblk (t.val % 9) + u, by have := fblk_lt (t.val % 9) (by omega); omega⟩ ⟨256 * (t.val / 9 % 4) + d, by omega⟩) := by
  unfold X0_0 Pipeline.Window.fill
  rw [dif_pos (moved0_0 t _)]
  have e := (index_fwd t).1
  blk_ext [iblk, V_main_arg0, e]

theorem k_fwd (t : Fin cfg0.N) (u : Fin 256) (d : Fin 256) :
    X0_1 m c t (ix3 0 u d) = m (c.tc.loc main_arg0) (ix3 ⟨t.val / 36, by have := point_lt t; omega⟩
      ⟨256 * fblk (t.val % 9) + u, by have := fblk_lt (t.val % 9) (by omega); omega⟩ ⟨256 * (4 + t.val / 9 % 4) + d, by omega⟩) := by
  unfold X0_1 Pipeline.Window.fill
  rw [dif_pos (moved0_1 t _)]
  have e := (index_fwd t).2.1
  blk_ext [iblk, V_main_arg0, e]

theorem v_fwd (t : Fin cfg0.N) (u : Fin 256) (d : Fin 512) :
    X0_2 m c t (ix3 0 u d) = m (c.tc.loc main_arg0) (ix3 ⟨t.val / 36, by have := point_lt t; omega⟩
      ⟨256 * fblk (t.val % 9) + u, by have := fblk_lt (t.val % 9) (by omega); omega⟩ ⟨512 * (4 + t.val / 9 % 4) + d, by omega⟩) := by
  unfold X0_2 Pipeline.Window.fill
  rw [dif_pos (moved0_2 t _)]
  have e := (index_fwd t).2.2.1
  blk_ext [iblk, V_main_arg0, e]

theorem la_fwd (t : Fin cfg0.N) (u d : Fin 256) :
    iblk m c 3 t (ix4 0 0 u d) = m (c.tc.loc main_arg1) (ix4 0 ⟨t.val / 36, by have := point_lt t; omega⟩
      ⟨256 * fblk (t.val % 9) + u, by have := fblk_lt (t.val % 9) (by omega); omega⟩ ⟨256 * (t.val / 9 % 4) + d, by omega⟩) := by
  have e := (index_fwd t).2.2.2.1
  blk_ext [iblk, V_main_arg1, e]

theorem q_bwd (t : Fin cfg0.N) (u : Fin 256) (d : Fin 256) :
    X0_4 m c t (ix3 0 u d) = m (c.tc.loc main_arg0) (ix3 ⟨t.val / 36, by have := point_lt t; omega⟩
      ⟨256 * bblk (t.val % 9) + u, by have := bblk_lt (t.val % 9) (by omega); omega⟩ ⟨256 * (t.val / 9 % 4) + d, by omega⟩) := by
  unfold X0_4 Pipeline.Window.fill
  rw [dif_pos (moved0_4 t _)]
  have e := (index_bwd t).1
  blk_ext [iblk, V_main_arg0, e]

theorem k_bwd (t : Fin cfg0.N) (u : Fin 256) (d : Fin 256) :
    X0_5 m c t (ix3 0 u d) = m (c.tc.loc main_arg0) (ix3 ⟨t.val / 36, by have := point_lt t; omega⟩
      ⟨256 * bblk (t.val % 9) + u, by have := bblk_lt (t.val % 9) (by omega); omega⟩ ⟨256 * (4 + t.val / 9 % 4) + d, by omega⟩) := by
  unfold X0_5 Pipeline.Window.fill
  rw [dif_pos (moved0_5 t _)]
  have e := (index_bwd t).2.1
  blk_ext [iblk, V_main_arg0, e]

theorem v_bwd (t : Fin cfg0.N) (u : Fin 256) (d : Fin 512) :
    X0_6 m c t (ix3 0 u d) = m (c.tc.loc main_arg0) (ix3 ⟨t.val / 36, by have := point_lt t; omega⟩
      ⟨256 * bblk (t.val % 9) + u, by have := bblk_lt (t.val % 9) (by omega); omega⟩ ⟨512 * (4 + t.val / 9 % 4) + d, by omega⟩) := by
  unfold X0_6 Pipeline.Window.fill
  rw [dif_pos (moved0_6 t _)]
  have e := (index_bwd t).2.2.1
  blk_ext [iblk, V_main_arg0, e]

theorem la_bwd (t : Fin cfg0.N) (u d : Fin 256) :
    iblk m c 7 t (ix4 0 0 u d) = m (c.tc.loc main_arg1) (ix4 1 ⟨t.val / 36, by have := point_lt t; omega⟩
      ⟨256 * bblk (t.val % 9) + u, by have := bblk_lt (t.val % 9) (by omega); omega⟩ ⟨256 * (t.val / 9 % 4) + d, by omega⟩) := by
  have e := (index_bwd t).2.2.2.1
  blk_ext [iblk, V_main_arg1, e]

end Cert.Proof
-- ==== Proof.Blocks.lean ====
/- One grid point of the kernel: its output blocks and the states it leaves, over the reals. -/
module

public import proofs.«01_k».proof.Proof.Gen.KernelIdeal.Skeleton
public import proofs.«01_k».proof.Proof.Weights
public import Idealize.ShloMosaic.Lib.Pointwise

@[expose] public section

set_option maxRecDepth 16384
noncomputable section

namespace Cert.Proof

open Idealize Idealize.ShloMosaic Cert.KernelIdeal Cert.KernelIdeal.Gen

/-! ## The block's terms -/

/-- The forward output block, from the query, key, value and log-decay blocks, the tables and the state. -/
def fwdOut (x0 x1 : Vec Ideal S1x256x256 .bf16) (x2 : Vec Ideal S1x256x512 .bf16) (x3 : Vec Ideal S1x1x256x256 .f32)
    (tri : Vec Ideal S1x256x512 .bf16) (pr : Vec Ideal S1x128x128 .i32) (st : Vec Ideal S512x256 .f32) : Vec Ideal S1x256x512 .bf16 :=
  k0_pay34 (k0_pay7 x2) (k0_pay10 st (k0_pay9 x3 tri x0)) (k0_pay27 (k0_pay11 (k0_pay4 x3 tri) (k0_pay5 x0) (k0_pay6 x1)))
    (k0_pay31 (k0_pay12 (k0_pay4 x3 tri) (k0_pay5 x0) (k0_pay6 x1)) (k0_pay15 (k0_pay13 (k0_pay5 x0) (k0_pay6 x1)) (k0_pay14 (k0_pay4 x3 tri))) (k0_pay16 (k0_pay4 x3 tri) (k0_pay5 x0) (k0_pay6 x1)) (k0_pay17 (k0_pay4 x3 tri) (k0_pay5 x0) (k0_pay6 x1)) (k0_pay22 (k0_pay4 x3 tri) (k0_pay5 x0) (k0_pay6 x1) (k0_pay18 (k0_pay4 x3 tri)) (8#32) (k0_pay19 (iota Kind.tc S256x1 32 [0] iota_S256x1_d0_w32)) (k0_pay20 (iota Kind.tc S256x1 32 [0] iota_S256x1_d0_w32)) (k0_pay21 (iota Kind.tc S256x1 32 [0] iota_S256x1_d0_w32)) 0#1) (k0_pay25 (k0_pay23 (k0_pay5 x0) (k0_pay6 x1) (iota Kind.tc S256x1 32 [0] iota_S256x1_d0_w32)) (k0_pay24 (k0_pay4 x3 tri))) (k0_pay26 (k0_pay4 x3 tri) (k0_pay5 x0) (k0_pay6 x1) (iota Kind.tc S256x1 32 [0] iota_S256x1_d0_w32)) (k0_pay28 pr) (k0_pay29 (k0_pay5 x0)) (k0_pay30 (k0_pay6 x1)) 8#32)
    (k0_pay32 (k0_pay12 (k0_pay4 x3 tri) (k0_pay5 x0) (k0_pay6 x1)) (k0_pay15 (k0_pay13 (k0_pay5 x0) (k0_pay6 x1)) (k0_pay14 (k0_pay4 x3 tri))) (k0_pay16 (k0_pay4 x3 tri) (k0_pay5 x0) (k0_pay6 x1)) (k0_pay17 (k0_pay4 x3 tri) (k0_pay5 x0) (k0_pay6 x1)) (k0_pay22 (k0_pay4 x3 tri) (k0_pay5 x0) (k0_pay6 x1) (k0_pay18 (k0_pay4 x3 tri)) (8#32) (k0_pay19 (iota Kind.tc S256x1 32 [0] iota_S256x1_d0_w32)) (k0_pay20 (iota Kind.tc S256x1 32 [0] iota_S256x1_d0_w32)) (k0_pay21 (iota Kind.tc S256x1 32 [0] iota_S256x1_d0_w32)) 0#1) (k0_pay25 (k0_pay23 (k0_pay5 x0) (k0_pay6 x1) (iota Kind.tc S256x1 32 [0] iota_S256x1_d0_w32)) (k0_pay24 (k0_pay4 x3 tri))) (k0_pay26 (k0_pay4 x3 tri) (k0_pay5 x0) (k0_pay6 x1) (iota Kind.tc S256x1 32 [0] iota_S256x1_d0_w32)) (k0_pay28 pr) (k0_pay29 (k0_pay5 x0)) (k0_pay30 (k0_pay6 x1)) 8#32)
    (k0_pay33 (k0_pay7 x2))

/-- The forward state after the block. -/
def fwdState (x1 : Vec Ideal S1x256x256 .bf16) (x2 : Vec Ideal S1x256x512 .bf16) (x3 : Vec Ideal S1x1x256x256 .f32)
    (tri : Vec Ideal S1x256x512 .bf16) (st : Vec Ideal S512x256 .f32) : Vec Ideal S512x256 .f32 :=
  k0_pay35 (k0_pay4 x3 tri) (k0_pay6 x1) (k0_pay7 x2) (k0_pay8 x3 tri) st

/-- The running sums of the backward block. -/
abbrev bSums (x7 : Vec Ideal S1x1x256x256 .f32) (tri : Vec Ideal S1x256x512 .bf16) : FVec Ideal S256x256 .f32 :=
  k0_pay38 (k0_pay36 tri) (k0_pay37 x7) (constant (F := Ideal) S256x256 FTy.f32 0#32)

/-- The backward output block. -/
def bwdOut (x4 x5 : Vec Ideal S1x256x256 .bf16) (x6 : Vec Ideal S1x256x512 .bf16) (x7 : Vec Ideal S1x1x256x256 .f32)
    (tri : Vec Ideal S1x256x512 .bf16) (pr : Vec Ideal S1x128x128 .i32) (st : Vec Ideal S512x256 .f32) : Vec Ideal S1x256x512 .bf16 :=
  k0_pay72 (k0_pay41 x6) (k0_pay43 (k0_pay36 tri) (k0_pay37 x7) (constant (F := Ideal) S256x256 FTy.f32 0#32) x4 st)
    (k0_pay54 (bSums x7 tri) (k0_pay39 x4) (k0_pay40 x5) (iota Kind.tc S256x1 32 [0] iota_S256x1_d0_w32))
    (k0_pay57 (bSums x7 tri) (k0_pay39 x4) (k0_pay40 x5) (k0_pay55 (bSums x7 tri)) (4#32) (k0_pay56 (iota Kind.tc S256x1 32 [0] iota_S256x1_d0_w32)))
    (k0_pay60 (bSums x7 tri) (k0_pay39 x4) (k0_pay40 x5) (k0_pay58 (bSums x7 tri)) (k0_pay59 (iota Kind.tc S256x1 32 [0] iota_S256x1_d0_w32)))
    (k0_pay61 (k0_pay44 (k0_pay36 tri) (k0_pay37 x7) (constant (F := Ideal) S256x256 FTy.f32 0#32) x4 x5))
    (k0_pay62 pr)
    (k0_pay68 (k0_pay54 (bSums x7 tri) (k0_pay39 x4) (k0_pay40 x5) (iota Kind.tc S256x1 32 [0] iota_S256x1_d0_w32))
      (k0_pay57 (bSums x7 tri) (k0_pay39 x4) (k0_pay40 x5) (k0_pay55 (bSums x7 tri)) (4#32) (k0_pay56 (iota Kind.tc S256x1 32 [0] iota_S256x1_d0_w32)))
      (k0_pay60 (bSums x7 tri) (k0_pay39 x4) (k0_pay40 x5) (k0_pay58 (bSums x7 tri)) (k0_pay59 (iota Kind.tc S256x1 32 [0] iota_S256x1_d0_w32)))
      (k0_pay62 pr)
      (k0_pay65 (k0_pay39 x4) (k0_pay40 x5)
        (k0_pay48 (bSums x7 tri) (k0_pay45 (k0_pay36 tri) (k0_pay37 x7) (constant (F := Ideal) S256x256 FTy.f32 0#32)) (k0_pay46 x4) (k0_pay47 x5))
        (k0_pay49 (bSums x7 tri) (k0_pay39 x4) (k0_pay40 x5)) (k0_pay50 (bSums x7 tri) (k0_pay39 x4) (k0_pay40 x5)) pr)
      (k0_pay66 (k0_pay53 (k0_pay51 (k0_pay39 x4) (k0_pay40 x5)) (k0_pay52 (bSums x7 tri)))) k0_pay67)
    (k0_pay69
      (k0_pay48 (bSums x7 tri) (k0_pay45 (k0_pay36 tri) (k0_pay37 x7) (constant (F := Ideal) S256x256 FTy.f32 0#32)) (k0_pay46 x4) (k0_pay47 x5))
      (k0_pay49 (bSums x7 tri) (k0_pay39 x4) (k0_pay40 x5)) (k0_pay50 (bSums x7 tri) (k0_pay39 x4) (k0_pay40 x5))
      (k0_pay62 pr) (k0_pay63 (k0_pay39 x4)) (k0_pay64 (k0_pay40 x5)))
    (k0_pay70 (k0_pay53 (k0_pay51 (k0_pay39 x4) (k0_pay40 x5)) (k0_pay52 (bSums x7 tri)))) k0_pay71

/-- The backward state after the block. -/
def bwdState (x5 : Vec Ideal S1x256x256 .bf16) (x6 : Vec Ideal S1x256x512 .bf16) (x7 : Vec Ideal S1x1x256x256 .f32)
    (tri : Vec Ideal S1x256x512 .bf16) (st : Vec Ideal S512x256 .f32) : Vec Ideal S512x256 .f32 :=
  k0_pay1 (k0_pay73 (bSums x7 tri) (k0_pay40 x5) (k0_pay41 x6) (k0_pay42 (k0_pay36 tri) (k0_pay37 x7) (constant (F := Ideal) S256x256 FTy.f32 0#32)) st)

/-! ## Their values -/

/-- The output of row `p` at value column `e`: what it reads of the old state and of the chunk's rows in `R`. -/
def blockOut (R : ℕ → ℕ → Prop) [∀ i j, Decidable (R i j)] (Q K G : ℕ → Fin 256 → ℝ) (V : ℕ → Fin 512 → ℝ) (S : Fin 256 → Fin 512 → ℝ) (p : ℕ) (e : Fin 512) : ℝ :=
  ∑ d : Fin 256, Q p d * Real.exp (G p d) * S d e + ∑ j : Fin 256, (if R p j then wt Q K G p j else 0) * V j e

/-- The state after the chunk, row `l` being the last one. -/
def blockState (K G : ℕ → Fin 256 → ℝ) (V : ℕ → Fin 512 → ℝ) (S : Fin 256 → Fin 512 → ℝ) (l : ℕ) (d : Fin 256) (e : Fin 512) : ℝ :=
  S d e * Real.exp (G l d) + ∑ j : Fin 256, V j e * (K j d * Real.exp (G l d - G j d))

section
variable {x0 x1 : Vec Ideal S1x256x256 .bf16} {x2 : Vec Ideal S1x256x512 .bf16} {x3 : Vec Ideal S1x1x256x256 .f32}
  {tri : Vec Ideal S1x256x512 .bf16} {pr : Vec Ideal S1x128x128 .i32} {st : Vec Ideal S512x256 .f32}
  {A K g : ℕ → Fin 256 → ℝ} {V : ℕ → Fin 512 → ℝ} {S : Fin 256 → Fin 512 → ℝ}
  (h0 : ∀ u d : Fin 256, x0 (ix3 0 u d) = ((A u d : ℝ) : EReal))
  (h1 : ∀ u d : Fin 256, x1 (ix3 0 u d) = ((K u d : ℝ) : EReal))
  (h2 : ∀ (u : Fin 256) (e : Fin 512), x2 (ix3 0 u e) = ((V u e : ℝ) : EReal))
  (h3 : ∀ u d : Fin 256, x3 (ix4 0 0 u d) = ((g u d : ℝ) : EReal))
  (hs : ∀ (e : Fin 512) (d : Fin 256), st (ix2 e d) = ((S d e : ℝ) : EReal))
include h0 h1 h2 h3 hs

theorem fwdOut_eq (hg : ∀ u d, g u d ≤ 0)
    (ht : ∀ (i : Fin 256) (u : Fin 512), tri (ix3 0 i u) = if (u : ℕ) % 256 ≤ i then (1 : EReal) else 0)
    (hp : ∀ i j : Fin 128, pr (ix3 0 i j) = pairW i j) (p : Fin 256) (e : Fin 512) :
    fwdOut x0 x1 x2 x3 tri pr st (ix3 0 p e)
      = ((blockOut (fun i j => j ≤ i) (fun i d => A i d * (1 / 16)) K (upto g) V S p e : ℝ) : EReal) := by
  have hb := sums_fwd h3 ht
  have hq := queries_fwd h0
  have hk := keys_fwd h1
  have hG := falls_upto hg
  have l0 := fwd0 hb hq hk
  have l1 := fwd1 hb hq hk
  have l2 := fwd2 hb hq hk
  have l3 := fwd3 hb hq hk
  have l4 := fwd4 hb hq hk
  have l5 := fwd5 hb hq hk
  have l6 := fwd6 hb hq hk
  have l7 := fwd7 hb hq hk
  unfold fwdOut
  generalize k0_pay11 (k0_pay4 x3 tri) (k0_pay5 x0) (k0_pay6 x1) = m0 at l0 ⊢
  generalize k0_pay12 (k0_pay4 x3 tri) (k0_pay5 x0) (k0_pay6 x1) = m1 at l1 ⊢
  generalize k0_pay15 (k0_pay13 (k0_pay5 x0) (k0_pay6 x1)) (k0_pay14 (k0_pay4 x3 tri)) = m2 at l2 ⊢
  generalize k0_pay16 (k0_pay4 x3 tri) (k0_pay5 x0) (k0_pay6 x1) = m3 at l3 ⊢
  generalize k0_pay17 (k0_pay4 x3 tri) (k0_pay5 x0) (k0_pay6 x1) = m4 at l4 ⊢
  generalize k0_pay22 (k0_pay4 x3 tri) (k0_pay5 x0) (k0_pay6 x1) (k0_pay18 (k0_pay4 x3 tri)) (8#32) (k0_pay19 (iota Kind.tc S256x1 32 [0] iota_S256x1_d0_w32)) (k0_pay20 (iota Kind.tc S256x1 32 [0] iota_S256x1_d0_w32)) (k0_pay21 (iota Kind.tc S256x1 32 [0] iota_S256x1_d0_w32)) 0#1 = m5 at l5 ⊢
  generalize k0_pay25 (k0_pay23 (k0_pay5 x0) (k0_pay6 x1) (iota Kind.tc S256x1 32 [0] iota_S256x1_d0_w32)) (k0_pay24 (k0_pay4 x3 tri)) = m6 at l6 ⊢
  generalize k0_pay26 (k0_pay4 x3 tri) (k0_pay5 x0) (k0_pay6 x1) (iota Kind.tc S256x1 32 [0] iota_S256x1_d0_w32) = m7 at l7 ⊢
  have d0 : ∀ i j : Fin 128, k0_pay31 m1 m2 m3 m4 m5 m6 m7 (k0_pay28 pr) (k0_pay29 (k0_pay5 x0)) (k0_pay30 (k0_pay6 x1)) 8#32 (ix2 i j)
      = ((if (j : ℕ) ≤ i then wt (fun i d => A i d * (1 / 16)) K (upto g) i j else 0 : ℝ) : EReal) := fun i j => by
    pointwise [k0_pay31, k0_pay28, k0_pay29, k0_pay30]
    simp only [l1 _ _, l2 _ _, l3 _ _, l4 _ _, l5 _ _, l6 _ _, l7 _ _, hq _ _, hk _ _, hp _ _, dot_coe]
    have h := pick_fwd (Q := fun i d => A i d * (1 / 16)) (K := K) hG (o := 0) (Or.inl rfl) i.isLt j.isLt
    simp only [Nat.zero_add] at h
    exact h
  have d1 : ∀ i j : Fin 128, k0_pay32 m1 m2 m3 m4 m5 m6 m7 (k0_pay28 pr) (k0_pay29 (k0_pay5 x0)) (k0_pay30 (k0_pay6 x1)) 8#32 (ix2 i j)
      = ((if (j : ℕ) ≤ i then wt (fun i d => A i d * (1 / 16)) K (upto g) (128 + i) (128 + j) else 0 : ℝ) : EReal) := fun i j => by
    pointwise [k0_pay32, k0_pay28, k0_pay29, k0_pay30]
    simp only [l1 _ _, l2 _ _, l3 _ _, l4 _ _, l5 _ _, l6 _ _, l7 _ _, hq _ _, hk _ _, hp _ _, dot_coe]
    exact pick_fwd (Q := fun i d => A i d * (1 / 16)) (K := K) hG (o := 128) (Or.inr rfl) i.isLt j.isLt
  have d2 : ∀ i j : Fin 128, k0_pay27 m0 (ix2 i j) = ((wt (fun i d => A i d * (1 / 16)) K (upto g) (128 + i) j : ℝ) : EReal) := fun i j => by
    pointwise [k0_pay27]
    simp only [l0 _ _, dot_coe]
    exact congrArg Real.toEReal (dot_falls hG (Q := fun i d => A i d * (1 / 16)) (K := K) (i := 128 + i) (j := j) (s := 128) (by omega) (by omega) (by omega) (by omega))
  have d3 : ∀ (p : Fin 256) (e : Fin 512), k0_pay10 st (k0_pay9 x3 tri x0) (ix2 p e)
      = ((∑ d : Fin 256, A p d * (1 / 16) * Real.exp (upto g p d) * S d e : ℝ) : EReal) := fun p e => by
    pointwise [k0_pay10, k0_pay9]
    simp only [hb _ _, hq _ _, hs _ _, exp2_log, ← EReal.coe_mul, dot_coe]
    rw [sum_coe]
  have d4 : ∀ (p : Fin 256) (e : Fin 512), k0_pay7 x2 (ix2 p e) = ((V p e : ℝ) : EReal) := fun p e => by
    pointwise [k0_pay7]
    exact h2 p e
  generalize k0_pay31 m1 m2 m3 m4 m5 m6 m7 _ _ _ _ = w0 at d0 ⊢
  generalize k0_pay32 m1 m2 m3 m4 m5 m6 m7 _ _ _ _ = w1 at d1 ⊢
  generalize k0_pay27 m0 = w2 at d2 ⊢
  generalize k0_pay10 st (k0_pay9 x3 tri x0) = w3 at d3 ⊢
  pointwise [k0_pay34, k0_pay33]
  simp only [d0 _ _, d1 _ _, d2 _ _, d3 _ _, d4 _ _, dot_coe']
  unfold blockOut
  rw [sum_halves (fun j => (if j ≤ (p : ℕ) then wt (fun i d => A i d * (1 / 16)) K (upto g) p j else 0) * V j e)]
  split_ifs with h
  · rw [← EReal.coe_add]
    congr 2
    rw [Finset.sum_eq_zero (s := Finset.univ) (f := fun j : Fin 128 => (if 128 + (j : ℕ) ≤ (p : ℕ) then wt (fun i d => A i d * (1 / 16)) K (upto g) p (128 + j) else 0) * V (128 + j) e)
      (fun j _ => by rw [if_neg (by omega), zero_mul]), add_zero]
  · rw [← EReal.coe_add, ← EReal.coe_add, add_comm (∑ j : Fin 128, _ : ℝ) (∑ j : Fin 128, _)]
    have hh : 128 + ((p : ℕ) - 128) = p := by omega
    simp only [hh]
    congr 3
    · exact Finset.sum_congr rfl fun j _ => by rw [if_pos (show (j : ℕ) ≤ p by omega)]
    · refine Finset.sum_congr rfl fun j _ => ?_
      congr 1
      exact if_congr (by omega) rfl rfl

theorem bwdOut_eq (hg : ∀ u d, g u d ≤ 0)
    (ht : ∀ (i : Fin 256) (u : Fin 512), tri (ix3 0 i u) = if (i : ℕ) ≤ (u : ℕ) % 256 then (1 : EReal) else 0)
    (hp : ∀ i j : Fin 128, pr (ix3 0 i j) = pairW j i) (p : Fin 256) (e : Fin 512) :
    bwdOut x0 x1 x2 x3 tri pr st (ix3 0 p e)
      = ((blockOut (fun i j => i ≤ j) (fun i d => A i d * (1 / 16)) K (from' g) V S p e : ℝ) : EReal) := by
  have hb : ReadsLog (bSums x3 tri) (from' g) := sums_bwd h3 ht
  have hq := queries_bwd h0
  have hk := keys_bwd h1
  have hG := rises_from hg
  have l0 := bwd0 (t := k0_pay36 tri) (l := k0_pay37 x3) rfl rfl rfl hb hq hk
  have l1 := bwd1 (t := k0_pay36 tri) (l := k0_pay37 x3) rfl rfl rfl hb hq hk
  have l2 := bwd2 hb hq hk
  have l3 := bwd3 hb hq hk
  have l4 := bwd4 hb hq hk
  have l5 := bwd5 hb hq hk
  have l6 := bwd6 hb hq hk
  have l7 := bwd7 hb hq hk
  unfold bwdOut
  generalize k0_pay44 (k0_pay36 tri) (k0_pay37 x3) (constant (F := Ideal) S256x256 FTy.f32 0#32) x0 x1 = m0 at l0 ⊢
  generalize k0_pay48 (bSums x3 tri) (k0_pay45 (k0_pay36 tri) (k0_pay37 x3) (constant (F := Ideal) S256x256 FTy.f32 0#32)) (k0_pay46 x0) (k0_pay47 x1) = m1 at l1 ⊢
  generalize k0_pay49 (bSums x3 tri) (k0_pay39 x0) (k0_pay40 x1) = m2 at l2 ⊢
  generalize k0_pay50 (bSums x3 tri) (k0_pay39 x0) (k0_pay40 x1) = m3 at l3 ⊢
  generalize k0_pay53 (k0_pay51 (k0_pay39 x0) (k0_pay40 x1)) (k0_pay52 (bSums x3 tri)) = m4 at l4 ⊢
  generalize k0_pay54 (bSums x3 tri) (k0_pay39 x0) (k0_pay40 x1) (iota Kind.tc S256x1 32 [0] iota_S256x1_d0_w32) = m5 at l5 ⊢
  generalize k0_pay57 (bSums x3 tri) (k0_pay39 x0) (k0_pay40 x1) (k0_pay55 (bSums x3 tri)) (4#32) (k0_pay56 (iota Kind.tc S256x1 32 [0] iota_S256x1_d0_w32)) = m6 at l6 ⊢
  generalize k0_pay60 (bSums x3 tri) (k0_pay39 x0) (k0_pay40 x1) (k0_pay58 (bSums x3 tri)) (k0_pay59 (iota Kind.tc S256x1 32 [0] iota_S256x1_d0_w32)) = m7 at l7 ⊢
  have d0 : ∀ i j : Fin 128, k0_pay68 m5 m6 m7 (k0_pay62 pr) (k0_pay65 (k0_pay39 x0) (k0_pay40 x1) m1 m2 m3 pr) (k0_pay66 m4) k0_pay67 (ix2 i j)
      = ((if (i : ℕ) ≤ j then wt (fun i d => A i d * (1 / 16)) K (from' g) i j else 0 : ℝ) : EReal) := fun i j => by
    pointwise [k0_pay68, k0_pay65, k0_pay66, k0_pay67, k0_pay62, k0_pay63, k0_pay64]
    simp only [l1 _ _, l2 _ _, l3 _ _, l4 _ _, l5 _ _, l6 _ _, l7 _ _, hq _ _, hk _ _, hp _ _, dot_coe]
    have h := pick_bwd (Q := fun i d => A i d * (1 / 16)) (K := K) hG (o := 0) (Or.inl rfl) i.isLt j.isLt
    simp only [Nat.zero_add] at h
    exact h
  have d2 : ∀ i j : Fin 128, k0_pay61 m0 (ix2 i j) = ((wt (fun i d => A i d * (1 / 16)) K (from' g) i (128 + j) : ℝ) : EReal) := fun i j => by
    pointwise [k0_pay61]
    simp only [l0 _ _, dot_coe]
    exact congrArg Real.toEReal (dot_rises hG (Q := fun i d => A i d * (1 / 16)) (K := K) (i := i) (j := 128 + j) (s := 128) (by omega) (by omega) (by omega) (by omega))
  have d3 : ∀ (p : Fin 256) (e : Fin 512), k0_pay43 (k0_pay36 tri) (k0_pay37 x3) (constant (F := Ideal) S256x256 FTy.f32 0#32) x0 st (ix2 p e)
      = ((∑ d : Fin 256, A p d * (1 / 16) * Real.exp (from' g p d) * S d e : ℝ) : EReal) := fun p e => by
    pointwise [k0_pay43]
    simp only [hb _ _, hq _ _, hs _ _, exp2_log, ← EReal.coe_mul, dot_coe]
    rw [sum_coe]
  have d4 : ∀ (p : Fin 256) (e : Fin 512), k0_pay41 x2 (ix2 p e) = ((V p e : ℝ) : EReal) := fun p e => by
    pointwise [k0_pay41]
    exact h2 p e
  have d5 : ∀ i j : Fin 128, k0_pay62 pr (ix2 i j) = pairW j i := fun i j => by
    pointwise [k0_pay62]
    exact hp i j
  generalize k0_pay68 m5 m6 m7 _ _ _ _ = w0 at d0 ⊢
  generalize k0_pay61 m0 = w2 at d2 ⊢
  generalize k0_pay43 (k0_pay36 tri) (k0_pay37 x3) (constant (F := Ideal) S256x256 FTy.f32 0#32) x0 st = w3 at d3 ⊢
  pointwise [k0_pay72, k0_pay69, k0_pay70, k0_pay71, k0_pay63, k0_pay64]
  simp only [l1 _ _, l2 _ _, l3 _ _, l4 _ _, l5 _ _, l6 _ _, l7 _ _, hq _ _, hk _ _, d0 _ _, d2 _ _, d3 _ _, d4 _ _, d5 _ _, dot_coe, dot_coe']
  unfold blockOut
  rw [sum_halves (fun j => (if (p : ℕ) ≤ j then wt (fun i d => A i d * (1 / 16)) K (from' g) p j else 0) * V j e)]
  split_ifs with h
  · rw [← EReal.coe_add, ← EReal.coe_add]
    congr 3
    exact Finset.sum_congr rfl fun j _ => by rw [if_pos (show (p : ℕ) ≤ 128 + j by omega)]
  · have hh : 128 + ((p : ℕ) - 128) = p := by omega
    have e1 : ∀ x : Fin 128, _ := fun x => congrArg (· * ((V (128 + x) e : ℝ) : EReal))
      (pick_bwd (Q := fun i d => A i d * (1 / 16)) (K := K) hG (o := 128) (Or.inr rfl) (i := (p : ℕ) - 128) (j := x) (by omega) x.isLt)
    refine (congrArg (_ + ·) (Finset.sum_congr rfl fun x _ => e1 x)).trans ?_
    simp only [hh, dot_coe']
    rw [← EReal.coe_add]
    congr 2
    rw [Finset.sum_eq_zero (s := Finset.univ) (f := fun j : Fin 128 => (if (p : ℕ) ≤ j then wt (fun i d => A i d * (1 / 16)) K (from' g) p j else 0) * V j e)
      (fun j _ => by rw [if_neg (by omega), zero_mul]), zero_add]
    refine Finset.sum_congr rfl fun j _ => ?_
    congr 1
    exact if_congr (by omega) rfl rfl

omit h0

theorem fwdState_eq
    (ht : ∀ (i : Fin 256) (u : Fin 512), tri (ix3 0 i u) = if (u : ℕ) % 256 ≤ i then (1 : EReal) else 0) (e : Fin 512) (d : Fin 256) :
    fwdState x1 x2 x3 tri st (ix2 e d) = ((blockState K (upto g) V S 255 d e : ℝ) : EReal) := by
  have hb := sums_fwd h3 ht
  have hk := keys_fwd h1
  unfold fwdState
  pointwise [k0_pay35, k0_pay7, k0_pay8]
  simp only [hb _ _, hk _ _, hs _ _, h2 _ _, ← EReal.coe_sub, ← sub_mul, exp2_log, ← EReal.coe_mul]
  rw [sum_coe, ← EReal.coe_add]
  rfl

theorem bwdState_eq
    (ht : ∀ (i : Fin 256) (u : Fin 512), tri (ix3 0 i u) = if (i : ℕ) ≤ (u : ℕ) % 256 then (1 : EReal) else 0) (e : Fin 512) (d : Fin 256) :
    bwdState x1 x2 x3 tri st (ix2 e d) = ((blockState K (from' g) V S 0 d e : ℝ) : EReal) := by
  have hb : ReadsLog (k0_pay38 (k0_pay36 tri) (k0_pay37 x3) (constant (F := Ideal) S256x256 FTy.f32 0#32)) (from' g) := sums_bwd h3 ht
  have hk := keys_bwd h1
  unfold bwdState
  pointwise [k0_pay1, k0_pay73, k0_pay41, k0_pay42]
  simp only [hb _ _, hk _ _, hs _ _, h2 _ _, ← EReal.coe_sub, ← sub_mul, exp2_log, ← EReal.coe_mul]
  rw [sum_coe, ← EReal.coe_add]
  rfl

end

end Cert.Proof

end
-- ==== Proof.Step.lean ====
/- What a grid point of the kernel leaves, from what the point before it left. -/
module

public import proofs.«01_k».proof.Proof.Points
public import proofs.«01_k».proof.Proof.Blocks
public import Idealize.ShloMosaic.Lib.Pipeline.ReadBack

@[expose] public section

set_option maxRecDepth 16384
noncomputable section

namespace Cert.Proof

open Idealize Idealize.ShloMosaic Cert.KernelIdeal Cert.KernelIdeal.Gen

variable (m : (ℓ : Loc nD τ sig) → Buf (Elt Ideal) ℓ) (c : Dev nD)

/-- The forward scan's table of ones, as a point loads it. -/
def triF : Vec Ideal S1x256x512 .bf16 := fun x => V m c main_v154 (ix3 0 (x 1) (x 2))
/-- The backward scan's. -/
def triB : Vec Ideal S1x256x512 .bf16 := fun x => V m c main_v154 (ix3 1 (x 1) (x 2))
/-- The forward scan's table of levels. -/
def pairF : Vec Ideal S1x128x128 .i32 := fun x => V m c main_v155 (ix3 0 (Fin.castLE (by decide) (x 1)) (Fin.castLE (by decide) (x 2)))
/-- The backward scan's. -/
def pairB : Vec Ideal S1x128x128 .i32 := fun x => V m c main_v155 (ix3 1 (Fin.castLE (by decide) (x 1)) (Fin.castLE (by decide) (x 2)))

theorem block_tri (t : Fin cfg0.N) (i : Fin 2) (u : Fin 256) (d : Fin 512) :
    iblk m c 8 t (ix3 i u d) = V m c main_v154 (ix3 i u d) := by
  have e := (index_tables t).1
  blk_ext [iblk, e]

theorem block_pair (t : Fin cfg0.N) (i : Fin 2) (u d : Fin 256) :
    iblk m c 9 t (ix3 i u d) = V m c main_v155 (ix3 i u d) := by
  have e := (index_tables t).2
  blk_ext [iblk, e]

theorem load_triF (t : Fin cfg0.N) : View.readAt (Elt Ideal) (ms0_8 t).view ((Rect.unit ![0,0,0] ![1,256,512] inb_S2x256x512_S1x256x512_0_0_0).withinL
    (Rect.unit ![0,0,0] ![1,256,512] inb_S1x256x512_S1x256x512_0_0_0).toLoadRect k0_part1_skel._proof_2) ((hs0_8 t).unread (iblk m c 8 t)) = triF m c := by
  funext x
  refine (congrFun ((hs0_8 t).read_unread (iblk m c 8 t)) _).trans ?_
  refine Eq.trans (congrArg (iblk m c 8 t) ?_) (block_tri m c t 0 _ _)
  have h0 : (x 0 : ℕ) < 1 := (x 0).isLt
  funext a
  apply Fin.ext
  match a with
  | ⟨0, _⟩ => show 0 + 0 + 1 * (x 0 : ℕ) = 0; omega
  | ⟨1, _⟩ => show 0 + 0 + 1 * (x 1 : ℕ) = x 1; omega
  | ⟨2, _⟩ => show 0 + 0 + 1 * (x 2 : ℕ) = x 2; omega

theorem load_triB (t : Fin cfg0.N) : View.readAt (Elt Ideal) (ms0_8 t).view ((Rect.unit ![1,0,0] ![1,256,512] inb_S2x256x512_S1x256x512_1_0_0).withinL
    (Rect.unit ![0,0,0] ![1,256,512] inb_S1x256x512_S1x256x512_0_0_0).toLoadRect k0_part8_skel._proof_3) ((hs0_8 t).unread (iblk m c 8 t)) = triB m c := by
  funext x
  refine (congrFun ((hs0_8 t).read_unread (iblk m c 8 t)) _).trans ?_
  refine Eq.trans (congrArg (iblk m c 8 t) ?_) (block_tri m c t 1 _ _)
  have h0 : (x 0 : ℕ) < 1 := (x 0).isLt
  funext a
  apply Fin.ext
  match a with
  | ⟨0, _⟩ => show 1 + 0 + 1 * (x 0 : ℕ) = 1; omega
  | ⟨1, _⟩ => show 0 + 0 + 1 * (x 1 : ℕ) = x 1; omega
  | ⟨2, _⟩ => show 0 + 0 + 1 * (x 2 : ℕ) = x 2; omega

theorem load_pairF (t : Fin cfg0.N) : View.readAt (Elt Ideal) (ms0_9 t).view ((Rect.unit ![0,0,0] ![1,256,256] inb_S2x256x256_S1x256x256_0_0_0).withinL
    (Rect.unit ![0,0,0] ![1,128,128] inb_S1x256x256_S1x128x128_0_0_0).toLoadRect k0_part5_skel._proof_1) ((hs0_9 t).unread (iblk m c 9 t)) = pairF m c := by
  funext x
  refine (congrFun ((hs0_9 t).read_unread (iblk m c 9 t)) _).trans ?_
  refine Eq.trans (congrArg (iblk m c 9 t) ?_) (block_pair m c t 0 _ _)
  have h0 : (x 0 : ℕ) < 1 := (x 0).isLt
  funext a
  apply Fin.ext
  match a with
  | ⟨0, _⟩ => show 0 + 0 + 1 * (x 0 : ℕ) = 0; omega
  | ⟨1, _⟩ => show 0 + 0 + 1 * (x 1 : ℕ) = x 1; omega
  | ⟨2, _⟩ => show 0 + 0 + 1 * (x 2 : ℕ) = x 2; omega

theorem load_pairB (t : Fin cfg0.N) : View.readAt (Elt Ideal) (ms0_9 t).view ((Rect.unit ![1,0,0] ![1,256,256] inb_S2x256x256_S1x256x256_1_0_0).withinL
    (Rect.unit ![0,0,0] ![1,128,128] inb_S1x256x256_S1x128x128_0_0_0).toLoadRect k0_part5_skel._proof_1) ((hs0_9 t).unread (iblk m c 9 t)) = pairB m c := by
  funext x
  refine (congrFun ((hs0_9 t).read_unread (iblk m c 9 t)) _).trans ?_
  refine Eq.trans (congrArg (iblk m c 9 t) ?_) (block_pair m c t 1 _ _)
  have h0 : (x 0 : ℕ) < 1 := (x 0).isLt
  funext a
  apply Fin.ext
  match a with
  | ⟨0, _⟩ => show 1 + 0 + 1 * (x 0 : ℕ) = 1; omega
  | ⟨1, _⟩ => show 0 + 0 + 1 * (x 1 : ℕ) = x 1; omega
  | ⟨2, _⟩ => show 0 + 0 + 1 * (x 2 : ℕ) = x 2; omega

/-! ## A point that is not the first of its scan: from what the point before left -/

theorem next_out_fwd (t : Fin cfg0.N) (h : ¬ t.val % 9 = 0) :
    (outsAt0 m c t.val t.isLt).1 = fwdOut (X0_0 m c t) (X0_1 m c t) (X0_2 m c t) (iblk m c 3 t) (triF m c) (pairF m c)
      (outsAt0 m c (t.val - 1) (by omega)).2.2.1 := by
  rw [outsAt0_B m c t h]
  frame_out
  simp only [read_unread_whole]
  rw [load_triF, load_pairF]
  rfl

/-- At the first point of a scan the state is zero. -/
theorem first_out_fwd (t : Fin cfg0.N) (h : t.val % 9 = 0) :
    (outsAt0 m c t.val t.isLt).1 = fwdOut (X0_0 m c t) (X0_1 m c t) (X0_2 m c t) (iblk m c 3 t) (triF m c) (pairF m c) (k0_pay2 (F := Ideal)) := by
  rw [outsAt0_A m c t h]
  frame_out
  rw [load_triF, load_pairF]
  rfl

theorem next_out_bwd (t : Fin cfg0.N) (h : ¬ t.val % 9 = 0) :
    (outsAt0 m c t.val t.isLt).2.1 = bwdOut (X0_4 m c t) (X0_5 m c t) (X0_6 m c t) (iblk m c 7 t) (triB m c) (pairB m c)
      (outsAt0 m c (t.val - 1) (by omega)).2.2.2 := by
  rw [outsAt0_B m c t h]
  frame_out
  simp only [read_unread_whole]
  rw [load_triB, load_pairB]
  rfl

theorem first_out_bwd (t : Fin cfg0.N) (h : t.val % 9 = 0) :
    (outsAt0 m c t.val t.isLt).2.1 = bwdOut (X0_4 m c t) (X0_5 m c t) (X0_6 m c t) (iblk m c 7 t) (triB m c) (pairB m c) (k0_pay3 (F := Ideal)) := by
  rw [outsAt0_A m c t h]
  frame_out
  rw [load_triB, load_pairB]
  rfl

theorem next_state_fwd (t : Fin cfg0.N) (h : ¬ t.val % 9 = 0) :
    (outsAt0 m c t.val t.isLt).2.2.1 = fwdState (X0_1 m c t) (X0_2 m c t) (iblk m c 3 t) (triF m c)
      (outsAt0 m c (t.val - 1) (by omega)).2.2.1 := by
  rw [outsAt0_B m c t h]
  frame_out
  simp only [read_unread_whole]
  rw [load_triF]
  rfl

theorem first_state_fwd (t : Fin cfg0.N) (h : t.val % 9 = 0) :
    (outsAt0 m c t.val t.isLt).2.2.1 = fwdState (X0_1 m c t) (X0_2 m c t) (iblk m c 3 t) (triF m c) (k0_pay2 (F := Ideal)) := by
  rw [outsAt0_A m c t h]
  frame_out
  rw [load_triF]
  rfl

theorem next_state_bwd (t : Fin cfg0.N) (h : ¬ t.val % 9 = 0) :
    (outsAt0 m c t.val t.isLt).2.2.2 = bwdState (X0_5 m c t) (X0_6 m c t) (iblk m c 7 t) (triB m c)
      (outsAt0 m c (t.val - 1) (by omega)).2.2.2 := by
  rw [outsAt0_B m c t h]
  frame_out
  simp only [read_unread_whole]
  rw [load_triB]
  rfl

theorem first_state_bwd (t : Fin cfg0.N) (h : t.val % 9 = 0) :
    (outsAt0 m c t.val t.isLt).2.2.2 = bwdState (X0_5 m c t) (X0_6 m c t) (iblk m c 7 t) (triB m c) (k0_pay3 (F := Ideal)) := by
  rw [outsAt0_A m c t h]
  frame_out
  rw [load_triB]
  rfl

end Cert.Proof
-- ==== Proof.Tables.lean ====
/- The two tables that the program builds before its call: the triangles of ones, and the level of each pair of rows. -/
module

public import proofs.«01_k».proof.Proof.Points
public import Idealize.ShloMosaic.Lib.StableHlo.ReadAt
public import Idealize.ShloMosaic.Lib.Tactic.WordOmega

@[expose] public section

set_option maxRecDepth 16384
noncomputable section

namespace Cert.Proof

open Idealize Idealize.ShloMosaic Cert.KernelIdeal Cert.KernelIdeal.Gen

variable (m : (ℓ : Loc nD τ sig) → Buf (Elt Ideal) ℓ) (c : Dev nD)

theorem le_word (a b : ℕ) (ha : a < 256) (hb : b < 256) :
    Scalar.select (IntOp.cmpi .sle (BitVec.ofNat 32 a) (BitVec.ofNat 32 b)) (1 : EReal) 0 = if a ≤ b then 1 else 0 := by
  split <;> word_omega

theorem tri_fwd (i : Fin 256) (u : Fin 512) :
    V m c main_v154 (ix3 0 i u) = if (u : ℕ) % 256 ≤ i then (1 : EReal) else 0 := by
  unfold V
  after_reads_at
  try simp only [id_eq]
  try pointwise
  repeat (after_reads_at; try simp only [id_eq]; try pointwise)
  split
  · rw [le_word _ _ (by omega) (by omega), Nat.mod_eq_of_lt (by omega)]
  · rw [le_word _ _ (by omega) (by omega), show (u : ℕ) % 256 = u - 256 by omega]

theorem tri_bwd (i : Fin 256) (u : Fin 512) :
    V m c main_v154 (ix3 1 i u) = if (i : ℕ) ≤ u % 256 then (1 : EReal) else 0 := by
  unfold V
  after_reads_at
  try simp only [id_eq]
  try pointwise
  repeat (after_reads_at; try simp only [id_eq]; try pointwise)
  split
  · rw [le_word _ _ (by omega) (by omega), Nat.mod_eq_of_lt (by omega)]
  · rw [le_word _ _ (by omega) (by omega), show (u : ℕ) % 256 = u - 256 by omega]

theorem pair_fwd (i j : Fin 128) :
    V m c main_v155 (ix3 0 (Fin.castLE (by omega) i) (Fin.castLE (by omega) j)) = pairW i j := by
  unfold V
  after_reads_at
  try simp only [id_eq]
  try pointwise
  repeat (after_reads_at; try simp only [id_eq]; try pointwise)
  revert i j
  decide +kernel

theorem pair_swap (i j : Fin 256) : V m c main_v155 (ix3 1 i j) = V m c main_v155 (ix3 0 j i) := by
  unfold V
  after_reads_at
  try simp only [id_eq]
  try pointwise
  repeat (after_reads_at; try simp only [id_eq]; try pointwise)

theorem pair_bwd (i j : Fin 128) :
    V m c main_v155 (ix3 1 (Fin.castLE (by omega) i) (Fin.castLE (by omega) j)) = pairW j i :=
  (pair_swap m c _ _).trans (pair_fwd m c j i)

end Cert.Proof
-- ==== Proof.Chunk.lean ====
/- A grid point of the kernel carries the recurrence over 256 tokens: the block's outputs are the recurrence's, and the
   state it leaves is the recurrence's state. Forward blocks hold the tokens in order, backward blocks in reverse. -/
module

public import proofs.«01_k».proof.Proof.Blocks

@[expose] public section

noncomputable section

namespace Cert.Proof

open Finset

theorem run_zero (g : ℕ → ℝ) (n : ℕ) : run g n 0 = g n := by simp [run]

/-- Forward running sums are the recurrence's. -/
theorem upto_run (γ : Fin 256 → ℕ → ℝ) (n : ℕ) {i : ℕ} (hi : i < 256) (d : Fin 256) :
    upto (fun u d => γ d (n + u)) i d = run (γ d) n i := by
  unfold upto run
  rw [Fin.sum_univ_eq_sum_range (fun u => if u ≤ i then γ d (n + u) else 0) 256, ← Finset.sum_filter]
  refine Finset.sum_congr ?_ fun _ _ => rfl
  ext u; simp only [mem_filter, mem_range]; omega

/-- Backward running sums are the recurrence's, the chunk being read from its last row. -/
theorem from_run (γ : Fin 256 → ℕ → ℝ) (n : ℕ) {i : ℕ} (hi : i < 256) (d : Fin 256) :
    from' (fun u d => γ d (n + (255 - u))) i d = run (γ d) n (255 - i) := by
  unfold from' run
  rw [Fin.sum_univ_eq_sum_range (fun u => if i ≤ u then γ d (n + (255 - u)) else 0) 256, ← Finset.sum_filter]
  refine Finset.sum_bij' (fun u _ => 255 - u) (fun u _ => 255 - u) ?_ ?_ ?_ ?_ ?_ <;> (intro u hu; simp only [mem_filter, mem_range] at hu ⊢) <;> omega

variable (q γ k : Fin 256 → ℕ → ℝ) (v : Fin 512 → ℕ → ℝ) (n : ℕ)

theorem out_fwd {p : ℕ} (hp : p < 256) (e : Fin 512) :
    blockOut (fun i j => j ≤ i) (fun i d => q d (n + i)) (fun i d => k d (n + i)) (upto fun u d => γ d (n + u)) (fun i e => v e (n + i))
        (fun d e => state (γ d) (k d) (v e) n) p e
      = outAt q γ k (v e) (n + p) := by
  rw [outAt_chunk]
  unfold blockOut
  congr 1
  · exact Finset.sum_congr rfl fun d _ => by rw [upto_run γ n hp]
  · rw [Fin.sum_univ_eq_sum_range (fun j => (if j ≤ p then wt (fun i d => q d (n + i)) (fun i d => k d (n + i)) (upto fun u d => γ d (n + u)) p j else 0) * v e (n + j)) 256,
      Finset.range_eq_Ico, ← Finset.sum_Ico_consecutive _ (Nat.zero_le (p + 1)) (show p + 1 ≤ 256 by omega),
      Finset.sum_eq_zero (s := Finset.Ico (p + 1) 256) (fun j hj => by rw [if_neg (by have := (Finset.mem_Ico.mp hj).1; omega), zero_mul]), add_zero]
    rw [← Finset.range_eq_Ico]
    refine Finset.sum_congr rfl fun j hj => ?_
    have hj' := Finset.mem_range.mp hj
    rw [if_pos (by omega)]
    congr 1
    exact Finset.sum_congr rfl fun d _ => by rw [upto_run γ n hp, upto_run γ n (show j < 256 by omega)]

/-- The backward form of a chunk's sum, its rows counted from the last one. -/
theorem sum_back (f : ℕ → ℝ) : ∑ j : Fin 256, f j = ∑ j : Fin 256, f (255 - j) := by
  rw [← Equiv.sum_comp Fin.revPerm (fun j : Fin 256 => f j)]
  refine Finset.sum_congr rfl fun j _ => congrArg f ?_
  simp only [Fin.revPerm_apply, Fin.val_rev]; omega

theorem out_bwd {p : ℕ} (hp : p < 256) (e : Fin 512) :
    blockOut (fun i j => i ≤ j) (fun i d => q d (n + (255 - i))) (fun i d => k d (n + (255 - i))) (from' fun u d => γ d (n + (255 - u)))
        (fun i e => v e (n + (255 - i))) (fun d e => state (γ d) (k d) (v e) n) p e
      = outAt q γ k (v e) (n + (255 - p)) := by
  rw [← out_fwd q γ k v n (show 255 - p < 256 by omega) e]
  unfold blockOut
  congr 1
  · exact Finset.sum_congr rfl fun d _ => by rw [upto_run γ n (show 255 - p < 256 by omega), from_run γ n hp]
  · rw [sum_back (fun j => (if p ≤ j then wt (fun i d => q d (n + (255 - i))) (fun i d => k d (n + (255 - i))) (from' fun u d => γ d (n + (255 - u))) p j else 0) * v e (n + (255 - j)))]
    refine Finset.sum_congr rfl fun j _ => ?_
    have hj : 255 - (255 - (j : ℕ)) = j := by omega
    rw [hj]
    congr 1
    refine if_congr (by omega) ?_ rfl
    unfold wt
    refine Finset.sum_congr rfl fun d _ => ?_
    simp only [hj, upto_run γ n (show 255 - p < 256 by omega), upto_run γ n j.isLt, from_run γ n hp, from_run γ n (show 255 - (j : ℕ) < 256 by omega)]

theorem state_fwd (d : Fin 256) (e : Fin 512) :
    blockState (fun i d => k d (n + i)) (upto fun u d => γ d (n + u)) (fun i e => v e (n + i)) (fun d e => state (γ d) (k d) (v e) n) 255 d e
      = state (γ d) (k d) (v e) (n + 256) := by
  have h := state_chunk (γ d) (k d) (v e) n 255
  rw [show n + 255 + 1 = n + 256 by omega] at h
  rw [h]
  unfold blockState
  rw [upto_run γ n (by norm_num), mul_comm]
  congr 1
  rw [Fin.sum_univ_eq_sum_range (fun j => v e (n + j) * (k d (n + j) * Real.exp (run (γ d) n 255 - upto (fun u d => γ d (n + u)) j d))) 256]
  refine Finset.sum_congr rfl fun j hj => ?_
  rw [upto_run γ n (Finset.mem_range.mp hj)]; ring

theorem state_bwd (d : Fin 256) (e : Fin 512) :
    blockState (fun i d => k d (n + (255 - i))) (from' fun u d => γ d (n + (255 - u))) (fun i e => v e (n + (255 - i))) (fun d e => state (γ d) (k d) (v e) n) 0 d e
      = state (γ d) (k d) (v e) (n + 256) := by
  rw [← state_fwd]
  unfold blockState
  rw [upto_run γ n (by norm_num), from_run γ n (by norm_num)]
  congr 1
  rw [sum_back (fun j => v e (n + (255 - j)) * (k d (n + (255 - j)) * Real.exp (run (γ d) n (255 - 0) - from' (fun u d => γ d (n + (255 - u))) j d)))]
  refine Finset.sum_congr rfl fun j _ => ?_
  have hj : 255 - (255 - (j : ℕ)) = j := by omega
  rw [upto_run γ n j.isLt, from_run γ n (show 255 - (j : ℕ) < 256 by omega), hj]

end Cert.Proof

end
-- ==== Proof.Sequence.lean ====
/- The sequences that the two scans run over, one for each batch entry and head, and their order of the rows. -/
module

public import proofs.«01_k».proof.Proof.Decay
public import Idealize.ShloMosaic.Lib.Pointwise

@[expose] public section

noncomputable section

namespace Cert.Proof

open Idealize Idealize.ShloMosaic

/-- The forward scan's order of the rows: the context's 256, which are stored last, then the latent's 2048. -/
def rowF (n : ℕ) : ℕ := if n < 256 then 2048 + n else n - 256

/-- The backward scan's: the context's from its end, then the latent's from its end. -/
def rowB (n : ℕ) : ℕ := 2303 - n

/-- The projections' first 4096 columns are the reals `a`, the log-decays are the reals `l`, which are not positive. -/
structure Reals (A : (⟨3, ![8, 2304, 6272]⟩ : Shape).Idx → EReal) (L : (⟨4, ![2, 8, 2304, 1024]⟩ : Shape).Idx → EReal)
    (a : ℕ → ℕ → ℕ → ℝ) (l : ℕ → ℕ → ℕ → ℕ → ℝ) : Prop where
  proj : ∀ (b : Fin 8) (r : Fin 2304) (x : Fin 6272), (x : ℕ) < 4096 → A (ix3 b r x) = ((a b r x : ℝ) : EReal)
  logs : ∀ (s : Fin 2) (b : Fin 8) (r : Fin 2304) (x : Fin 1024), L (ix4 s b r x) = ((l s b r x : ℝ) : EReal)
  le : ∀ s b r x, l s b r x ≤ 0

variable (a : ℕ → ℕ → ℕ → ℝ) (l : ℕ → ℕ → ℕ → ℕ → ℝ) (row : ℕ → ℕ)

/-- Channel `d` of head `h`'s queries, as the scan meets them. -/
def qr (b h : ℕ) (d : Fin 256) (n : ℕ) : ℝ := a b (row n) (256 * h + d)
/-- The queries scaled by the root of their width, 1/16. -/
def qs (b h : ℕ) (d : Fin 256) (n : ℕ) : ℝ := qr a row b h d n * (1 / 16)
/-- The keys. -/
def ks (b h : ℕ) (d : Fin 256) (n : ℕ) : ℝ := a b (row n) (1024 + (256 * h + d))
/-- The values. -/
def vs (b h : ℕ) (e : Fin 512) (n : ℕ) : ℝ := a b (row n) (2048 + (512 * h + e))
/-- The log-decays of direction `s`. -/
def gs (s b h : ℕ) (d : Fin 256) (n : ℕ) : ℝ := l s b (row n) (256 * h + d)

/-- The forward scan's step at which row `r` is met. -/
def stepF (r : ℕ) : ℕ := if r < 2048 then r + 256 else r - 2048
/-- The backward scan's. -/
def stepB (r : ℕ) : ℕ := 2303 - r

/-- Both scans' output at batch entry `b`, step `n`, column `x` (head `x / 512`, channel `x % 512`). -/
def scan (s b n x : ℕ) : ℝ :=
  outAt (qs a row b (x / 512)) (gs l row s b (x / 512)) (ks a row b (x / 512)) (vs a row b (x / 512) ⟨x % 512, Nat.mod_lt _ (by norm_num)⟩) n

theorem scan_at (s b n h : ℕ) (e : Fin 512) :
    scan a l row s b n (512 * h + e) = outAt (qs a row b h) (gs l row s b h) (ks a row b h) (vs a row b h e) n := by
  unfold scan
  have e1 : (512 * h + e.val) / 512 = h := by omega
  have e2 : (⟨(512 * h + e.val) % 512, Nat.mod_lt _ (by norm_num)⟩ : Fin 512) = e := Fin.ext (by dsimp only; omega)
  rw [e1, e2]

/-- The forward scan's array. -/
def scanF : (⟨3, ![8, 2304, 2048]⟩ : Shape).Idx → EReal := fun i => ((scan a l rowF 0 (i 0) (stepF (i 1)) (i 2) : ℝ) : EReal)
/-- The backward scan's. -/
def scanB : (⟨3, ![8, 2304, 2048]⟩ : Shape).Idx → EReal := fun i => ((scan a l rowB 1 (i 0) (stepB (i 1)) (i 2) : ℝ) : EReal)

end Cert.Proof
-- ==== Proof.Scan.lean ====
/- What the kernel's points leave: the recurrence's outputs and states, over the reals. -/
module

public import proofs.«01_k».proof.Proof.Step
public import proofs.«01_k».proof.Proof.Tables
public import proofs.«01_k».proof.Proof.Chunk
public import proofs.«01_k».proof.Proof.Sequence

@[expose] public section

set_option maxRecDepth 16384
noncomputable section

namespace Cert.Proof

open Idealize Idealize.ShloMosaic Cert.KernelIdeal Cert.KernelIdeal.Gen

variable (m : (ℓ : Loc nD τ sig) → Buf (Elt Ideal) ℓ) (c : Dev nD)
  {a : ℕ → ℕ → ℕ → ℝ} {l : ℕ → ℕ → ℕ → ℕ → ℝ}

theorem ld_triF (i : Fin 256) (u : Fin 512) : triF m c (ix3 0 i u) = if (u : ℕ) % 256 ≤ i then (1 : EReal) else 0 := tri_fwd m c i u
theorem ld_triB (i : Fin 256) (u : Fin 512) : triB m c (ix3 0 i u) = if (i : ℕ) ≤ (u : ℕ) % 256 then (1 : EReal) else 0 := tri_bwd m c i u
theorem ld_pairF (i j : Fin 128) : pairF m c (ix3 0 i j) = pairW i j := pair_fwd m c i j
theorem ld_pairB (i j : Fin 128) : pairB m c (ix3 0 i j) = pairW j i := pair_bwd m c i j

variable (hr : Reals (m (c.tc.loc main_arg0)) (m (c.tc.loc main_arg1)) a l)
include hr

/-! ## The forward scan -/

omit hr in
theorem rowF_block (s u : ℕ) (hs : s < 9) (hu : u < 256) : rowF (256 * s + u) = 256 * fblk s + u := by
  unfold rowF fblk
  split <;> (try split) <;> omega

theorem read_q_fwd (t : Fin cfg0.N) (u d : Fin 256) :
    X0_0 m c t (ix3 0 u d) = ((qr a rowF (t.val / 36) (t.val / 9 % 4) d (256 * (t.val % 9) + u) : ℝ) : EReal) := by
  have := point_lt t
  rw [q_fwd, hr.proj _ _ _ (by dsimp only; omega)]
  unfold qr
  rw [rowF_block _ _ (by omega) u.isLt]

theorem read_k_fwd (t : Fin cfg0.N) (u d : Fin 256) :
    X0_1 m c t (ix3 0 u d) = ((ks a rowF (t.val / 36) (t.val / 9 % 4) d (256 * (t.val % 9) + u) : ℝ) : EReal) := by
  have := point_lt t
  rw [k_fwd, hr.proj _ _ _ (by dsimp only; omega)]
  unfold ks
  rw [rowF_block _ _ (by omega) u.isLt]
  congr 2; dsimp only; omega

theorem read_v_fwd (t : Fin cfg0.N) (u : Fin 256) (e : Fin 512) :
    X0_2 m c t (ix3 0 u e) = ((vs a rowF (t.val / 36) (t.val / 9 % 4) e (256 * (t.val % 9) + u) : ℝ) : EReal) := by
  have := point_lt t
  rw [v_fwd, hr.proj _ _ _ (by dsimp only; omega)]
  unfold vs
  rw [rowF_block _ _ (by omega) u.isLt]
  congr 2; dsimp only; omega

theorem read_la_fwd (t : Fin cfg0.N) (u d : Fin 256) :
    iblk m c 3 t (ix4 0 0 u d) = ((gs l rowF 0 (t.val / 36) (t.val / 9 % 4) d (256 * (t.val % 9) + u) : ℝ) : EReal) := by
  have := point_lt t
  rw [la_fwd, hr.logs]
  unfold gs
  rw [rowF_block _ _ (by omega) u.isLt]
  rfl

/-- After a point, the forward scratch holds the recurrence's state after the point's block. -/
theorem scratch_fwd : ∀ (n : ℕ) (h : n < cfg0.N) (e : Fin 512) (d : Fin 256),
    (outsAt0 m c n h).2.2.1 (ix2 e d) = ((state (gs l rowF 0 (n / 36) (n / 9 % 4) d) (ks a rowF (n / 36) (n / 9 % 4) d) (vs a rowF (n / 36) (n / 9 % 4) e) (256 * (n % 9) + 256) : ℝ) : EReal) := by
  intro n
  induction n with
  | zero =>
    intro h e d
    rw [first_state_fwd m c ⟨0, h⟩ rfl, fwdState_eq (K := fun u d => ks a rowF (0 / 36) (0 / 9 % 4) d (256 * (0 % 9) + u)) (V := fun u e => vs a rowF (0 / 36) (0 / 9 % 4) e (256 * (0 % 9) + u)) (g := fun u d => gs l rowF 0 (0 / 36) (0 / 9 % 4) d (256 * (0 % 9) + u))
        (read_k_fwd m c hr ⟨0, h⟩) (read_v_fwd m c hr ⟨0, h⟩) (read_la_fwd m c hr ⟨0, h⟩)
      (S := fun _ _ => 0) (fun _ _ => by pointwise [k0_pay2]; exact EReal.coe_zero.symm) (ld_triF m c)]
    exact congrArg Real.toEReal (state_fwd _ _ _ 0 d e)
  | succ n ih =>
    intro h e d
    by_cases h9 : (n + 1) % 9 = 0
    · rw [first_state_fwd m c ⟨n + 1, h⟩ h9, fwdState_eq (K := fun u d => ks a rowF ((n + 1) / 36) ((n + 1) / 9 % 4) d (256 * ((n + 1) % 9) + u)) (V := fun u e => vs a rowF ((n + 1) / 36) ((n + 1) / 9 % 4) e (256 * ((n + 1) % 9) + u)) (g := fun u d => gs l rowF 0 ((n + 1) / 36) ((n + 1) / 9 % 4) d (256 * ((n + 1) % 9) + u))
        (read_k_fwd m c hr ⟨n + 1, h⟩) (read_v_fwd m c hr ⟨n + 1, h⟩) (read_la_fwd m c hr ⟨n + 1, h⟩)
        (S := fun _ _ => 0) (fun _ _ => by pointwise [k0_pay2]; exact EReal.coe_zero.symm) (ld_triF m c)]
      rw [h9]
      exact congrArg Real.toEReal (state_fwd _ _ _ 0 d e)
    · have e1 : n % 9 + 1 = (n + 1) % 9 := by omega
      have e2 : n / 36 = (n + 1) / 36 := by omega
      have e3 : n / 9 % 4 = (n + 1) / 9 % 4 := by omega
      have e4 : 256 * (n % 9) + 256 = 256 * ((n + 1) % 9) := by omega
      rw [next_state_fwd m c ⟨n + 1, h⟩ h9, fwdState_eq (K := fun u d => ks a rowF ((n + 1) / 36) ((n + 1) / 9 % 4) d (256 * ((n + 1) % 9) + u)) (V := fun u e => vs a rowF ((n + 1) / 36) ((n + 1) / 9 % 4) e (256 * ((n + 1) % 9) + u)) (g := fun u d => gs l rowF 0 ((n + 1) / 36) ((n + 1) / 9 % 4) d (256 * ((n + 1) % 9) + u))
        (read_k_fwd m c hr ⟨n + 1, h⟩) (read_v_fwd m c hr ⟨n + 1, h⟩) (read_la_fwd m c hr ⟨n + 1, h⟩)
        (fun e d => ih (by omega) e d) (ld_triF m c)]
      rw [e2, e3, e4]
      exact congrArg Real.toEReal (state_fwd _ _ _ _ d e)

/-- What a point leaves in the forward output block: the recurrence's outputs at its rows. -/
theorem block_fwd (t : Fin cfg0.N) (p : Fin 256) (e : Fin 512) :
    (outsAt0 m c t.val t.isLt).1 (ix3 0 p e)
      = ((outAt (qs a rowF (t.val / 36) (t.val / 9 % 4)) (gs l rowF 0 (t.val / 36) (t.val / 9 % 4)) (ks a rowF (t.val / 36) (t.val / 9 % 4)) (vs a rowF (t.val / 36) (t.val / 9 % 4) e) (256 * (t.val % 9) + p) : ℝ) : EReal) := by
  by_cases h9 : t.val % 9 = 0
  · rw [first_out_fwd m c t h9, fwdOut_eq (A := fun u d => qr a rowF (t.val / 36) (t.val / 9 % 4) d (256 * (t.val % 9) + u)) (K := fun u d => ks a rowF (t.val / 36) (t.val / 9 % 4) d (256 * (t.val % 9) + u)) (V := fun u e => vs a rowF (t.val / 36) (t.val / 9 % 4) e (256 * (t.val % 9) + u)) (g := fun u d => gs l rowF 0 (t.val / 36) (t.val / 9 % 4) d (256 * (t.val % 9) + u))
        (read_q_fwd m c hr t) (read_k_fwd m c hr t) (read_v_fwd m c hr t) (read_la_fwd m c hr t)
      (S := fun _ _ => 0) (fun _ _ => by pointwise [k0_pay2]; exact EReal.coe_zero.symm) (fun u d => hr.le ..) (ld_triF m c) (ld_pairF m c)]
    rw [h9]
    exact congrArg Real.toEReal (out_fwd (qs a rowF (t.val / 36) (t.val / 9 % 4)) _ _ _ 0 p.isLt e)
  · have e1 : (t.val - 1) / 36 = t.val / 36 := by omega
    have e2 : (t.val - 1) / 9 % 4 = t.val / 9 % 4 := by omega
    have e4 : 256 * ((t.val - 1) % 9) + 256 = 256 * (t.val % 9) := by omega
    rw [next_out_fwd m c t h9, fwdOut_eq (A := fun u d => qr a rowF (t.val / 36) (t.val / 9 % 4) d (256 * (t.val % 9) + u)) (K := fun u d => ks a rowF (t.val / 36) (t.val / 9 % 4) d (256 * (t.val % 9) + u)) (V := fun u e => vs a rowF (t.val / 36) (t.val / 9 % 4) e (256 * (t.val % 9) + u)) (g := fun u d => gs l rowF 0 (t.val / 36) (t.val / 9 % 4) d (256 * (t.val % 9) + u))
        (read_q_fwd m c hr t) (read_k_fwd m c hr t) (read_v_fwd m c hr t) (read_la_fwd m c hr t)
      (fun e d => scratch_fwd m c hr _ _ e d) (fun u d => hr.le ..) (ld_triF m c) (ld_pairF m c)]
    rw [e1, e2, e4]
    exact congrArg Real.toEReal (out_fwd (qs a rowF (t.val / 36) (t.val / 9 % 4)) _ _ _ _ p.isLt e)

/-! ## The backward scan -/

omit hr in
theorem rowB_block (s u : ℕ) (hs : s < 9) (hu : u < 256) : rowB (256 * s + (255 - u)) = 256 * bblk s + u := by
  unfold rowB bblk
  split <;> (try split) <;> omega

theorem read_q_bwd (t : Fin cfg0.N) (u d : Fin 256) :
    X0_4 m c t (ix3 0 u d) = ((qr a rowB (t.val / 36) (t.val / 9 % 4) d (256 * (t.val % 9) + (255 - u)) : ℝ) : EReal) := by
  have := point_lt t
  rw [q_bwd, hr.proj _ _ _ (by dsimp only; omega)]
  unfold qr
  rw [rowB_block _ _ (by omega) u.isLt]

theorem read_k_bwd (t : Fin cfg0.N) (u d : Fin 256) :
    X0_5 m c t (ix3 0 u d) = ((ks a rowB (t.val / 36) (t.val / 9 % 4) d (256 * (t.val % 9) + (255 - u)) : ℝ) : EReal) := by
  have := point_lt t
  rw [k_bwd, hr.proj _ _ _ (by dsimp only; omega)]
  unfold ks
  rw [rowB_block _ _ (by omega) u.isLt]
  congr 2; dsimp only; omega

theorem read_v_bwd (t : Fin cfg0.N) (u : Fin 256) (e : Fin 512) :
    X0_6 m c t (ix3 0 u e) = ((vs a rowB (t.val / 36) (t.val / 9 % 4) e (256 * (t.val % 9) + (255 - u)) : ℝ) : EReal) := by
  have := point_lt t
  rw [v_bwd, hr.proj _ _ _ (by dsimp only; omega)]
  unfold vs
  rw [rowB_block _ _ (by omega) u.isLt]
  congr 2; dsimp only; omega

theorem read_la_bwd (t : Fin cfg0.N) (u d : Fin 256) :
    iblk m c 7 t (ix4 0 0 u d) = ((gs l rowB 1 (t.val / 36) (t.val / 9 % 4) d (256 * (t.val % 9) + (255 - u)) : ℝ) : EReal) := by
  have := point_lt t
  rw [la_bwd, hr.logs]
  unfold gs
  rw [rowB_block _ _ (by omega) u.isLt]
  rfl

/-- After a point, the backward scratch holds the recurrence's state after the point's block. -/
theorem scratch_bwd : ∀ (n : ℕ) (h : n < cfg0.N) (e : Fin 512) (d : Fin 256),
    (outsAt0 m c n h).2.2.2 (ix2 e d) = ((state (gs l rowB 1 (n / 36) (n / 9 % 4) d) (ks a rowB (n / 36) (n / 9 % 4) d) (vs a rowB (n / 36) (n / 9 % 4) e) (256 * (n % 9) + 256) : ℝ) : EReal) := by
  intro n
  induction n with
  | zero =>
    intro h e d
    rw [first_state_bwd m c ⟨0, h⟩ rfl, bwdState_eq (K := fun u d => ks a rowB (0 / 36) (0 / 9 % 4) d (256 * (0 % 9) + (255 - u))) (V := fun u e => vs a rowB (0 / 36) (0 / 9 % 4) e (256 * (0 % 9) + (255 - u))) (g := fun u d => gs l rowB 1 (0 / 36) (0 / 9 % 4) d (256 * (0 % 9) + (255 - u)))
        (read_k_bwd m c hr ⟨0, h⟩) (read_v_bwd m c hr ⟨0, h⟩) (read_la_bwd m c hr ⟨0, h⟩)
      (S := fun _ _ => 0) (fun _ _ => by pointwise [k0_pay3]; exact EReal.coe_zero.symm) (ld_triB m c)]
    exact congrArg Real.toEReal (state_bwd _ _ _ 0 d e)
  | succ n ih =>
    intro h e d
    by_cases h9 : (n + 1) % 9 = 0
    · rw [first_state_bwd m c ⟨n + 1, h⟩ h9, bwdState_eq (K := fun u d => ks a rowB ((n + 1) / 36) ((n + 1) / 9 % 4) d (256 * ((n + 1) % 9) + (255 - u))) (V := fun u e => vs a rowB ((n + 1) / 36) ((n + 1) / 9 % 4) e (256 * ((n + 1) % 9) + (255 - u))) (g := fun u d => gs l rowB 1 ((n + 1) / 36) ((n + 1) / 9 % 4) d (256 * ((n + 1) % 9) + (255 - u)))
        (read_k_bwd m c hr ⟨n + 1, h⟩) (read_v_bwd m c hr ⟨n + 1, h⟩) (read_la_bwd m c hr ⟨n + 1, h⟩)
        (S := fun _ _ => 0) (fun _ _ => by pointwise [k0_pay3]; exact EReal.coe_zero.symm) (ld_triB m c)]
      rw [h9]
      exact congrArg Real.toEReal (state_bwd _ _ _ 0 d e)
    · have e1 : n % 9 + 1 = (n + 1) % 9 := by omega
      have e2 : n / 36 = (n + 1) / 36 := by omega
      have e3 : n / 9 % 4 = (n + 1) / 9 % 4 := by omega
      have e4 : 256 * (n % 9) + 256 = 256 * ((n + 1) % 9) := by omega
      rw [next_state_bwd m c ⟨n + 1, h⟩ h9, bwdState_eq (K := fun u d => ks a rowB ((n + 1) / 36) ((n + 1) / 9 % 4) d (256 * ((n + 1) % 9) + (255 - u))) (V := fun u e => vs a rowB ((n + 1) / 36) ((n + 1) / 9 % 4) e (256 * ((n + 1) % 9) + (255 - u))) (g := fun u d => gs l rowB 1 ((n + 1) / 36) ((n + 1) / 9 % 4) d (256 * ((n + 1) % 9) + (255 - u)))
        (read_k_bwd m c hr ⟨n + 1, h⟩) (read_v_bwd m c hr ⟨n + 1, h⟩) (read_la_bwd m c hr ⟨n + 1, h⟩)
        (fun e d => ih (by omega) e d) (ld_triB m c)]
      rw [e2, e3, e4]
      exact congrArg Real.toEReal (state_bwd _ _ _ _ d e)

/-- What a point leaves in the backward output block: the recurrence's outputs at its rows. -/
theorem block_bwd (t : Fin cfg0.N) (p : Fin 256) (e : Fin 512) :
    (outsAt0 m c t.val t.isLt).2.1 (ix3 0 p e)
      = ((outAt (qs a rowB (t.val / 36) (t.val / 9 % 4)) (gs l rowB 1 (t.val / 36) (t.val / 9 % 4)) (ks a rowB (t.val / 36) (t.val / 9 % 4)) (vs a rowB (t.val / 36) (t.val / 9 % 4) e) (256 * (t.val % 9) + (255 - p)) : ℝ) : EReal) := by
  by_cases h9 : t.val % 9 = 0
  · rw [first_out_bwd m c t h9, bwdOut_eq (A := fun u d => qr a rowB (t.val / 36) (t.val / 9 % 4) d (256 * (t.val % 9) + (255 - u))) (K := fun u d => ks a rowB (t.val / 36) (t.val / 9 % 4) d (256 * (t.val % 9) + (255 - u))) (V := fun u e => vs a rowB (t.val / 36) (t.val / 9 % 4) e (256 * (t.val % 9) + (255 - u))) (g := fun u d => gs l rowB 1 (t.val / 36) (t.val / 9 % 4) d (256 * (t.val % 9) + (255 - u)))
        (read_q_bwd m c hr t) (read_k_bwd m c hr t) (read_v_bwd m c hr t) (read_la_bwd m c hr t)
      (S := fun _ _ => 0) (fun _ _ => by pointwise [k0_pay3]; exact EReal.coe_zero.symm) (fun u d => hr.le ..) (ld_triB m c) (ld_pairB m c)]
    rw [h9]
    exact congrArg Real.toEReal (out_bwd (qs a rowB (t.val / 36) (t.val / 9 % 4)) _ _ _ 0 p.isLt e)
  · have e1 : (t.val - 1) / 36 = t.val / 36 := by omega
    have e2 : (t.val - 1) / 9 % 4 = t.val / 9 % 4 := by omega
    have e4 : 256 * ((t.val - 1) % 9) + 256 = 256 * (t.val % 9) := by omega
    rw [next_out_bwd m c t h9, bwdOut_eq (A := fun u d => qr a rowB (t.val / 36) (t.val / 9 % 4) d (256 * (t.val % 9) + (255 - u))) (K := fun u d => ks a rowB (t.val / 36) (t.val / 9 % 4) d (256 * (t.val % 9) + (255 - u))) (V := fun u e => vs a rowB (t.val / 36) (t.val / 9 % 4) e (256 * (t.val % 9) + (255 - u))) (g := fun u d => gs l rowB 1 (t.val / 36) (t.val / 9 % 4) d (256 * (t.val % 9) + (255 - u)))
        (read_q_bwd m c hr t) (read_k_bwd m c hr t) (read_v_bwd m c hr t) (read_la_bwd m c hr t)
      (fun e d => scratch_bwd m c hr _ _ e d) (fun u d => hr.le ..) (ld_triB m c) (ld_pairB m c)]
    rw [e1, e2, e4]
    exact congrArg Real.toEReal (out_bwd (qs a rowB (t.val / 36) (t.val / 9 % 4)) _ _ _ _ p.isLt e)

end Cert.Proof
-- ==== Proof.Arrays.lean ====
/- What the kernel's two result arrays hold: the recurrences' outputs. -/
module

public import proofs.«01_k».proof.Proof.Scan
public import Idealize.ShloMosaic.Lib.Pipeline.Covers

@[expose] public section

set_option maxRecDepth 16384
noncomputable section

namespace Cert.Proof

open Idealize Idealize.ShloMosaic Cert.KernelIdeal Cert.KernelIdeal.Gen

variable (m : (ℓ : Loc nD τ sig) → Buf (Elt Ideal) ℓ) (c : Dev nD)
  {a : ℕ → ℕ → ℕ → ℝ} {l : ℕ → ℕ → ℕ → ℕ → ℝ}
  (hr : Reals (m (c.tc.loc main_arg0)) (m (c.tc.loc main_arg1)) a l)

theorem step_fblk (s p : ℕ) (hs : s < 9) (hp : p < 256) : stepF (256 * fblk s + p) = 256 * s + p := by
  unfold stepF fblk
  split <;> split <;> omega

theorem step_bblk (s p : ℕ) (hs : s < 9) (hp : p < 256) : stepB (256 * bblk s + p) = 256 * s + (255 - p) := by
  unfold stepB bblk
  split <;> omega

include hr

theorem array_fwd : (dats m 0 c).arrAt 10 cfg0.N = scanF a l := by
  refine (dats m 0 c).arrAt_eq_of_covers 10 _ (by decide +kernel) fun t hf y => ?_
  have e := (index_fwd t).2.2.2.2
  have := point_lt t
  blk_simp
  rw [after0_10]
  idx_vars y
  have e0 : ((((View.whole main_v156_0).slice (win0_10.rect t)).emb (ix3 y0 y1 y2) 0 : ℕ)) = t.val / 36 := by blk_simp [e]
  have e1 : ((((View.whole main_v156_0).slice (win0_10.rect t)).emb (ix3 y0 y1 y2) 1 : ℕ)) = 256 * fblk (t.val % 9) + y1 := by blk_simp [e]; omega
  have e2 : ((((View.whole main_v156_0).slice (win0_10.rect t)).emb (ix3 y0 y1 y2) 2 : ℕ)) = 512 * (t.val / 9 % 4) + y2 := by blk_simp [e]; omega
  unfold scanF
  rw [e0, e1, e2, scan_at, step_fblk _ _ (by omega) y1.isLt, Subsingleton.elim y0 0]
  exact block_fwd m c hr t y1 y2

theorem array_bwd : (dats m 0 c).arrAt 11 cfg0.N = scanB a l := by
  refine (dats m 0 c).arrAt_eq_of_covers 11 _ (by decide +kernel) fun t hf y => ?_
  have e := (index_bwd t).2.2.2.2
  have := point_lt t
  blk_simp
  rw [after0_11]
  idx_vars y
  have e0 : ((((View.whole main_v156_1).slice (win0_11.rect t)).emb (ix3 y0 y1 y2) 0 : ℕ)) = t.val / 36 := by blk_simp [e]
  have e1 : ((((View.whole main_v156_1).slice (win0_11.rect t)).emb (ix3 y0 y1 y2) 1 : ℕ)) = 256 * bblk (t.val % 9) + y1 := by blk_simp [e]; omega
  have e2 : ((((View.whole main_v156_1).slice (win0_11.rect t)).emb (ix3 y0 y1 y2) 2 : ℕ)) = 512 * (t.val / 9 % 4) + y2 := by blk_simp [e]; omega
  unfold scanB
  rw [e0, e1, e2, scan_at, step_bblk _ _ (by omega) y1.isLt, Subsingleton.elim y0 0]
  exact block_bwd m c hr t y1 y2

end Cert.Proof
-- ==== Proof.Trip.lean ====
/- One step of the reference's loop, element by element. -/
module

public import proofs.«01_k».proof.Proof.Gen.ReferenceIdeal.Run
public import proofs.«01_k».proof.Proof.Sequence
public import Idealize.ShloMosaic.Lib.StableHlo.ReadAt
public import Idealize.ShloMosaic.Lib.Pointwise
public import Idealize.ShloMosaic.Lib.WordCmp

@[expose] public section

set_option maxRecDepth 16384
noncomputable section

namespace Cert.Proof.Ref

open Idealize Idealize.ShloMosaic Cert.ReferenceIdeal Cert.ReferenceIdeal.Gen Cert.ReferenceIdeal.Value

/-- Where a step whose index is the word `w` reads and writes. -/
def begins (w : IVec S_ 32) : Fin 5 → ℤ := fun k =>
  ((![w, constantI S_ 32 0#32, constantI S_ 32 0#32, constantI S_ 32 0#32, constantI S_ 32 0#32] : Fin 5 → IVec S_ 32) k
    (Shape.Idx.first h_S_)).toInt

/-- At index `n`: row `n`, from the start of every other axis. -/
theorem begins_at {n : ℕ} (hn : n < 2304) (x : Fin 5) :
    begins (fun _ => BitVec.ofNat 32 n) x = ((![n, 0, 0, 0, 0] : Fin 5 → ℕ) x : ℤ) := by
  fin_cases x
  · exact WordCmp.toInt_ofNat_of_lt (by omega)
  all_goals rfl

theorem fits256 {n : ℕ} (hn : n < 2304) : S2304x2x8x4x256.Slices ![n, 0, 0, 0, 0] S1x2x8x4x256 :=
  ⟨rfl, fun x => by fin_cases x <;> simp [S2304x2x8x4x256, S1x2x8x4x256] <;> omega⟩

theorem fits512 {n : ℕ} (hn : n < 2304) : S2304x2x8x4x512.Slices ![n, 0, 0, 0, 0] S1x2x8x4x512 :=
  ⟨rfl, fun x => by fin_cases x <;> simp [S2304x2x8x4x512, S1x2x8x4x512] <;> omega⟩

/-- The state after a step. -/
def stateNext (w : IVec S_ 32) (k g : FVec Ideal S2304x2x8x4x256 .f32) (v : FVec Ideal S2304x2x8x4x512 .f32)
    (T : FVec Ideal S2x8x4x256x512 .f32) : FVec Ideal S2x8x4x256x512 .f32 :=
  addf (mulf (broadcastInDim S2x8x4x256x512 ![0, 1, 2, 3, 4] bcast_S2x8x4x256x1_S2x8x4x256x512_0_1_2_3_4 (broadcastInDim S2x8x4x256x1 ![0, 1, 2, 3] bcast_S2x8x4x256_S2x8x4x256x1_0_1_2_3 (Host.exp (shapeCast S2x8x4x256 (Host.dynamicSlice S1x2x8x4x256 g (begins w) sliceFits_S2304x2x8x4x256_S1x2x8x4x256) shapeCasts_S1x2x8x4x256_S2x8x4x256)))) T) (mulf (broadcastInDim S2x8x4x256x512 ![0, 1, 2, 3, 4] bcast_S2x8x4x256x1_S2x8x4x256x512_0_1_2_3_4 (broadcastInDim S2x8x4x256x1 ![0, 1, 2, 3] bcast_S2x8x4x256_S2x8x4x256x1_0_1_2_3 (shapeCast S2x8x4x256 (Host.dynamicSlice S1x2x8x4x256 k (begins w) sliceFits_S2304x2x8x4x256_S1x2x8x4x256) shapeCasts_S1x2x8x4x256_S2x8x4x256))) (broadcastInDim S2x8x4x256x512 ![0, 1, 2, 3, 4] bcast_S2x8x4x1x512_S2x8x4x256x512_0_1_2_3_4 (broadcastInDim S2x8x4x1x512 ![0, 1, 2, 4] bcast_S2x8x4x512_S2x8x4x1x512_0_1_2_4 (shapeCast S2x8x4x512 (Host.dynamicSlice S1x2x8x4x512 v (begins w) sliceFits_S2304x2x8x4x512_S1x2x8x4x512) shapeCasts_S1x2x8x4x512_S2x8x4x512))))

/-- The outputs after a step whose state becomes `T`. -/
def outsNext (w : IVec S_ 32) (q : FVec Ideal S2304x2x8x4x256 .f32) (T : FVec Ideal S2x8x4x256x512 .f32)
    (o : FVec Ideal S2304x2x8x4x512 .f32) : FVec Ideal S2304x2x8x4x512 .f32 :=
  Host.dynamicUpdateSlice o (broadcastInDim S1x2x8x4x512 ![1, 2, 3, 4] bcast_S2x8x4x512_S1x2x8x4x512_1_2_3_4 (Host.reduceAdd (mulf (broadcastInDim S2x8x4x256x512 ![0, 1, 2, 3, 4] bcast_S2x8x4x256x1_S2x8x4x256x512_0_1_2_3_4 (broadcastInDim S2x8x4x256x1 ![0, 1, 2, 3] bcast_S2x8x4x256_S2x8x4x256x1_0_1_2_3 (shapeCast S2x8x4x256 (Host.dynamicSlice S1x2x8x4x256 q (begins w) sliceFits_S2304x2x8x4x256_S1x2x8x4x256) shapeCasts_S1x2x8x4x256_S2x8x4x256))) T) (constant S_ .f32 0x00000000#32) reducesTo_S2x8x4x256x512_S2x8x4x512_d3 h_S_)) (begins w) updateFits_S2304x2x8x4x512_S1x2x8x4x512

variable {n : ℕ} (hn : n < 2304)
include hn

theorem stateNext_at (k g : FVec Ideal S2304x2x8x4x256 .f32) (v : FVec Ideal S2304x2x8x4x512 .f32)
    (T : FVec Ideal S2x8x4x256x512 .f32) (s : Fin 2) (b : Fin 8) (h : Fin 4) (d : Fin 256) (e : Fin 512) :
    stateNext (fun _ => BitVec.ofNat 32 n) k g v T (ix5 s b h d e)
      = Ideal.exp (g (ix5 ⟨n, hn⟩ s b h d)) * T (ix5 s b h d e) + k (ix5 ⟨n, hn⟩ s b h d) * v (ix5 ⟨n, hn⟩ s b h e) := by
  unfold stateNext
  rw [WordCmp.dynamicSlice_eq_extract _ _ _ _ _ (fits256 hn) (begins_at hn), WordCmp.dynamicSlice_eq_extract _ _ _ _ _ (fits256 hn) (begins_at hn),
    WordCmp.dynamicSlice_eq_extract _ _ _ _ _ (fits512 hn) (begins_at hn)]
  clean_types
  pointwise

theorem outsNext_at (q : FVec Ideal S2304x2x8x4x256 .f32) (T : FVec Ideal S2x8x4x256x512 .f32)
    (o : FVec Ideal S2304x2x8x4x512 .f32) (r : Fin 2304) (s : Fin 2) (b : Fin 8) (h : Fin 4) (e : Fin 512) :
    outsNext (fun _ => BitVec.ofNat 32 n) q T o (ix5 r s b h e)
      = if (r : ℕ) = n then ∑ d, q (ix5 ⟨n, hn⟩ s b h d) * T (ix5 s b h d e) else o (ix5 r s b h e) := by
  unfold outsNext
  rw [WordCmp.dynamicSlice_eq_extract _ _ _ _ _ (fits256 hn) (begins_at hn), WordCmp.dynamicUpdateSlice_eq_update _ _ _ _ _ (fits512 hn) (begins_at hn)]
  clean_types
  pointwise
  by_cases hr : (r : ℕ) = n
  · rw [dif_pos ⟨by omega, by omega⟩, if_pos hr]
  · rw [dif_neg (by omega), if_neg hr]

omit hn
variable (V : Idealize.ShloMosaic.Valuation τ sig (Elt Ideal))

theorem step_state : step_main_v67_5 V = stateNext (V (Proc.devRef .tc main_v67_4)) (V (Proc.devRef .tc main_v67_1))
    (V (Proc.devRef .tc main_v67_3)) (V (Proc.devRef .tc main_v67_2)) (V (Proc.devRef .tc main_v67_5)) := rfl

theorem step_outs : step_main_v67_6 V = outsNext (V (Proc.devRef .tc main_v67_4)) (V (Proc.devRef .tc main_v67_0))
    (step_main_v67_5 V) (V (Proc.devRef .tc main_v67_6)) := by
  unfold step_main_v67_6 step_main_v67_5 outsNext
  rw [id_eq, id_eq]
  rfl

/-- The row that direction `s` meets at a step. -/
def rowD (s : Fin 2) : ℕ → ℕ := if s = 0 then rowF else rowB

variable (a : ℕ → ℕ → ℕ → ℝ) (l : ℕ → ℕ → ℕ → ℕ → ℝ)

/-- What the loop's arrays hold before step `n`: the sequences, the state that the steps before it leave, and their outputs. -/
structure Met (n : ℕ) (V : Idealize.ShloMosaic.Valuation τ sig (Elt Ideal)) : Prop where
  idx : (V (Proc.devRef .tc main_v67_4) : IVec S_ 32) = fun _ => BitVec.ofNat 32 n
  q : ∀ (m : Fin 2304) (s : Fin 2) (b : Fin 8) (h : Fin 4) (d : Fin 256),
    (V (Proc.devRef .tc main_v67_0) : FVec Ideal S2304x2x8x4x256 .f32) (ix5 m s b h d) = ((qs a (rowD s) b h d m : ℝ) : EReal)
  k : ∀ (m : Fin 2304) (s : Fin 2) (b : Fin 8) (h : Fin 4) (d : Fin 256),
    (V (Proc.devRef .tc main_v67_1) : FVec Ideal S2304x2x8x4x256 .f32) (ix5 m s b h d) = ((ks a (rowD s) b h d m : ℝ) : EReal)
  v : ∀ (m : Fin 2304) (s : Fin 2) (b : Fin 8) (h : Fin 4) (e : Fin 512),
    (V (Proc.devRef .tc main_v67_2) : FVec Ideal S2304x2x8x4x512 .f32) (ix5 m s b h e) = ((vs a (rowD s) b h e m : ℝ) : EReal)
  g : ∀ (m : Fin 2304) (s : Fin 2) (b : Fin 8) (h : Fin 4) (d : Fin 256),
    (V (Proc.devRef .tc main_v67_3) : FVec Ideal S2304x2x8x4x256 .f32) (ix5 m s b h d) = ((gs l (rowD s) s b h d m : ℝ) : EReal)
  T : ∀ (s : Fin 2) (b : Fin 8) (h : Fin 4) (d : Fin 256) (e : Fin 512),
    (V (Proc.devRef .tc main_v67_5) : FVec Ideal S2x8x4x256x512 .f32) (ix5 s b h d e)
      = ((state (gs l (rowD s) s b h d) (ks a (rowD s) b h d) (vs a (rowD s) b h e) n : ℝ) : EReal)
  o : ∀ (r : Fin 2304) (s : Fin 2) (b : Fin 8) (h : Fin 4) (e : Fin 512), (r : ℕ) < n →
    (V (Proc.devRef .tc main_v67_6) : FVec Ideal S2304x2x8x4x512 .f32) (ix5 r s b h e)
      = ((outAt (qs a (rowD s) b h) (gs l (rowD s) s b h) (ks a (rowD s) b h) (vs a (rowD s) b h e) r : ℝ) : EReal)

variable {V a l}

theorem Met.state_at (hm : Met a l n V) (hn : n < 2304) (s : Fin 2) (b : Fin 8) (h : Fin 4) (d : Fin 256) (e : Fin 512) :
    (step_main_v67_5 V : FVec Ideal S2x8x4x256x512 .f32) (ix5 s b h d e)
      = ((state (gs l (rowD s) s b h d) (ks a (rowD s) b h d) (vs a (rowD s) b h e) (n + 1) : ℝ) : EReal) := by
  rw [step_state]
  have h0 := stateNext_at hn (V (Proc.devRef .tc main_v67_1)) (V (Proc.devRef .tc main_v67_3)) (V (Proc.devRef .tc main_v67_2))
    (V (Proc.devRef .tc main_v67_5)) s b h d e
  rw [hm.k, hm.g, hm.v, hm.T, Ideal.exp_coe, ← EReal.coe_mul, ← EReal.coe_mul, ← EReal.coe_add] at h0
  exact (congrArg (fun w => stateNext w _ _ _ _ (ix5 s b h d e)) hm.idx).trans h0

theorem Met.outs_at (hm : Met a l n V) (hn : n < 2304) (r : Fin 2304) (s : Fin 2) (b : Fin 8) (h : Fin 4) (e : Fin 512) (hr : (r : ℕ) < n + 1) :
    (step_main_v67_6 V : FVec Ideal S2304x2x8x4x512 .f32) (ix5 r s b h e)
      = ((outAt (qs a (rowD s) b h) (gs l (rowD s) s b h) (ks a (rowD s) b h) (vs a (rowD s) b h e) r : ℝ) : EReal) := by
  rw [step_outs]
  have h0 := outsNext_at hn (V (Proc.devRef .tc main_v67_0)) (step_main_v67_5 V) (V (Proc.devRef .tc main_v67_6)) r s b h e
  refine (congrArg (fun w => outsNext w _ _ _ (ix5 r s b h e)) hm.idx).trans (h0.trans ?_)
  by_cases hrn : (r : ℕ) = n
  · rw [if_pos hrn]
    unfold outAt
    rw [← sum_coe]
    refine Finset.sum_congr rfl fun d _ => ?_
    rw [hm.q, hm.state_at hn, ← EReal.coe_mul, hrn]
  · rw [if_neg hrn, hm.o r s b h e (by omega)]

theorem Met.step (hm : Met a l n V) (hn : n < 2304) : Met a l (n + 1) (STEP V) where
  idx := by
    rw [STEP_main_v67_4]
    unfold step_main_v67_4
    have h0 : (V (Proc.devRef .tc main_v67_4) : IVec S_ 32) = fun _ => BitVec.ofNat 32 n := hm.idx
    rw [h0]
    funext j
    show BitVec.ofNat 32 n + 1#32 = BitVec.ofNat 32 (n + 1)
    rw [BitVec.ofNat_add]
  q := by rw [STEP_main_v67_0]; exact hm.q
  k := by rw [STEP_main_v67_1]; exact hm.k
  v := by rw [STEP_main_v67_2]; exact hm.v
  g := by rw [STEP_main_v67_3]; exact hm.g
  T := by rw [STEP_main_v67_5]; exact hm.state_at hn
  o := by rw [STEP_main_v67_6]; exact hm.outs_at hn

theorem Met.steps (hm : Met a l 0 V) (n : ℕ) (hn : n ≤ 2304) : Met a l n (STEP^[n] V) := by
  induction n with
  | zero => exact hm
  | succ n ih => rw [Function.iterate_succ_apply']; exact (ih (by omega)).step (by omega)

end Cert.Proof.Ref
-- ==== Proof.Entry.lean ====
/- The arrays that the reference's loop starts from, element by element. -/
module

public import proofs.«01_k».proof.Proof.Trip

@[expose] public section

set_option maxRecDepth 16384
noncomputable section

namespace Cert.Proof.Ref

open Idealize Idealize.ShloMosaic Idealize.ShloMosaic.StableHlo Cert.ReferenceIdeal Cert.ReferenceIdeal.Gen Cert.ReferenceIdeal.Value

variable (m : (ℓ : Loc nD τ sig) → Buf (Elt Ideal) ℓ) (c : Dev nD) {a : ℕ → ℕ → ℕ → ℝ} {l : ℕ → ℕ → ℕ → ℕ → ℝ}
  (hr : Reals (m (c.tc.loc main_arg0)) (m (c.tc.loc main_arg1)) a l)

theorem sixteenth : Ideal.ofBits .f32 1031798784#32 = ((1 / 16 : ℝ) : EReal) := by
  simp [Ideal.ofBits, Ideal.ieee, -EReal.coe_mul]; norm_num

/-- An entry of the reals with its row and column rewritten. -/
theorem entry2 (f : ℕ → ℕ → ℝ) {r r' x x' : ℕ} (h1 : r = r') (h2 : x = x') : ((f r x : ℝ) : EReal) = ((f r' x' : ℝ) : EReal) := by
  rw [h1, h2]

theorem entry2_mul (f : ℕ → ℕ → ℝ) (y : ℝ) {r r' x x' : ℕ} (h1 : r = r') (h2 : x = x') :
    ((f r x * y : ℝ) : EReal) = ((f r' x' * y : ℝ) : EReal) := by
  rw [h1, h2]

theorem mul_sixteenth (u : EReal) (y : ℝ) (h : u = (y : EReal)) : u * Ideal.ofBits .f32 1031798784#32 = ((y * (1 / 16) : ℝ) : EReal) := by
  rw [h, sixteenth, EReal.coe_mul]

include hr

/-- The projections at the launch. -/
theorem proj_at (b : Fin 8) (r : Fin 2304) (x : Fin 6272) (hx : (x : ℕ) < 4096) :
    (launchContents m c (Proc.devRef .tc main_arg0) : FVec Ideal S8x2304x6272 .bf16) (ix3 b r x) = ((a b r x : ℝ) : EReal) :=
  hr.proj b r x hx

/-- The log-decays at the launch. -/
theorem logs_at (s : Fin 2) (b : Fin 8) (r : Fin 2304) (x : Fin 1024) :
    (launchContents m c (Proc.devRef .tc main_arg1) : FVec Ideal S2x8x2304x1024 .f32) (ix4 s b r x) = ((l s b r x : ℝ) : EReal) :=
  hr.logs s b r x

set_option maxHeartbeats 2000000 in
theorem q_fwd (n : Fin 2304) (b : Fin 8) (h : Fin 4) (x : Fin 256) :
    (entryContents preI m c (Proc.devRef .tc main_v67_0) : FVec Ideal S2304x2x8x4x256 .f32) (ix5 n 0 b h x) = ((qs a rowF b h x n : ℝ) : EReal) := by
  simp only [entryContents, afterL_cons, afterL_nil]
  after_reads_at
  repeat (try simp only [id_eq]
          try pointwise
          after_reads_at)
  by_cases hn : (n : ℕ) < 256
  · rw [dif_pos hn]
    refine (mul_sixteenth _ _ (proj_at m c hr _ _ _ ?_)).trans ?_
    · dsimp only; omega
    unfold qs qr rowF
    refine entry2_mul (a b) _ ?_ ?_
    · dsimp only; exact (if_pos hn).symm
    · dsimp only; omega
  · rw [dif_neg hn]
    refine (mul_sixteenth _ _ (proj_at m c hr _ _ _ ?_)).trans ?_
    · dsimp only; omega
    unfold qs qr rowF
    refine entry2_mul (a b) _ ?_ ?_
    · dsimp only; exact (if_neg hn).symm
    · dsimp only; omega

set_option maxHeartbeats 2000000 in
theorem k_fwd (n : Fin 2304) (b : Fin 8) (h : Fin 4) (x : Fin 256) :
    (entryContents preI m c (Proc.devRef .tc main_v67_1) : FVec Ideal S2304x2x8x4x256 .f32) (ix5 n 0 b h x) = ((ks a rowF b h x n : ℝ) : EReal) := by
  simp only [entryContents, afterL_cons, afterL_nil]
  after_reads_at
  repeat (try simp only [id_eq]
          try pointwise
          after_reads_at)
  by_cases hn : (n : ℕ) < 256
  · rw [dif_pos hn]
    refine (proj_at m c hr _ _ _ ?_).trans ?_
    · dsimp only; omega
    unfold ks rowF
    refine entry2 (a b) ?_ ?_
    · dsimp only; exact (if_pos hn).symm
    · dsimp only; omega
  · rw [dif_neg hn]
    refine (proj_at m c hr _ _ _ ?_).trans ?_
    · dsimp only; omega
    unfold ks rowF
    refine entry2 (a b) ?_ ?_
    · dsimp only; exact (if_neg hn).symm
    · dsimp only; omega

set_option maxHeartbeats 2000000 in
theorem v_fwd (n : Fin 2304) (b : Fin 8) (h : Fin 4) (x : Fin 512) :
    (entryContents preI m c (Proc.devRef .tc main_v67_2) : FVec Ideal S2304x2x8x4x512 .f32) (ix5 n 0 b h x) = ((vs a rowF b h x n : ℝ) : EReal) := by
  simp only [entryContents, afterL_cons, afterL_nil]
  after_reads_at
  repeat (try simp only [id_eq]
          try pointwise
          after_reads_at)
  by_cases hn : (n : ℕ) < 256
  · rw [dif_pos hn]
    refine (proj_at m c hr _ _ _ ?_).trans ?_
    · dsimp only; omega
    unfold vs rowF
    refine entry2 (a b) ?_ ?_
    · dsimp only; exact (if_pos hn).symm
    · dsimp only; omega
  · rw [dif_neg hn]
    refine (proj_at m c hr _ _ _ ?_).trans ?_
    · dsimp only; omega
    unfold vs rowF
    refine entry2 (a b) ?_ ?_
    · dsimp only; exact (if_neg hn).symm
    · dsimp only; omega

set_option maxHeartbeats 2000000 in
theorem g_fwd (n : Fin 2304) (b : Fin 8) (h : Fin 4) (x : Fin 256) :
    (entryContents preI m c (Proc.devRef .tc main_v67_3) : FVec Ideal S2304x2x8x4x256 .f32) (ix5 n 0 b h x) = ((gs l rowF 0 b h x n : ℝ) : EReal) := by
  simp only [entryContents, afterL_cons, afterL_nil]
  after_reads_at
  repeat (try simp only [id_eq]
          try pointwise
          after_reads_at)
  by_cases hn : (n : ℕ) < 256
  · rw [dif_pos hn]
    refine (logs_at m c hr _ _ _ _).trans ?_
    unfold gs rowF
    refine entry2 (l 0 b) ?_ ?_
    · dsimp only; exact (if_pos hn).symm
    · dsimp only; omega
  · rw [dif_neg hn]
    refine (logs_at m c hr _ _ _ _).trans ?_
    unfold gs rowF
    refine entry2 (l 0 b) ?_ ?_
    · dsimp only; exact (if_neg hn).symm
    · dsimp only; omega

set_option maxHeartbeats 2000000 in
theorem q_bwd (n : Fin 2304) (b : Fin 8) (h : Fin 4) (x : Fin 256) :
    (entryContents preI m c (Proc.devRef .tc main_v67_0) : FVec Ideal S2304x2x8x4x256 .f32) (ix5 n 1 b h x) = ((qs a rowB b h x n : ℝ) : EReal) := by
  simp only [entryContents, afterL_cons, afterL_nil]
  after_reads_at
  repeat (try simp only [id_eq]
          try pointwise
          after_reads_at)
  simp only [List.mem_singleton, zero_ne_one, Fin.reduceEq, ↓reduceIte]
  by_cases hn : (n : ℕ) < 256
  · rw [dif_pos hn]
    refine (mul_sixteenth _ _ (proj_at m c hr _ _ _ ?_)).trans ?_
    · dsimp only; omega
    unfold qs qr rowB
    refine entry2_mul (a b) _ ?_ ?_
    · simp only [Fin.val_rev]; omega
    · dsimp only; omega
  · rw [dif_neg hn]
    refine (mul_sixteenth _ _ (proj_at m c hr _ _ _ ?_)).trans ?_
    · dsimp only; omega
    unfold qs qr rowB
    refine entry2_mul (a b) _ ?_ ?_
    · simp only [Fin.val_rev]; omega
    · dsimp only; omega

set_option maxHeartbeats 2000000 in
theorem k_bwd (n : Fin 2304) (b : Fin 8) (h : Fin 4) (x : Fin 256) :
    (entryContents preI m c (Proc.devRef .tc main_v67_1) : FVec Ideal S2304x2x8x4x256 .f32) (ix5 n 1 b h x) = ((ks a rowB b h x n : ℝ) : EReal) := by
  simp only [entryContents, afterL_cons, afterL_nil]
  after_reads_at
  repeat (try simp only [id_eq]
          try pointwise
          after_reads_at)
  simp only [List.mem_singleton, zero_ne_one, Fin.reduceEq, ↓reduceIte]
  by_cases hn : (n : ℕ) < 256
  · rw [dif_pos hn]
    refine (proj_at m c hr _ _ _ ?_).trans ?_
    · dsimp only; omega
    unfold ks rowB
    refine entry2 (a b) ?_ ?_
    · simp only [Fin.val_rev]; omega
    · dsimp only; omega
  · rw [dif_neg hn]
    refine (proj_at m c hr _ _ _ ?_).trans ?_
    · dsimp only; omega
    unfold ks rowB
    refine entry2 (a b) ?_ ?_
    · simp only [Fin.val_rev]; omega
    · dsimp only; omega

set_option maxHeartbeats 2000000 in
theorem v_bwd (n : Fin 2304) (b : Fin 8) (h : Fin 4) (x : Fin 512) :
    (entryContents preI m c (Proc.devRef .tc main_v67_2) : FVec Ideal S2304x2x8x4x512 .f32) (ix5 n 1 b h x) = ((vs a rowB b h x n : ℝ) : EReal) := by
  simp only [entryContents, afterL_cons, afterL_nil]
  after_reads_at
  repeat (try simp only [id_eq]
          try pointwise
          after_reads_at)
  simp only [List.mem_singleton, zero_ne_one, Fin.reduceEq, ↓reduceIte]
  by_cases hn : (n : ℕ) < 256
  · rw [dif_pos hn]
    refine (proj_at m c hr _ _ _ ?_).trans ?_
    · dsimp only; omega
    unfold vs rowB
    refine entry2 (a b) ?_ ?_
    · simp only [Fin.val_rev]; omega
    · dsimp only; omega
  · rw [dif_neg hn]
    refine (proj_at m c hr _ _ _ ?_).trans ?_
    · dsimp only; omega
    unfold vs rowB
    refine entry2 (a b) ?_ ?_
    · simp only [Fin.val_rev]; omega
    · dsimp only; omega

set_option maxHeartbeats 2000000 in
theorem g_bwd (n : Fin 2304) (b : Fin 8) (h : Fin 4) (x : Fin 256) :
    (entryContents preI m c (Proc.devRef .tc main_v67_3) : FVec Ideal S2304x2x8x4x256 .f32) (ix5 n 1 b h x) = ((gs l rowB 1 b h x n : ℝ) : EReal) := by
  simp only [entryContents, afterL_cons, afterL_nil]
  after_reads_at
  repeat (try simp only [id_eq]
          try pointwise
          after_reads_at)
  simp only [List.mem_singleton, zero_ne_one, Fin.reduceEq, ↓reduceIte]
  by_cases hn : (n : ℕ) < 256
  · rw [dif_pos hn]
    refine (logs_at m c hr _ _ _ _).trans ?_
    unfold gs rowB
    refine entry2 (l 1 b) ?_ ?_
    · simp only [Fin.val_rev]; omega
    · dsimp only; omega
  · rw [dif_neg hn]
    refine (logs_at m c hr _ _ _ _).trans ?_
    unfold gs rowB
    refine entry2 (l 1 b) ?_ ?_
    · simp only [Fin.val_rev]; omega
    · dsimp only; omega

end Cert.Proof.Ref
-- ==== Proof.Results.lean ====
/- The reference's two results: the scans' arrays. -/
module

public import proofs.«01_k».proof.Proof.Entry

@[expose] public section

set_option maxRecDepth 16384
noncomputable section

namespace Cert.Proof.Ref

open Idealize Idealize.ShloMosaic Idealize.ShloMosaic.StableHlo Cert.ReferenceIdeal Cert.ReferenceIdeal.Gen Cert.ReferenceIdeal.Value

theorem rowD_zero : rowD 0 = rowF := if_pos rfl
theorem rowD_one : rowD 1 = rowB := if_neg (by decide)

variable (m : (ℓ : Loc nD τ sig) → Buf (Elt Ideal) ℓ) (c : Dev nD) {a : ℕ → ℕ → ℕ → ℝ} {l : ℕ → ℕ → ℕ → ℕ → ℝ}

/-- The state before the first step. -/
theorem state_zero (s : Fin 2) (b : Fin 8) (h : Fin 4) (d : Fin 256) (e : Fin 512) :
    (entryContents preI m c (Proc.devRef .tc main_v67_5) : FVec Ideal S2x8x4x256x512 .f32) (ix5 s b h d e) = ((0 : ℝ) : EReal) := by
  simp only [entryContents, afterL_cons, afterL_nil]
  after_reads_at
  repeat (try simp only [id_eq]
          try pointwise
          after_reads_at)
  simp only [id_eq]
  pointwise
  exact EReal.coe_zero.symm

variable (hr : Reals (m (c.tc.loc main_arg0)) (m (c.tc.loc main_arg1)) a l)
include hr

/-- The loop's arrays before its first step. -/
theorem entry_met : Met a l 0 (entryContents preI m c) where
  idx := ctr_entry m c
  q n s b h d := by
    rcases (show s = 0 ∨ s = 1 by omega) with rfl | rfl
    · rw [rowD_zero]; exact q_fwd m c hr n b h d
    · rw [rowD_one]; exact q_bwd m c hr n b h d
  k n s b h d := by
    rcases (show s = 0 ∨ s = 1 by omega) with rfl | rfl
    · rw [rowD_zero]; exact k_fwd m c hr n b h d
    · rw [rowD_one]; exact k_bwd m c hr n b h d
  v n s b h d := by
    rcases (show s = 0 ∨ s = 1 by omega) with rfl | rfl
    · rw [rowD_zero]; exact v_fwd m c hr n b h d
    · rw [rowD_one]; exact v_bwd m c hr n b h d
  g n s b h d := by
    rcases (show s = 0 ∨ s = 1 by omega) with rfl | rfl
    · rw [rowD_zero]; exact g_fwd m c hr n b h d
    · rw [rowD_one]; exact g_bwd m c hr n b h d
  T s b h d e := state_zero m c s b h d e
  o r s b h e hn := absurd hn (Nat.not_lt_zero _)

/-- The loop's outputs, all of them. -/
theorem outs_fwd (r : Fin 2304) (b : Fin 8) (h : Fin 4) (e : Fin 512) :
    ((STEP^[2304] (entryContents preI m c)) (Proc.devRef .tc main_v67_6) : FVec Ideal S2304x2x8x4x512 .f32) (ix5 r 0 b h e)
      = ((scan a l rowF 0 b r (512 * h + e) : ℝ) : EReal) := by
  have h0 := ((entry_met m c hr).steps 2304 le_rfl).o r 0 b h e r.isLt
  rw [rowD_zero] at h0
  rw [scan_at]
  exact h0

theorem outs_bwd (r : Fin 2304) (b : Fin 8) (h : Fin 4) (e : Fin 512) :
    ((STEP^[2304] (entryContents preI m c)) (Proc.devRef .tc main_v67_6) : FVec Ideal S2304x2x8x4x512 .f32) (ix5 r 1 b h e)
      = ((scan a l rowB 1 b r (512 * h + e) : ℝ) : EReal) := by
  have h0 := ((entry_met m c hr).steps 2304 le_rfl).o r 1 b h e r.isLt
  rw [rowD_one] at h0
  rw [scan_at]
  exact h0

theorem result_fwd : out_main_v75 (STEP^[2304] (entryContents preI m c)) = scanF a l := by
  have h0 := outs_fwd m c hr
  revert h0
  generalize STEP^[2304] (entryContents preI m c) = V
  intro h0
  unfold out_main_v75
  funext i
  revert h0
  generalize V (Proc.devRef .tc main_v67_6) = o
  intro h0
  obtain ⟨b, r, x, rfl⟩ : ∃ (b : Fin 8) (r : Fin 2304) (x : Fin 2048), i = ix3 b r x := ⟨i 0, i 1, i 2, by funext k; fin_cases k <;> rfl⟩
  clean_types
  pointwise
  show _ = ((scan a l rowF 0 b (stepF r) x : ℝ) : EReal)
  by_cases hn : (r : ℕ) < 2048
  · rw [dif_pos hn]
    refine (h0 _ _ _ _).trans ?_
    unfold stepF
    refine entry2 (scan a l rowF 0 b) ?_ ?_
    · dsimp only; refine Eq.trans ?_ (if_pos hn).symm; omega
    · dsimp only; omega
  · rw [dif_neg hn]
    refine (h0 _ _ _ _).trans ?_
    unfold stepF
    refine entry2 (scan a l rowF 0 b) ?_ ?_
    · dsimp only; refine Eq.trans ?_ (if_neg hn).symm; omega
    · dsimp only; omega

theorem result_bwd : out_main_v82 (STEP^[2304] (entryContents preI m c)) = scanB a l := by
  have h0 := outs_bwd m c hr
  revert h0
  generalize STEP^[2304] (entryContents preI m c) = V
  intro h0
  unfold out_main_v82
  funext i
  revert h0
  generalize V (Proc.devRef .tc main_v67_6) = o
  intro h0
  obtain ⟨b, r, x, rfl⟩ : ∃ (b : Fin 8) (r : Fin 2304) (x : Fin 2048), i = ix3 b r x := ⟨i 0, i 1, i 2, by funext k; fin_cases k <;> rfl⟩
  clean_types
  pointwise
  simp only [List.mem_singleton, zero_ne_one, Fin.reduceEq, ↓reduceIte]
  show _ = ((scan a l rowB 1 b (stepB r) x : ℝ) : EReal)
  by_cases hn : (r : ℕ) < 2048
  · rw [dif_pos hn]
    refine (h0 _ _ _ _).trans ?_
    unfold stepB
    refine entry2 (scan a l rowB 1 b) ?_ ?_
    · simp only [Fin.val_rev]; omega
    · dsimp only; omega
  · rw [dif_neg hn]
    refine (h0 _ _ _ _).trans ?_
    unfold stepB
    refine entry2 (scan a l rowB 1 b) ?_ ?_
    · simp only [Fin.val_rev]; omega
    · dsimp only; omega

end Cert.Proof.Ref
-- ==== Proof.Finite.lean ====
/- What the precondition says: the projections' columns that the scan reads are real numbers, and the log-decays are real numbers
   that are not positive. -/
module

public import proofs.«01_k».proof.Pre_finite_and_decaying
public import proofs.«01_k».proof.Proof.Sequence
public import Idealize.ShloMosaic.Lib.Pointwise
public import Idealize.ShloMosaic.Lib.Affine

@[expose] public section

set_option maxRecDepth 16384
noncomputable section

namespace Cert.Proof

open Idealize Idealize.ShloMosaic Cert.Pre_finite_and_decaying

/-- The side conditions that the precondition's operations state. -/
theorem pre_facts : Cert.Pre_finite_and_decaying.Facts where
  slices_S8x2304x6272_S8x2304x4096_0_0_0 := by decide
  bitsLt_bf16_f32 := by decide
  bcast_S_S8x2304x4096 := by decide
  reducesTo_S8x2304x4096_S_d0_1_2 := by decide
  h_S_ := by decide
  bcast_S_S2x8x2304x1024 := by decide
  reducesTo_S2x8x2304x1024_S_d0_1_2_3 := by decide

/-- A conjunction folded over a list that ends true started true and met only true words. -/
theorem fold_all {ι : Type} (f : ι → BitVec 1) (L : List ι) (z : BitVec 1) (h : L.foldl (fun r n => IntOp.andi r (f n)) z = 1#1) :
    z = 1#1 ∧ ∀ n ∈ L, f n = 1#1 := by
  induction L generalizing z with
  | nil => exact ⟨h, fun n hn => absurd hn (by simp)⟩
  | cons y L ih =>
    obtain ⟨h1, h2⟩ := ih _ h
    have h3 : z = 1#1 ∧ f y = 1#1 := (show ∀ u w : BitVec 1, IntOp.andi u w = 1#1 → u = 1#1 ∧ w = 1#1 by decide) _ _ h1
    refine ⟨h3.1, fun n hn => ?_⟩
    rcases List.mem_cons.1 hn with rfl | hn
    · exact h3.2
    · exact h2 n hn

/-- A conjunction over every axis that is true: every element is. -/
theorem reduce_all {s : Shape} {axes : List (Fin s.rank)} (x : s.Idx → BitVec 1) (z : S_.Idx → BitVec 1) (h : s.ReducesTo axes S_)
    (hu : 0 < S_.numel) (j : S_.Idx) (e : Host.reduce IntOp.andi x z h hu j = 1#1) (i : s.Idx) : x i = 1#1 := by
  have h1 := (fold_all _ _ _ e).2 (s.rowMajor i)
    (List.mem_filter.2 ⟨List.mem_finRange _, decide_eq_true (funext fun k => k.elim0)⟩)
  rwa [Equiv.symm_apply_apply] at h1

theorem word_true (p : Prop) [Decidable p] : BitVec.ofBool (decide p) = 1#1 ↔ p := by
  by_cases h : p <;> simp [h]

theorem top_bits : Ideal.ofBits .f32 2139095040#32 = ⊤ := by
  simp [Ideal.ofBits, Ideal.ieee]

theorem bot_bits : Ideal.ofBits .f32 4286578688#32 = ⊥ := by
  simp [Ideal.ofBits, Ideal.ieee]

variable [Cert.Pre_finite_and_decaying.Facts]

theorem reals_of_pre (A : FVec Ideal S8x2304x6272 .bf16) (L : FVec Ideal S2x8x2304x1024 .f32)
    (h : fn A L = fun _ => 1#1) : ∃ a l, Reals A L a l := by
  have h0 := congrFun h (Shape.Idx.first Facts.h_S_)
  unfold fn at h0
  dsimp only at h0
  obtain ⟨h1, h2⟩ : _ = 1#1 ∧ _ = 1#1 := (show ∀ x y : BitVec 1, IntOp.andi x y = 1#1 → x = 1#1 ∧ y = 1#1 by decide) _ _ h0
  have h3 := reduce_all _ _ _ _ _ h1
  have h4 := reduce_all _ _ _ _ _ h2
  have hA : ∀ (b : Fin 8) (r : Fin 2304) (x : Fin 6272), (x : ℕ) < 4096 → ((A (ix3 b r x)).toReal : EReal) = A (ix3 b r x) := by
    intro b r x hx
    have h5 := h3 (ix3 b r ⟨x, hx⟩)
    clear h h0 h1 h2 h3 h4
    pointwise at h5
    rw [word_true, top_bits] at h5
    have h6 : (max (A (ix3 b r x)) (-A (ix3 b r x)) : EReal) < ⊤ := h5
    exact EReal.coe_toReal (fun e => by rw [e] at h6; simp at h6) (fun e => by rw [e] at h6; simp at h6)
  have hL : ∀ i, ((L i).toReal : EReal) = L i ∧ L i ≤ 0 := by
    intro i
    have h5 := h4 i
    clear h h0 h1 h2 h3 h4
    pointwise at h5
    obtain ⟨h6, h7⟩ : _ = 1#1 ∧ _ = 1#1 := (show ∀ x y : BitVec 1, IntOp.andi x y = 1#1 → x = 1#1 ∧ y = 1#1 by decide) _ _ h5
    rw [word_true] at h6 h7
    rw [bot_bits] at h6
    exact ⟨EReal.coe_toReal (fun e => by rw [e] at h7; simp at h7) (fun e => by rw [e] at h6; simp at h6), h7⟩
  refine ⟨fun b r x => if h : b < 8 ∧ r < 2304 ∧ x < 6272 then (A (ix3 ⟨b, h.1⟩ ⟨r, h.2.1⟩ ⟨x, h.2.2⟩)).toReal else 0,
    fun s b r x => if h : s < 2 ∧ b < 8 ∧ r < 2304 ∧ x < 1024 then (L (ix4 ⟨s, h.1⟩ ⟨b, h.2.1⟩ ⟨r, h.2.2.1⟩ ⟨x, h.2.2.2⟩)).toReal else 0, ?_, ?_, ?_⟩
  · intro b r x hx
    rw [dif_pos ⟨b.isLt, r.isLt, x.isLt⟩]
    exact (hA b r x hx).symm
  · intro s b r x
    rw [dif_pos ⟨s.isLt, b.isLt, r.isLt, x.isLt⟩]
    exact (hL _).1.symm
  · intro s b r x
    split
    · refine EReal.coe_le_coe_iff.1 ?_
      rw [(hL _).1]; exact (hL _).2
    · exact le_rfl

end Cert.Proof
-- ==== Proof.Up.lean ====
/- The first half of the experts' feed-forward part: what the kernel's array and the reference's result hold. -/
module

public import proofs.«01_k».proof.Proof.Gen.Kernel2Ideal.Value
public import proofs.«01_k».proof.Proof.Gen.Reference2Ideal.Run
public import Idealize.ShloMosaic.Lib.Pointwise
public import Idealize.ShloMosaic.Lib.BitcastConvert
public import Idealize.ShloMosaic.Lib.Tactic.CleanTypes
public import Idealize.ShloMosaic.Lib.Pipeline.ValueKit
public import Idealize.ShloMosaic.Lib.Pipeline.Covers

@[expose] public section

set_option maxRecDepth 16384
noncomputable section

namespace Cert.Proof.Up

open Idealize Idealize.ShloMosaic Idealize.SL.Sem Cert.Kernel2Ideal Cert.Kernel2Ideal.Gen

/-- A float word whose significand is a sixteen-bit float's, moved up, denotes what that float does. -/
theorem wide (h : BitVec 16) (w : BitVec 32) (e1 : w.extractLsb' 31 1 = h.extractLsb' 15 1) (e2 : w.extractLsb' 23 8 = h.extractLsb' 7 8)
    (e3 : (w.extractLsb' 0 23).toNat = (h.extractLsb' 0 7).toNat * 65536) : Ideal.ofBits .f32 w = Ideal.ofBits .bf16 h := by
  have z : (w.extractLsb' 0 23).toNat = 0 ↔ (h.extractLsb' 0 7).toNat = 0 := by omega
  have p : (2 : ℝ) ^ (-7 : Int) = 65536 * (2 : ℝ) ^ (-23 : Int) := by norm_num
  simp only [Ideal.ofBits, Ideal.ieee, Nat.reduceAdd, e1, e2, z]
  split
  · rfl
  · split
    · refine congrArg _ ?_
      rw [e3, sub_eq_add_neg (1 - _), sub_eq_add_neg (1 - _), zpow_add₀ two_ne_zero, zpow_add₀ two_ne_zero]
      push_cast
      rw [p]
      ring
    · refine congrArg _ ?_
      rw [e3, sub_eq_add_neg (_ - _), sub_eq_add_neg (_ - _), zpow_add₀ two_ne_zero, zpow_add₀ two_ne_zero]
      push_cast
      rw [p]
      ring

theorem low_half (w : BitVec 32) : Ideal.ofBits .f32 (w <<< 16) = Ideal.ofBits .bf16 (w.extractLsb' 0 16) := by
  refine wide _ _ ?_ ?_ ?_
  · ext i hi
    obtain rfl : i = 0 := by omega
    simp
  · ext i hi
    simp [show i < 9 by omega, show i < 16 - 7 by omega, show ¬ 23 + i < 16 by omega, show 23 + i < 32 by omega, show 23 + i - 16 = 7 + i by omega, BitVec.getLsbD_eq_getElem (show 7 + i < 32 by omega)]
  · have := w.isLt
    simp only [BitVec.extractLsb'_toNat, BitVec.toNat_shiftLeft, Nat.shiftRight_zero, Nat.shiftLeft_eq]
    omega

theorem mask_at (w : BitVec 32) : w &&& 4294901760#32 = (w >>> 16) <<< 16 := by
  have b : ∀ i : Fin 32, (4294901760#32)[i.val] = decide (16 ≤ i.val) := by decide
  ext i hi
  simp only [BitVec.getElem_and, b ⟨i, hi⟩, BitVec.getElem_shiftLeft, BitVec.getElem_ushiftRight]
  by_cases h : i < 16
  · simp [h]
  · simp [h, show 16 ≤ i by omega, show 16 + (i - 16) = i by omega, BitVec.getLsbD_eq_getElem hi]

theorem high_half (w : BitVec 32) : Ideal.ofBits .f32 (w &&& 4294901760#32) = Ideal.ofBits .bf16 (w.extractLsb' 16 16) := by
  rw [mask_at, low_half]
  refine congrArg _ ?_
  ext i hi
  simp [hi]

/-- A product of the experts' tokens, given as words of two values, with a matrix of theirs. -/
def product (x : Vec Ideal S16x2304x1024 .i32) (w : Vec Ideal S4x16x2048x1024 .f32) (e : Fin 16) (r : Fin 2304) (f : Fin 1024) : EReal :=
  ∑ k : Fin 1024, Ideal.ofBits .bf16 ((x (ix3 e r k)).extractLsb' 0 16) * w (ix4 0 e ⟨k, by omega⟩ f) +
  ∑ k : Fin 1024, Ideal.ofBits .bf16 ((x (ix3 e r k)).extractLsb' 16 16) * w (ix4 0 e ⟨1024 + k, by omega⟩ f)

/-- The gated activations. -/
def gated (x : Vec Ideal S16x2304x1024 .i32) (w w' : Vec Ideal S4x16x2048x1024 .f32) : Vec Ideal S16x2304x1024 .bf16 :=
  fun i => product x w (i 0) (i 1) (i 2) * Ideal.logistic (product x w (i 0) (i 1) (i 2)) * product x w' (i 0) (i 1) (i 2)

/-- The same product of a block of the tokens and a block of the matrix. -/
def blockProduct (x : Vec Ideal S1x1152x1024 .i32) (w : Vec Ideal S1x1x2048x512 .f32) (r : Fin 1152) (q : Fin 512) : EReal :=
  ∑ k : Fin 1024, Ideal.ofBits .bf16 ((x (ix3 0 r k)).extractLsb' 0 16) * w (ix4 0 0 ⟨k, by omega⟩ q) +
  ∑ k : Fin 1024, Ideal.ofBits .bf16 ((x (ix3 0 r k)).extractLsb' 16 16) * w (ix4 0 0 ⟨1024 + k, by omega⟩ q)

/-- What the body computes of its blocks, entry by entry. -/
theorem body_at (x : Vec Ideal S1x1152x1024 .i32) (w w' : Vec Ideal S1x1x2048x512 .f32)
    (r : Fin 1152) (q : Fin 512) :
    k0_pay1 (F := Ideal) x w w' (ix3 0 r q) = blockProduct x w r q * Ideal.logistic (blockProduct x w r q) * blockProduct x w' r q := by
  have l : ∀ v : BitVec 32, Ideal.ofBits .f32 (IntOp.shli .vector v 16#32) = Ideal.ofBits .bf16 (v.extractLsb' 0 16) := low_half
  have h : ∀ v : BitVec 32, Ideal.ofBits .f32 (IntOp.andi v 4294901760#32) = Ideal.ofBits .bf16 (v.extractLsb' 16 16) := high_half
  unfold blockProduct
  pointwise [k0_pay1]
  simp only [l, h]

/-- The blocks that a grid point reads and writes. -/
theorem index_at : ∀ t : Fin cfg0.N, win0_0.index t = ![t.val / 4, t.val % 2, 0] ∧ win0_1.index t = ![0, t.val / 4, 0, t.val / 2 % 2] ∧
    win0_2.index t = ![0, t.val / 4, 0, t.val / 2 % 2] ∧ win0_3.index t = ![t.val / 4, t.val % 2, t.val / 2 % 2] := by decide +kernel

theorem point_lt (t : Fin cfg0.N) : t.val < 64 := t.isLt.trans_eq N_0

variable (m : (ℓ : Loc nD τ sig) → Buf (Elt Ideal) ℓ) (c : Dev nD)

theorem word_at (t : Fin cfg0.N) (r : Fin 1152) (k : Fin 1024) :
    iblk m c 0 t (ix3 0 r k) = m (c.tc.loc main_arg0) (ix3 ⟨t.val / 4, by have := point_lt t; omega⟩
      ⟨1152 * (t.val % 2) + r, by omega⟩ k) := by
  have e := (index_at t).1
  blk_ext [iblk, V_main_arg0, e]

theorem gate_at (t : Fin cfg0.N) (k : Fin 2048) (q : Fin 512) :
    iblk m c 1 t (ix4 0 0 k q) = m (c.tc.loc main_arg1) (ix4 0 ⟨t.val / 4, by have := point_lt t; omega⟩ k
      ⟨512 * (t.val / 2 % 2) + q, by omega⟩) := by
  have e := (index_at t).2.1
  blk_ext [iblk, V_main_arg1, e]

theorem lin_at (t : Fin cfg0.N) (k : Fin 2048) (q : Fin 512) :
    iblk m c 2 t (ix4 0 0 k q) = m (c.tc.loc main_arg2) (ix4 0 ⟨t.val / 4, by have := point_lt t; omega⟩ k
      ⟨512 * (t.val / 2 % 2) + q, by omega⟩) := by
  have e := (index_at t).2.2.1
  blk_ext [iblk, V_main_arg2, e]

/-- The kernel's array. -/
theorem array : (dats m 0 c).arrAt 3 cfg0.N =
    gated (m (c.tc.loc main_arg0)) (m (c.tc.loc main_arg1)) (m (c.tc.loc main_arg2)) := by
  refine (dats m 0 c).arrAt_eq_of_covers 3 _ (by decide +kernel) fun t hf y => ?_
  have e := (index_at t).2.2.2
  have := point_lt t
  blk_simp
  rw [after0_3]
  idx_vars y
  obtain rfl : y0 = 0 := Subsingleton.elim _ _
  frame_out
  refine (body_at _ _ _ y1 y2).trans ?_
  have e0 : ((((View.whole main_v0).slice (win0_3.rect t)).emb (ix3 0 y1 y2) 0 : ℕ)) = t.val / 4 := by blk_simp [e]; simp
  have e1 : ((((View.whole main_v0).slice (win0_3.rect t)).emb (ix3 0 y1 y2) 1 : ℕ)) = 1152 * (t.val % 2) + y1 := by blk_simp [e]; omega
  have e2 : ((((View.whole main_v0).slice (win0_3.rect t)).emb (ix3 0 y1 y2) 2 : ℕ)) = 512 * (t.val / 2 % 2) + y2 := by blk_simp [e]; omega
  have f0 : ((View.whole main_v0).slice (win0_3.rect t)).emb (ix3 0 y1 y2) 0 = ⟨t.val / 4, by omega⟩ := Fin.ext e0
  have f1 : ((View.whole main_v0).slice (win0_3.rect t)).emb (ix3 0 y1 y2) 1 = ⟨1152 * (t.val % 2) + y1, by omega⟩ := Fin.ext e1
  have f2 : ((View.whole main_v0).slice (win0_3.rect t)).emb (ix3 0 y1 y2) 2 = ⟨512 * (t.val / 2 % 2) + y2, by omega⟩ := Fin.ext e2
  unfold gated
  rw [f0, f1, f2]
  simp only [blockProduct, product, word_at, gate_at, lin_at]
  rfl

theorem drop_at (i : Fin 16) (j : Fin 2304) (k : Fin 1024) (p : Fin 2) :
    Cert.Reference2Ideal.Gen.splits_S16x2304x1024_w32_S16x2304x1024x2_w16.drop (ix4 i j k p) = ix3 i j k := by
  funext a
  match a with
  | ⟨0, _⟩ => rfl
  | ⟨1, _⟩ => rfl
  | ⟨2, _⟩ => rfl

/-- The reference's result. -/
theorem run (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩ fun r =>
      ∀ c : Dev Cert.Reference2Ideal.nD,
      r.2.mem (c.tc.loc Cert.Reference2Ideal.main_v15) = gated (m (c.tc.loc Cert.Reference2Ideal.main_arg0))
        (m (c.tc.loc Cert.Reference2Ideal.main_arg1)) (m (c.tc.loc Cert.Reference2Ideal.main_arg2))
      ∧ r.2.mem (c.tc.loc Cert.Reference2Ideal.main_arg0) = m (c.tc.loc Cert.Reference2Ideal.main_arg0)
      ∧ r.2.mem (c.tc.loc Cert.Reference2Ideal.main_arg1) = m (c.tc.loc Cert.Reference2Ideal.main_arg1)
      ∧ r.2.mem (c.tc.loc Cert.Reference2Ideal.main_arg2) = m (c.tc.loc Cert.Reference2Ideal.main_arg2) := by
  refine (θ_run Cert.Reference2Ideal.defs _ _).mono (fun r h c => ⟨(h c).1.trans ?_, (h c).2⟩) (Cert.Reference2Ideal.Value.run (F := Ideal) m ρ)
  clear h
  clean_types
  funext i
  idx_vars i
  pointwise
  simp only [drop_at]
  rfl

end Cert.Proof.Up
-- ==== Proof.Down.lean ====
/- The second half of the experts' feed-forward part: what the kernel's array and the reference's result hold. -/
module

public import proofs.«01_k».proof.Proof.Gen.Kernel3Ideal.Value
public import proofs.«01_k».proof.Proof.Gen.Reference3Ideal.Run
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384
noncomputable section

namespace Cert.Proof.Down

open Idealize Idealize.ShloMosaic Idealize.SL.Sem Cert.Kernel3Ideal Cert.Kernel3Ideal.Gen

/-- An expert's activations times its second matrix, each token's row weighted by its score. -/
def weighted (a : Vec Ideal S16x2304x1024 .bf16) (w : Vec Ideal S4x16x1024x2048 .f32) (s : Vec Ideal S16x2304x1 .f32) :
    Vec Ideal S16x2304x2048 .bf16 :=
  fun i => (∑ k : Fin 1024, a (ix3 (i 0) (i 1) k) * w (ix4 0 (i 0) k (i 2))) * s (ix3 (i 0) (i 1) 0)

/-- What the body computes of its blocks, entry by entry. -/
theorem body_at (a : Vec Ideal S1x1152x1024 .bf16) (w : Vec Ideal S1x1x1024x2048 .f32) (s : Vec Ideal S1x1152x1 .f32)
    (r : Fin 1152) (q : Fin 2048) :
    k0_pay1 (F := Ideal) a w s (ix3 0 r q) = (∑ k : Fin 1024, a (ix3 0 r k) * w (ix4 0 0 k q)) * s (ix3 0 r 0) := by
  pointwise [k0_pay1]

/-- The blocks that a grid point reads and writes. -/
theorem index_at : ∀ t : Fin cfg0.N, win0_0.index t = ![t.val / 2, t.val % 2, 0] ∧ win0_1.index t = ![0, t.val / 2, 0, 0] ∧
    win0_2.index t = ![t.val / 2, t.val % 2, 0] ∧ win0_3.index t = ![t.val / 2, t.val % 2, 0] := by decide +kernel

theorem point_lt (t : Fin cfg0.N) : t.val < 32 := t.isLt.trans_eq N_0

variable (m : (ℓ : Loc nD τ sig) → Buf (Elt Ideal) ℓ) (c : Dev nD)

theorem act_at (t : Fin cfg0.N) (r : Fin 1152) (k : Fin 1024) :
    iblk m c 0 t (ix3 0 r k) = m (c.tc.loc main_arg0) (ix3 ⟨t.val / 2, by have := point_lt t; omega⟩
      ⟨1152 * (t.val % 2) + r, by omega⟩ k) := by
  have e := (index_at t).1
  blk_ext [iblk, V_main_arg0, e]

theorem weight_at (t : Fin cfg0.N) (k : Fin 1024) (q : Fin 2048) :
    iblk m c 1 t (ix4 0 0 k q) = m (c.tc.loc main_arg1) (ix4 0 ⟨t.val / 2, by have := point_lt t; omega⟩ k q) := by
  have e := (index_at t).2.1
  blk_ext [iblk, V_main_arg1, e]

theorem score_at (t : Fin cfg0.N) (r : Fin 1152) :
    iblk m c 2 t (ix3 0 r 0) = m (c.tc.loc main_arg2) (ix3 ⟨t.val / 2, by have := point_lt t; omega⟩
      ⟨1152 * (t.val % 2) + r, by omega⟩ 0) := by
  have e := (index_at t).2.2.1
  blk_ext [iblk, V_main_arg2, e]

/-- The kernel's array. -/
theorem array : (dats m 0 c).arrAt 3 cfg0.N =
    weighted (m (c.tc.loc main_arg0)) (m (c.tc.loc main_arg1)) (m (c.tc.loc main_arg2)) := by
  refine (dats m 0 c).arrAt_eq_of_covers 3 _ (by decide +kernel) fun t hf y => ?_
  have e := (index_at t).2.2.2
  have := point_lt t
  blk_simp
  rw [after0_3]
  idx_vars y
  obtain rfl : y0 = 0 := Subsingleton.elim _ _
  frame_out
  refine (body_at _ _ _ y1 y2).trans ?_
  have e0 : ((((View.whole main_v0).slice (win0_3.rect t)).emb (ix3 0 y1 y2) 0 : ℕ)) = t.val / 2 := by blk_simp [e]; simp
  have e1 : ((((View.whole main_v0).slice (win0_3.rect t)).emb (ix3 0 y1 y2) 1 : ℕ)) = 1152 * (t.val % 2) + y1 := by blk_simp [e]; omega
  have e2 : ((((View.whole main_v0).slice (win0_3.rect t)).emb (ix3 0 y1 y2) 2 : ℕ)) = y2 := by blk_simp [e]
  have f0 : ((View.whole main_v0).slice (win0_3.rect t)).emb (ix3 0 y1 y2) 0 = ⟨t.val / 2, by omega⟩ := Fin.ext e0
  have f1 : ((View.whole main_v0).slice (win0_3.rect t)).emb (ix3 0 y1 y2) 1 = ⟨1152 * (t.val % 2) + y1, by omega⟩ := Fin.ext e1
  have f2 : ((View.whole main_v0).slice (win0_3.rect t)).emb (ix3 0 y1 y2) 2 = y2 := Fin.ext e2
  unfold weighted
  rw [f0, f1, f2, score_at]
  simp only [act_at, weight_at]
  rfl

/-- The reference's result. -/
theorem run (m : (ℓ : Loc Cert.Reference3Ideal.nD Cert.Reference3Ideal.τ Cert.Reference3Ideal.sig) → Buf (Elt Ideal) ℓ)
    (ρ : Dev Cert.Reference3Ideal.nD → PrngReg) :
    θ_run Cert.Reference3Ideal.defs (onTc (τ := Cert.Reference3Ideal.τ) (Cert.Reference3Ideal.main (F := Ideal))) ⟨m, fun _ => 0, ρ⟩ fun r =>
      ∀ c : Dev Cert.Reference3Ideal.nD,
      r.2.mem (c.tc.loc Cert.Reference3Ideal.main_v6) = weighted (m (c.tc.loc Cert.Reference3Ideal.main_arg0))
        (m (c.tc.loc Cert.Reference3Ideal.main_arg1)) (m (c.tc.loc Cert.Reference3Ideal.main_arg2))
      ∧ r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1)
      ∧ r.2.mem (c.tc.loc Cert.Reference3Ideal.main_arg2) = m (c.tc.loc Cert.Reference3Ideal.main_arg2) := by
  refine (θ_run Cert.Reference3Ideal.defs _ _).mono (fun r h c => ⟨(h c).1.trans ?_, (h c).2⟩) (Cert.Reference3Ideal.Value.run (F := Ideal) m ρ)
  clean_types
  funext i
  idx_vars i
  pointwise [weighted]

end Cert.Proof.Down
-- ==== Proof.Norm.lean ====
/- The input projection of the linear attention: kernel and reference compute the same array. -/
module

public import proofs.«01_k».proof.Proof.Gen.Kernel4Ideal.Value
public import proofs.«01_k».proof.Proof.Gen.Reference4Ideal.Run
public import Idealize.ShloMosaic.Lib.Pointwise
public import Idealize.ShloMosaic.Lib.StableHlo.ReadAt
public import Idealize.ShloMosaic.Lib.Tactic.CleanTypes
public import Idealize.ShloMosaic.Lib.Tactic.WordOmega
public import Idealize.ShloMosaic.Lib.Pipeline.ReadBack
public import Idealize.ShloMosaic.Lib.Pipeline.ValueKit
public import Idealize.ShloMosaic.Lib.Pipeline.Covers

@[expose] public section

set_option maxRecDepth 16384
noncomputable section

namespace Cert.Proof.Norm

open Idealize Idealize.ShloMosaic Idealize.SL.Sem Cert.Kernel4Ideal Cert.Kernel4Ideal.Gen

/-- A row of 2048 values over its root mean square, times a weight, scaled and shifted. -/
def normed (x g scale shift : Fin 2048 → EReal) (k : Fin 2048) : EReal :=
  x k * Ideal.rsqrt (Ideal.div (∑ j, x j * x j) (Ideal.ofBits FTy.f32 1157627904#32) + Ideal.ofBits FTy.f32 897988541#32) * g k * (1 + scale k) + shift k

theorem normed_congr {x y g a b c d : Fin 2048 → EReal} (hx : ∀ j, x j = y j) (ha : ∀ j, a j = b j) (hc : ∀ j, c j = d j) (k : Fin 2048) :
    normed x g a c k = normed y g b d k := by
  rw [funext hx, funext ha, funext hc]

/-- A row of the modulation for a token: its image's, or the context's. -/
def modulation (g : Vec Ideal S16x6x2048 .f32) (j : Fin 6) (r : Fin 18432) (k : Fin 2048) : EReal :=
  if 2048 ≤ r.val % 2304 then g (ix3 8 j k) else g (ix3 ⟨r.val / 2304, by omega⟩ j k)

/-- A token, normed and modulated. -/
def token (x : Vec Ideal S18432x2048 .f32) (g : Vec Ideal S2048 .f32) (a : Vec Ideal S16x6x2048 .f32) (r : Fin 18432) : Fin 2048 → EReal :=
  normed (fun k => x (ix2 r k)) (fun k => g (ix1 k)) (modulation a 1 r) (modulation a 0 r)

/-- The tokens' projections. -/
def projection (x : Vec Ideal S18432x2048 .f32) (g : Vec Ideal S2048 .f32) (a : Vec Ideal S16x6x2048 .f32) (w : Vec Ideal S2048x6272 .f32) :
    Vec Ideal S18432x6272 .bf16 :=
  fun i => ∑ k : Fin 2048, token x g a (i 0) k * w (ix2 k (i 1))

/-- The normed and modulated rows of a tile. -/
def rows (n : ℕ) (x : Vec Ideal S1152x2048 .f32) (g : Vec Ideal S1x2048 .f32) (own context : Vec Ideal S1x6x2048 .f32) : Vec Ideal S1152x2048 .bf16 :=
  fun i => normed (fun j => x (ix2 (i 0) j)) (fun j => g (ix2 0 j))
    (fun j => if n % 2 = 1 ∧ 896 ≤ (i 0).val then context (ix3 0 1 j) else own (ix3 0 1 j))
    (fun j => if n % 2 = 1 ∧ 896 ≤ (i 0).val then context (ix3 0 0 j) else own (ix3 0 0 j)) (i 1)

theorem pick_at (n r o : ℕ) (h : r + o < 1152) (a b : EReal) :
    Scalar.select (IntOp.andi (if n % 2 = 1 then 1#1 else 0#1) (IntOp.cmpi .sge (IntOp.addi (BitVec.ofNat 32 r) (BitVec.ofNat 32 o)) 896#32)) a b =
      if n % 2 = 1 ∧ 896 ≤ r + o then a else b := by
  have e : IntOp.addi (BitVec.ofNat 32 r) (BitVec.ofNat 32 o) = BitVec.ofNat 32 (r + o) := (BitVec.ofNat_add r o).symm
  rw [e]
  generalize r + o = s at *
  have f : IntOp.cmpi .sge (BitVec.ofNat 32 s) 896#32 = if 896 ≤ s then 1#1 else 0#1 := by split <;> word_omega
  rw [f]
  by_cases h1 : n % 2 = 1 <;> by_cases h2 : 896 ≤ s <;> simp only [h1, h2, if_true, if_false, and_self, and_true, true_and, and_false, false_and] <;> rfl

theorem parity_at (n : ℕ) (h : n < 16) :
    Scalar.cmpi .eq (Scalar.select (Scalar.andi (Scalar.xori (Scalar.cmpi .slt (Scalar.remsi (BitVec.ofNat 32 n) 2#32) 0#32) 0#1)
      (Scalar.cmpi .ne (Scalar.remsi (BitVec.ofNat 32 n) 2#32) 0#32)) (Scalar.addi (Scalar.remsi (BitVec.ofNat 32 n) 2#32) 2#32)
      (Scalar.remsi (BitVec.ofNat 32 n) 2#32)) 1#32 = if n % 2 = 1 then 1#1 else 0#1 := by
  interval_cases n <;> rfl

theorem two_word : Scalar.select (Scalar.cmpi .eq 2#32 0#32) 1#32 2#32 = 2#32 := rfl

theorem sign_word : Scalar.cmpi .slt 2#32 0#32 = 0#1 := rfl

theorem piece_first (n : ℕ) (hn : n < 16) (x : Vec Ideal S288x2048 .f32) (g : Vec Ideal S1x2048 .f32) (a b e f : Vec Ideal S1x1x2048 .f32) (r : Fin 288) (s : ℕ)
    (hs : s = r.val + 0) (k : Fin 2048) :
    k0_pay8 (k0_pay3 x g) (k0_pay4 (BitVec.ofNat 32 n)) (k0_pay5 a) (k0_pay6 b) (k0_pay7 (BitVec.ofNat 32 n)) e f (ix2 r k) = normed (fun j => x (ix2 r j)) (fun j => g (ix2 0 j))
      (fun j => if n % 2 = 1 ∧ 896 ≤ s then a (ix3 0 0 j) else b (ix3 0 0 j))
      (fun j => if n % 2 = 1 ∧ 896 ≤ s then e (ix3 0 0 j) else f (ix3 0 0 j)) k := by
  have h := r.isLt
  pointwise [k0_pay8, k0_pay3, k0_pay4, k0_pay5, k0_pay6, k0_pay7]
  simp only [two_word, sign_word, parity_at n hn]
  subst hs
  rw [pick_at n r.val 0 (by omega), pick_at n r.val 0 (by omega)]
  rfl

theorem piece_second (n : ℕ) (hn : n < 16) (x : Vec Ideal S288x2048 .f32) (g : Vec Ideal S1x2048 .f32) (a b e f : Vec Ideal S1x1x2048 .f32) (r : Fin 288) (s : ℕ)
    (hs : s = r.val + 288) (k : Fin 2048) :
    k0_pay11 (if n % 2 = 1 then 1#1 else 0#1) (k0_pay9 x g) (iota Kind.tc S288x1 32 [0] iota_S288x1_d0_w32) k0_pay10 a b e f (ix2 r k) = normed (fun j => x (ix2 r j)) (fun j => g (ix2 0 j))
      (fun j => if n % 2 = 1 ∧ 896 ≤ s then a (ix3 0 0 j) else b (ix3 0 0 j))
      (fun j => if n % 2 = 1 ∧ 896 ≤ s then e (ix3 0 0 j) else f (ix3 0 0 j)) k := by
  have h := r.isLt
  pointwise [k0_pay11, k0_pay9, k0_pay10]
  subst hs
  rw [pick_at n r.val 288 (by omega), pick_at n r.val 288 (by omega)]
  rfl

theorem piece_third (n : ℕ) (hn : n < 16) (x : Vec Ideal S288x2048 .f32) (g : Vec Ideal S1x2048 .f32) (a b e f : Vec Ideal S1x1x2048 .f32) (r : Fin 288) (s : ℕ)
    (hs : s = r.val + 576) (k : Fin 2048) :
    k0_pay17 (k0_pay13 x (k0_pay12 x) (FloatOps.ofBits FTy.f32 1157627904#32) g) (k0_pay15 (if n % 2 = 1 then 1#1 else 0#1) e f) (k0_pay16 (if n % 2 = 1 then 1#1 else 0#1) a b) (ix2 r k) = normed (fun j => x (ix2 r j)) (fun j => g (ix2 0 j))
      (fun j => if n % 2 = 1 ∧ 896 ≤ s then a (ix3 0 0 j) else b (ix3 0 0 j))
      (fun j => if n % 2 = 1 ∧ 896 ≤ s then e (ix3 0 0 j) else f (ix3 0 0 j)) k := by
  have h := r.isLt
  pointwise [k0_pay17, k0_pay13, k0_pay12, k0_pay15, k0_pay16, k0_pay14]
  subst hs
  rw [pick_at n r.val 576 (by omega), pick_at n r.val 576 (by omega)]
  rfl

theorem piece_fourth (n : ℕ) (hn : n < 16) (x : Vec Ideal S288x2048 .f32) (g : Vec Ideal S1x2048 .f32) (a b e f : Vec Ideal S1x1x2048 .f32) (r : Fin 288) (s : ℕ)
    (hs : s = r.val + 864) (k : Fin 2048) :
    k0_pay1 (k0_pay18 x g) (k0_pay19 (if n % 2 = 1 then 1#1 else 0#1)) (k0_pay20 (if n % 2 = 1 then 1#1 else 0#1) a b) e f (ix2 r k) = normed (fun j => x (ix2 r j)) (fun j => g (ix2 0 j))
      (fun j => if n % 2 = 1 ∧ 896 ≤ s then a (ix3 0 0 j) else b (ix3 0 0 j))
      (fun j => if n % 2 = 1 ∧ 896 ≤ s then e (ix3 0 0 j) else f (ix3 0 0 j)) k := by
  have h := r.isLt
  pointwise [k0_pay1, k0_pay18, k0_pay19, k0_pay20]
  subst hs
  rw [pick_at n r.val 864 (by omega), pick_at n r.val 864 (by omega)]
  rfl

theorem ld_rows (x : Vec Ideal S1152x2048 .f32) (o : ℕ) (inb) (h : o + 288 ≤ 1152) (r : Fin 288) (k : Fin 2048) :
    View.ld (Val := Elt Ideal) (e' := .f32) x (Rect.unit (s := S1152x2048) ![o, 0] ![288, 2048] inb) (ix2 r k) = x (ix2 ⟨r.val + o, by omega⟩ k) :=
  View.ld_unit_apply_of _ _ _ _ _ _ fun a => by
    match a with
    | ⟨0, _⟩ => exact Nat.add_comm _ _
    | ⟨1, _⟩ => exact (Nat.zero_add _).symm

theorem ld_modulation (x : Vec Ideal S1x6x2048 .f32) (o : Fin 6) (inb) (k : Fin 2048) :
    View.ld (Val := Elt Ideal) (e' := .f32) x (Rect.unit (s := S1x6x2048) ![0, o.val, 0] ![1, 1, 2048] inb) (ix3 0 0 k) = x (ix3 0 o k) :=
  View.ld_unit_apply_of _ _ _ _ _ _ fun a => by
    match a with
    | ⟨0, _⟩ => rfl
    | ⟨1, _⟩ => rfl
    | ⟨2, _⟩ => exact (Nat.zero_add _).symm

theorem emb_rows (o : ℕ) (inb) (h : o + 288 ≤ 1152) (r : Fin 288) (k : Fin 2048) :
    (Rect.unit (s := S1152x2048) ![o, 0] ![288, 2048] inb).emb (ix2 r k) = ix2 ⟨r.val + o, by omega⟩ k := by
  funext a
  match a with
  | ⟨0, _⟩ => exact Fin.ext (show o + 1 * r.val = r.val + o by omega)
  | ⟨1, _⟩ => exact Fin.ext (show 0 + 1 * k.val = k.val by omega)

variable (m : (ℓ : Loc nD τ sig) → Buf (Elt Ideal) ℓ) (c : Dev nD)

theorem point_lt (t : Fin cfg0.N) : t.val < 112 := t.isLt.trans_eq N_0

theorem next_out (t : Fin cfg0.N) (h : ¬ t.val % 7 = 0) :
    (outsAt0 m c t.val t.isLt).1 = k0_pay2 (outsAt0 m c (t.val - 1) (by omega)).2 (iblk m c 4 t) := by
  rw [outsAt0_B m c t h]
  frame_out
  simp only [read_unread_whole]

theorem next_scratch (t : Fin cfg0.N) (h : ¬ t.val % 7 = 0) :
    (outsAt0 m c t.val t.isLt).2 = (outsAt0 m c (t.val - 1) (by omega)).2 := by
  rw [outsAt0_B m c t h]
  rfl

theorem first_out (t : Fin cfg0.N) (h : t.val % 7 = 0) :
    (outsAt0 m c t.val t.isLt).1 = k0_pay2 (outsAt0 m c t.val t.isLt).2 (iblk m c 4 t) := by
  rw [outsAt0_A m c t h]
  dsimp only
  frame_out
  simp only [View.readCov_eq_canon']
  refine congrArg (fun z => k0_pay2 z (iblk m c 4 t)) ?_
  generalize View.canon (Val := Elt Ideal) _ = L
  funext y
  refine congrArg L (funext fun a => Fin.ext ?_)
  match a with
  | ⟨0, _⟩ => exact (show 0 + 1 * (y 0).val = (y 0).val by omega)
  | ⟨1, _⟩ => exact (show 0 + 1 * (y 1).val = (y 1).val by omega)

theorem first_scratch (t : Fin cfg0.N) (h : t.val % 7 = 0) :
    (outsAt0 m c t.val t.isLt).2 = rows (grid0.coords t 0).val (iblk m c 0 t) (iblk m c 1 t) (iblk m c 2 t) (iblk m c 3 t) := by
  rw [outsAt0_A m c t h]
  dsimp only
  frame_out
  have hn : (grid0.coords t 0 : ℕ) < 16 := (grid0.coords t 0).isLt
  funext y
  generalize (grid0.coords t 0 : ℕ) = n at *
  rw [parity_at n hn]
  refine View.canon_apply_of_pieces (rows n (iblk m c 0 t) (iblk m c 1 t) (iblk m c 2 t) (iblk m c 3 t)) _ (View.PiecesOf.mem ?_) y
    (View.cover_of_tiled_head _ _ _ (by rfl) y)
  refine ⟨?_, ?_, ?_, ?_, trivial⟩
  · intro x
    idx_vars x
    refine (piece_fourth n hn _ _ _ _ _ _ x0 (x0.val + 864) rfl x1).trans ?_
    refine Eq.trans ?_ (congrArg (rows n _ _ _ _) (emb_rows 864 _ (by omega) x0 x1)).symm
    exact normed_congr (fun j => ld_rows _ 864 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_third n hn _ _ _ _ _ _ x0 (x0.val + 576) rfl x1).trans ?_
    refine Eq.trans ?_ (congrArg (rows n _ _ _ _) (emb_rows 576 _ (by omega) x0 x1)).symm
    exact normed_congr (fun j => ld_rows _ 576 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_second n hn _ _ _ _ _ _ x0 (x0.val + 288) rfl x1).trans ?_
    refine Eq.trans ?_ (congrArg (rows n _ _ _ _) (emb_rows 288 _ (by omega) x0 x1)).symm
    exact normed_congr (fun j => ld_rows _ 288 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_first n hn _ _ _ _ _ _ x0 (x0.val + 0) rfl x1).trans ?_
    refine Eq.trans ?_ (congrArg (rows n _ _ _ _) (emb_rows 0 _ (by omega) x0 x1)).symm
    exact normed_congr (fun j => ld_rows _ 0 _ (by omega) x0 j) (fun j => if_congr Iff.rfl (ld_modulation _ 1 _ j) (ld_modulation _ 1 _ j))
      (fun j => if_congr Iff.rfl (ld_modulation _ 0 _ j) (ld_modulation _ 0 _ j)) x1
/-- The blocks that a grid point reads and writes. -/
theorem index_at : ∀ t : Fin cfg0.N, win0_0.index t = ![t.val / 7, 0] ∧ win0_1.index t = ![0, 0] ∧ win0_2.index t = ![t.val / 7 / 2, 0, 0] ∧
    win0_3.index t = ![8, 0, 0] ∧ win0_4.index t = ![0, t.val % 7] ∧ win0_5.index t = ![t.val / 7, t.val % 7] ∧
    (grid0.coords t 0).val = t.val / 7 := by decide +kernel

theorem gains (k : Fin 2048) : V m c main_v1 (ix2 0 k) = m (c.tc.loc main_arg1) (ix1 k) := by
  unfold V
  after_reads_at
  try simp only [id_eq]
  try pointwise
  repeat (after_reads_at; try simp only [id_eq]; try pointwise)

theorem weights (k : Fin 2048) (q : Fin 6272) : V m c main_v0 (ix2 k q) = m (c.tc.loc main_arg3) (ix2 k q) := by
  unfold V
  after_reads_at
  try simp only [id_eq]
  try pointwise
  repeat (after_reads_at; try simp only [id_eq]; try pointwise)

theorem row_at (t : Fin cfg0.N) (r : Fin 1152) (k : Fin 2048) :
    iblk m c 0 t (ix2 r k) = m (c.tc.loc main_arg0) (ix2 ⟨1152 * (t.val / 7) + r, by have := point_lt t; omega⟩ k) := by
  have e := (index_at t).1
  blk_ext [iblk, V_main_arg0, e]

theorem gain_at (t : Fin cfg0.N) (k : Fin 2048) : iblk m c 1 t (ix2 0 k) = m (c.tc.loc main_arg1) (ix1 k) := by
  have e := (index_at t).2.1
  have h : iblk m c 1 t (ix2 0 k) = V m c main_v1 (ix2 0 k) := by
    blk_ext [iblk, e]
  exact h.trans (gains m c _)

theorem own_at (t : Fin cfg0.N) (j : Fin 6) (k : Fin 2048) :
    iblk m c 2 t (ix3 0 j k) = m (c.tc.loc main_arg2) (ix3 ⟨t.val / 7 / 2, by have := point_lt t; omega⟩ j k) := by
  have e := (index_at t).2.2.1
  blk_ext [iblk, V_main_arg2, e]

theorem context_at (t : Fin cfg0.N) (j : Fin 6) (k : Fin 2048) :
    iblk m c 3 t (ix3 0 j k) = m (c.tc.loc main_arg2) (ix3 8 j k) := by
  have e := (index_at t).2.2.2.1
  blk_ext [iblk, V_main_arg2, e]

theorem weight_at (t : Fin cfg0.N) (k : Fin 2048) (q : Fin 896) :
    iblk m c 4 t (ix2 k q) = m (c.tc.loc main_arg3) (ix2 k ⟨896 * (t.val % 7) + q, by omega⟩) := by
  have e := (index_at t).2.2.2.2.1
  have h : iblk m c 4 t (ix2 k q) = V m c main_v0 (ix2 k ⟨896 * (t.val % 7) + q, by omega⟩) := by
    blk_ext [iblk, e]
  exact h.trans (weights m c _ _)

theorem modulation_at (a : Vec Ideal S16x6x2048 .f32) (q : ℕ) (hq : q < 16) (r : Fin 1152) (j : Fin 6) (k : Fin 2048) :
    (if q % 2 = 1 ∧ 896 ≤ r.val then a (ix3 8 j k) else a (ix3 ⟨q / 2, by omega⟩ j k)) =
      modulation a j ⟨1152 * q + r.val, by omega⟩ k := by
  unfold modulation
  refine if_congr ?_ rfl (congrArg (fun i => a (ix3 i j k)) (Fin.ext ?_))
  · show _ ↔ 2048 ≤ (1152 * q + r.val) % 2304
    omega
  · show q / 2 = (1152 * q + r.val) / 2304
    omega

/-- The rows that a tile's first grid point leaves in the scratch. -/
theorem first_at (t : Fin cfg0.N) (h : t.val % 7 = 0) (r : Fin 1152) (k : Fin 2048) :
    (outsAt0 m c t.val t.isLt).2 (ix2 r k) = token (m (c.tc.loc main_arg0)) (m (c.tc.loc main_arg1)) (m (c.tc.loc main_arg2))
      ⟨1152 * (t.val / 7) + r, by have := point_lt t; omega⟩ k := by
  have ht := point_lt t
  have hq : t.val / 7 < 16 := by omega
  rw [first_scratch m c t h, (index_at t).2.2.2.2.2.2]
  show normed _ _ _ _ k = normed _ _ _ _ k
  rw [show (fun j : Fin 2048 => iblk m c 1 t (ix2 0 j)) = fun j => m (c.tc.loc main_arg1) (ix1 j) from funext fun j => gain_at m c t j]
  refine normed_congr (fun j => row_at m c t r j) (fun j => ?_) (fun j => ?_) k
  · exact (if_congr Iff.rfl (context_at m c t 1 j) (own_at m c t 1 j)).trans (modulation_at _ (t.val / 7) hq r 1 j)
  · exact (if_congr Iff.rfl (context_at m c t 0 j) (own_at m c t 0 j)).trans (modulation_at _ (t.val / 7) hq r 0 j)

/-- The rows that a grid point finds in the scratch, or leaves there: those of its tile. -/
theorem scratch_at (n : ℕ) (h : n < cfg0.N) (r : Fin 1152) (k : Fin 2048) :
    (outsAt0 m c n h).2 (ix2 r k) = token (m (c.tc.loc main_arg0)) (m (c.tc.loc main_arg1)) (m (c.tc.loc main_arg2))
      ⟨1152 * (n / 7) + r, by have := point_lt ⟨n, h⟩; simp only at this; omega⟩ k := by
  induction n with
  | zero => exact first_at m c ⟨0, h⟩ rfl r k
  | succ n ih =>
    by_cases h7 : (n + 1) % 7 = 0
    · exact first_at m c ⟨n + 1, h⟩ h7 r k
    · refine (congrFun (next_scratch m c ⟨n + 1, h⟩ h7) (ix2 r k)).trans ((ih (by omega)).trans ?_)
      exact congrArg (fun q => token _ _ _ q k) (Fin.ext (show 1152 * (n / 7) + r.val = 1152 * ((n + 1) / 7) + r.val by omega))

theorem product_at (a : Vec Ideal S1152x2048 .bf16) (w : Vec Ideal S2048x896 .bf16) (r : Fin 1152) (q : Fin 896) :
    k0_pay2 (F := Ideal) a w (ix2 r q) = ∑ k : Fin 2048, a (ix2 r k) * w (ix2 k q) := by
  pointwise [k0_pay2]

/-- What a grid point writes. -/
theorem out_at (t : Fin cfg0.N) (r : Fin 1152) (q : Fin 896) :
    (outsAt0 m c t.val t.isLt).1 (ix2 r q) = ∑ k : Fin 2048, token (m (c.tc.loc main_arg0)) (m (c.tc.loc main_arg1)) (m (c.tc.loc main_arg2))
      ⟨1152 * (t.val / 7) + r, by have := point_lt t; omega⟩ k * m (c.tc.loc main_arg3) (ix2 k ⟨896 * (t.val % 7) + q, by omega⟩) := by
  have e : (outsAt0 m c t.val t.isLt).1 = k0_pay2 (outsAt0 m c t.val t.isLt).2 (iblk m c 4 t) := by
    by_cases h : t.val % 7 = 0
    · exact first_out m c t h
    · exact (next_out m c t h).trans (congrArg (fun z => k0_pay2 z (iblk m c 4 t)) (next_scratch m c t h).symm)
  refine (congrFun e _).trans ((product_at _ _ r q).trans (Finset.sum_congr rfl fun k _ => ?_))
  exact congrArg₂ (· * ·) (scratch_at m c t.val t.isLt r k) (weight_at m c t k q)

/-- The kernel's array. -/
theorem array : (dats m 0 c).arrAt 5 cfg0.N = projection (m (c.tc.loc main_arg0)) (m (c.tc.loc main_arg1)) (m (c.tc.loc main_arg2))
    (m (c.tc.loc main_arg3)) := by
  refine (dats m 0 c).arrAt_eq_of_covers 5 _ (by decide +kernel) fun t hf y => ?_
  have e := (index_at t).2.2.2.2.2.1
  have := point_lt t
  blk_simp
  rw [after0_5]
  idx_vars y
  have e0 : ((((View.whole main_v2).slice (win0_5.rect t)).emb (ix2 y0 y1) 0 : ℕ)) = 1152 * (t.val / 7) + y0 := by blk_simp [e]; omega
  have e1 : ((((View.whole main_v2).slice (win0_5.rect t)).emb (ix2 y0 y1) 1 : ℕ)) = 896 * (t.val % 7) + y1 := by blk_simp [e]; omega
  have f : ((View.whole main_v2).slice (win0_5.rect t)).emb (ix2 y0 y1) = ix2 ⟨1152 * (t.val / 7) + y0, by omega⟩ ⟨896 * (t.val % 7) + y1, by omega⟩ := by
    funext a
    match a with
    | ⟨0, _⟩ => exact Fin.ext e0
    | ⟨1, _⟩ => exact Fin.ext e1
  rw [f]
  exact out_at m c t y0 y1

/-- The reference's result. -/
theorem run (m : (ℓ : Loc Cert.Reference4Ideal.nD Cert.Reference4Ideal.τ Cert.Reference4Ideal.sig) → Buf (Elt Ideal) ℓ)
    (ρ : Dev Cert.Reference4Ideal.nD → PrngReg) :
    θ_run Cert.Reference4Ideal.defs (onTc (τ := Cert.Reference4Ideal.τ) (Cert.Reference4Ideal.main (F := Ideal))) ⟨m, fun _ => 0, ρ⟩ fun r =>
      ∀ c : Dev Cert.Reference4Ideal.nD,
      r.2.mem (c.tc.loc Cert.Reference4Ideal.main_v56) = projection (m (c.tc.loc Cert.Reference4Ideal.main_arg0))
        (m (c.tc.loc Cert.Reference4Ideal.main_arg1)) (m (c.tc.loc Cert.Reference4Ideal.main_arg2))
        (m (c.tc.loc Cert.Reference4Ideal.main_arg3))
      ∧ r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1)
      ∧ r.2.mem (c.tc.loc Cert.Reference4Ideal.main_arg2) = m (c.tc.loc Cert.Reference4Ideal.main_arg2)
      ∧ r.2.mem (c.tc.loc Cert.Reference4Ideal.main_arg3) = m (c.tc.loc Cert.Reference4Ideal.main_arg3) := by
  refine (θ_run Cert.Reference4Ideal.defs _ _).mono (fun r h c => ⟨(h c).1.trans ?_, (h c).2⟩) (Cert.Reference4Ideal.Value.run (F := Ideal) m ρ)
  clear h
  clean_types
  funext i
  idx_vars i
  pointwise [projection, token, normed, modulation]
  refine Finset.sum_congr rfl fun x _ => ?_
  refine congrArg (· * _) ?_
  by_cases h : i0.val % 2304 < 2048
  · refine (dif_pos h).trans ?_
    simp only [if_neg (show ¬ 2048 ≤ i0.val % 2304 by omega)]
  · have e : ∀ p, (⟨i0.val / 2304 * 2304 + (2048 + (i0.val % 2304 - 2048)), p⟩ : Fin 18432) = i0 := fun p => Fin.ext (show i0.val / 2304 * 2304 + (2048 + (i0.val % 2304 - 2048)) = i0.val by omega)
    refine (dif_neg h).trans ?_
    simp only [e, if_pos (show 2048 ≤ i0.val % 2304 by omega)]

end Cert.Proof.Norm
-- ==== Proof.Out.lean ====
/- The output projection and its residual: kernel and reference compute the same array. -/
module

public import proofs.«01_k».proof.Proof.Gen.Kernel5Ideal.Value
public import proofs.«01_k».proof.Proof.Gen.Reference5Ideal.Run
public import Idealize.ShloMosaic.Lib.Pointwise
public import Idealize.ShloMosaic.Lib.StableHlo.ReadAt
public import Idealize.ShloMosaic.Lib.Tactic.CleanTypes
public import Idealize.ShloMosaic.Lib.Tactic.WordOmega
public import Idealize.ShloMosaic.Lib.Pipeline.ValueKit
public import Idealize.ShloMosaic.Lib.Pipeline.Covers

@[expose] public section

set_option maxRecDepth 16384
noncomputable section

namespace Cert.Proof.Out

open Idealize Idealize.ShloMosaic Idealize.SL.Sem Cert.Kernel5Ideal Cert.Kernel5Ideal.Gen

/-- The gate of a row: its image's, or the context's. -/
def gate (g : Vec Ideal S16x6x2048 .f32) (r : Fin 18432) (f : Fin 2048) : EReal :=
  if 2048 ≤ r.val % 2304 then g (ix3 8 2 f) else g (ix3 ⟨r.val / 2304, by omega⟩ 2 f)

/-- The projected rows, gated, on top of the rows they came from. -/
def residual (a : Vec Ideal S18432x2048 .bf16) (w : Vec Ideal S2048x2048 .f32) (b : Vec Ideal S2048 .f32)
    (x : Vec Ideal S18432x2048 .f32) (g : Vec Ideal S16x6x2048 .f32) : Vec Ideal S18432x2048 .f32 :=
  fun i => x i + gate g (i 0) (i 1) * (∑ k : Fin 2048, a (ix2 (i 0) k) * w (ix2 k (i 1)) + b (ix1 (i 1)))

theorem product_at (a : Vec Ideal S1152x2048 .bf16) (w : Vec Ideal S2048x1024 .bf16) (b : Vec Ideal S1x1024 .f32) (r : Fin 1152) (q : Fin 1024) :
    k0_pay2 (F := Ideal) a w b (ix2 r q) = ∑ k : Fin 2048, a (ix2 r k) * w (ix2 k q) + b (ix2 0 q) := by
  pointwise [k0_pay2]

theorem late_word (r : Fin 1152) : IntOp.cmpi .sge (BitVec.ofNat 32 r.val) 896#32 = if 896 ≤ r.val then 1#1 else 0#1 := by
  split <;> word_omega

theorem gate_at (i : grid0.Coords) (g g' : Vec Ideal S1x1x1024 .f32) (r : Fin 1152) (q : Fin 1024) :
    k0_pay3 (F := Ideal) i g g' (ix2 r q) = if (i 1).val % 2 = 1 ∧ 896 ≤ r.val then g (ix3 0 0 q) else g' (ix3 0 0 q) := by
  pointwise [k0_pay3]
  have n : (i 1 : ℕ) < 16 := (i 1).isLt
  rw [late_word r]
  generalize (i 1).val = k at *
  by_cases h : 896 ≤ r.val
  · simp only [if_pos h, h, and_true]
    interval_cases k <;> rfl
  · simp only [if_neg h, h, and_false, if_false]
    interval_cases k <;> rfl

theorem pay_at (p v x : Vec Ideal S1152x1024 .f32) (r : Fin 1152) (q : Fin 1024) :
    k0_pay1 (F := Ideal) p v x (ix2 r q) = x (ix2 r q) + v (ix2 r q) * p (ix2 r q) := rfl

theorem ld_at (x : Vec Ideal S1x6x1024 .f32) (q : Fin 1024) : View.ld (Val := Elt Ideal) x r0_3 (ix3 0 0 q) = x (ix3 0 2 q) := by
  refine congrArg x (funext fun a => ?_)
  match a with
  | ⟨0, _⟩ => rfl
  | ⟨1, _⟩ => rfl
  | ⟨2, _⟩ => exact Fin.ext (show 0 + 1 * q.val = q.val by omega)

/-- The blocks that a grid point reads and writes. -/
theorem index_at : ∀ t : Fin cfg0.N, win0_0.index t = ![t.val % 16, 0] ∧ win0_1.index t = ![0, t.val / 16] ∧
    win0_2.index t = ![0, t.val / 16] ∧ win0_3.index t = ![t.val % 16, t.val / 16] ∧ win0_4.index t = ![t.val % 16 / 2, 0, t.val / 16] ∧
    win0_5.index t = ![8, 0, t.val / 16] ∧ win0_6.index t = ![t.val % 16, t.val / 16] ∧ (grid0.coords t 1).val = t.val % 16 := by decide +kernel

theorem point_lt (t : Fin cfg0.N) : t.val < 32 := t.isLt.trans_eq N_0

variable (m : (ℓ : Loc nD τ sig) → Buf (Elt Ideal) ℓ) (c : Dev nD)

theorem weights (k : Fin 2048) (q : Fin 2048) : V m c main_v0 (ix2 k q) = m (c.tc.loc main_arg1) (ix2 k q) := by
  unfold V
  after_reads_at
  try simp only [id_eq]
  try pointwise
  repeat (after_reads_at; try simp only [id_eq]; try pointwise)

theorem bias (q : Fin 2048) : V m c main_v1 (ix2 0 q) = m (c.tc.loc main_arg2) (ix1 q) := by
  unfold V
  after_reads_at
  try simp only [id_eq]
  try pointwise
  repeat (after_reads_at; try simp only [id_eq]; try pointwise)

theorem row_at (t : Fin cfg0.N) (r : Fin 1152) (k : Fin 2048) :
    iblk m c 0 t (ix2 r k) = m (c.tc.loc main_arg0) (ix2 ⟨1152 * (t.val % 16) + r, by omega⟩ k) := by
  have e := (index_at t).1
  blk_ext [iblk, V_main_arg0, e]

theorem weight_at (t : Fin cfg0.N) (k : Fin 2048) (q : Fin 1024) :
    iblk m c 1 t (ix2 k q) = m (c.tc.loc main_arg1) (ix2 k ⟨1024 * (t.val / 16) + q, by have := point_lt t; omega⟩) := by
  have e := (index_at t).2.1
  have h : iblk m c 1 t (ix2 k q) = V m c main_v0 (ix2 k ⟨1024 * (t.val / 16) + q, by have := point_lt t; omega⟩) := by
    blk_ext [iblk, e]
  exact h.trans (weights m c _ _)

theorem bias_at (t : Fin cfg0.N) (q : Fin 1024) :
    iblk m c 2 t (ix2 0 q) = m (c.tc.loc main_arg2) (ix1 ⟨1024 * (t.val / 16) + q, by have := point_lt t; omega⟩) := by
  have e := (index_at t).2.2.1
  have h : iblk m c 2 t (ix2 0 q) = V m c main_v1 (ix2 0 ⟨1024 * (t.val / 16) + q, by have := point_lt t; omega⟩) := by
    blk_ext [iblk, e]
  exact h.trans (bias m c _)

theorem old_at (t : Fin cfg0.N) (r : Fin 1152) (q : Fin 1024) :
    iblk m c 3 t (ix2 r q) = m (c.tc.loc main_arg3) (ix2 ⟨1152 * (t.val % 16) + r, by omega⟩ ⟨1024 * (t.val / 16) + q, by have := point_lt t; omega⟩) := by
  have e := (index_at t).2.2.2.1
  blk_ext [iblk, V_main_arg3, e]

theorem own_at (t : Fin cfg0.N) (q : Fin 1024) :
    iblk m c 4 t (ix3 0 2 q) = m (c.tc.loc main_arg4) (ix3 ⟨t.val % 16 / 2, by omega⟩ 2 ⟨1024 * (t.val / 16) + q, by have := point_lt t; omega⟩) := by
  have e := (index_at t).2.2.2.2.1
  blk_ext [iblk, V_main_arg4, e]

theorem context_at (t : Fin cfg0.N) (q : Fin 1024) :
    iblk m c 5 t (ix3 0 2 q) = m (c.tc.loc main_arg4) (ix3 8 2 ⟨1024 * (t.val / 16) + q, by have := point_lt t; omega⟩) := by
  have e := (index_at t).2.2.2.2.2.1
  blk_ext [iblk, V_main_arg4, e]

/-- The kernel's array. -/
theorem array : (dats m 0 c).arrAt 6 cfg0.N = residual (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  have e := (index_at t).2.2.2.2.2.2.1
  have ec := (index_at t).2.2.2.2.2.2.2
  have := point_lt t
  blk_simp
  rw [after0_6]
  idx_vars y
  frame_out
  have e0 : ((((View.whole main_v2).slice (win0_6.rect t)).emb (ix2 y0 y1) 0 : ℕ)) = 1152 * (t.val % 16) + y0 := by blk_simp [e]; omega
  have e1 : ((((View.whole main_v2).slice (win0_6.rect t)).emb (ix2 y0 y1) 1 : ℕ)) = 1024 * (t.val / 16) + y1 := by blk_simp [e]; omega
  have f : ((View.whole main_v2).slice (win0_6.rect t)).emb (ix2 y0 y1) = ix2 ⟨1152 * (t.val % 16) + y0, by omega⟩ ⟨1024 * (t.val / 16) + y1, by omega⟩ := by
    funext a
    match a with
    | ⟨0, _⟩ => exact Fin.ext e0
    | ⟨1, _⟩ => exact Fin.ext e1
  rw [f]
  refine (pay_at _ _ _ y0 y1).trans ?_
  rw [product_at, gate_at, ld_at, ld_at, own_at, context_at, old_at, bias_at, ec]
  simp only [row_at, weight_at]
  have g : gate (m (c.tc.loc main_arg4)) ⟨1152 * (t.val % 16) + y0, by omega⟩ ⟨1024 * (t.val / 16) + y1, by omega⟩ =
      if t.val % 16 % 2 = 1 ∧ 896 ≤ y0.val then m (c.tc.loc main_arg4) (ix3 8 2 ⟨1024 * (t.val / 16) + y1, by omega⟩)
      else m (c.tc.loc main_arg4) (ix3 ⟨t.val % 16 / 2, by omega⟩ 2 ⟨1024 * (t.val / 16) + y1, by omega⟩) := by
    unfold gate
    refine if_congr ?_ rfl (congrArg (fun i => m (c.tc.loc main_arg4) (ix3 i 2 _)) (Fin.ext ?_))
    · show 2048 ≤ (1152 * (t.val % 16) + y0.val) % 2304 ↔ _
      omega
    · show (1152 * (t.val % 16) + y0.val) / 2304 = t.val % 16 / 2
      omega
  rw [← g]
  rfl

/-- The reference's result. -/
theorem run (m : (ℓ : Loc Cert.Reference5Ideal.nD Cert.Reference5Ideal.τ Cert.Reference5Ideal.sig) → Buf (Elt Ideal) ℓ)
    (ρ : Dev Cert.Reference5Ideal.nD → PrngReg) :
    θ_run Cert.Reference5Ideal.defs (onTc (τ := Cert.Reference5Ideal.τ) (Cert.Reference5Ideal.main (F := Ideal))) ⟨m, fun _ => 0, ρ⟩ fun r =>
      ∀ c : Dev Cert.Reference5Ideal.nD,
      r.2.mem (c.tc.loc Cert.Reference5Ideal.main_v24) = residual (m (c.tc.loc Cert.Reference5Ideal.main_arg0))
        (m (c.tc.loc Cert.Reference5Ideal.main_arg1)) (m (c.tc.loc Cert.Reference5Ideal.main_arg2))
        (m (c.tc.loc Cert.Reference5Ideal.main_arg3)) (m (c.tc.loc Cert.Reference5Ideal.main_arg4))
      ∧ r.2.mem (c.tc.loc Cert.Reference5Ideal.main_arg0) = m (c.tc.loc Cert.Reference5Ideal.main_arg0)
      ∧ r.2.mem (c.tc.loc Cert.Reference5Ideal.main_arg1) = m (c.tc.loc Cert.Reference5Ideal.main_arg1)
      ∧ r.2.mem (c.tc.loc Cert.Reference5Ideal.main_arg2) = m (c.tc.loc Cert.Reference5Ideal.main_arg2)
      ∧ r.2.mem (c.tc.loc Cert.Reference5Ideal.main_arg3) = m (c.tc.loc Cert.Reference5Ideal.main_arg3)
      ∧ r.2.mem (c.tc.loc Cert.Reference5Ideal.main_arg4) = m (c.tc.loc Cert.Reference5Ideal.main_arg4) := by
  refine (θ_run Cert.Reference5Ideal.defs _ _).mono (fun r h c => ⟨(h c).1.trans ?_, (h c).2⟩) (Cert.Reference5Ideal.Value.run (F := Ideal) m ρ)
  clear h
  clean_types
  funext i
  idx_vars i
  pointwise [residual, gate]
  by_cases h : i0.val % 2304 < 2048
  · refine (dif_pos h).trans ?_
    simp only [if_neg (show ¬ 2048 ≤ i0.val % 2304 by omega)]
  · have e : ∀ p, (⟨i0.val / 2304 * 2304 + (2048 + (i0.val % 2304 - 2048)), p⟩ : Fin 18432) = i0 := fun p => Fin.ext (show i0.val / 2304 * 2304 + (2048 + (i0.val % 2304 - 2048)) = i0.val by omega)
    refine (dif_neg h).trans ?_
    simp only [e, if_pos (show 2048 ≤ i0.val % 2304 by omega)]

end Cert.Proof.Out
-- ==== Proof.Long.lean ====
/- The input projection of the long convolution: kernel and reference compute the same two arrays. -/
module

public import proofs.«01_k».proof.Proof.Norm
public import proofs.«01_k».proof.Proof.Gen.Kernel6Ideal.Value
public import proofs.«01_k».proof.Proof.Gen.Reference6Ideal.Run
public import Idealize.ShloMosaic.Lib.Pointwise
public import Idealize.ShloMosaic.Lib.StableHlo.ReadAt
public import Idealize.ShloMosaic.Lib.Tactic.CleanTypes
public import Idealize.ShloMosaic.Lib.Tactic.WordOmega
public import Idealize.ShloMosaic.Lib.Pipeline.ReadBack
public import Idealize.ShloMosaic.Lib.Pipeline.ValueKit
public import Idealize.ShloMosaic.Lib.Pipeline.Covers

@[expose] public section

set_option maxRecDepth 16384
noncomputable section

namespace Cert.Proof.Long

open Idealize Idealize.ShloMosaic Idealize.SL.Sem Cert.Proof.Norm

section Reference

open Cert.Reference6Ideal Cert.Reference6Ideal.Gen

/-- A token's projection on one column, with its bias. -/
def projected (x : Vec Ideal S18432x2048 .f32) (g : Vec Ideal S2048 .f32) (a : Vec Ideal S16x6x2048 .f32) (w : Vec Ideal S2048x6144 .f32)
    (b : Vec Ideal S6144 .f32) (q : Fin 6144) (r : Fin 18432) : EReal :=
  (∑ k : Fin 2048, token x g a r k * w (ix2 k q)) + b (ix1 q)

/-- The convolution of width 3 at a token: the tokens next to it are those of its row of the grid, or of the context. -/
def taps (p : Fin 18432 → EReal) (c0 c1 c2 d : EReal) (r : Fin 18432) : EReal :=
  (if r.val % 2304 = 2048 ∨ r.val % 2304 < 2048 ∧ r.val % 2304 % 64 = 0 then 0 else p ⟨r.val - 1, by omega⟩) * c0 + p r * c1 +
    (if r.val % 2304 = 2303 ∨ r.val % 2304 < 2048 ∧ r.val % 2304 % 64 = 63 then 0 else p ⟨(r.val + 1) % 18432, by omega⟩) * c2 + d

/-- A branch at a token and a column. -/
def branch (x : Vec Ideal S18432x2048 .f32) (g : Vec Ideal S2048 .f32) (a : Vec Ideal S16x6x2048 .f32) (w : Vec Ideal S2048x6144 .f32)
    (b : Vec Ideal S6144 .f32) (v : Vec Ideal S3x6144 .f32) (d : Vec Ideal S6144 .f32) (q : Fin 6144) (r : Fin 18432) : EReal :=
  taps (projected x g a w b q) (v (ix2 0 q)) (v (ix2 1 q)) (v (ix2 2 q)) (d (ix1 q)) r

/-- The first gate: the first branch. -/
def first (x : Vec Ideal S18432x2048 .f32) (g : Vec Ideal S2048 .f32) (a : Vec Ideal S16x6x2048 .f32) (w : Vec Ideal S2048x6144 .f32)
    (b : Vec Ideal S6144 .f32) (v : Vec Ideal S3x6144 .f32) (d : Vec Ideal S6144 .f32) : Vec Ideal S18432x2048 .bf16 :=
  fun i => branch x g a w b v d ⟨(i 1).val, (show (i 1).val < 2048 from (i 1).isLt).trans (by decide)⟩ (i 0)

/-- The second: the product of the two others. -/
def second (x : Vec Ideal S18432x2048 .f32) (g : Vec Ideal S2048 .f32) (a : Vec Ideal S16x6x2048 .f32) (w : Vec Ideal S2048x6144 .f32)
    (b : Vec Ideal S6144 .f32) (v : Vec Ideal S3x6144 .f32) (d : Vec Ideal S6144 .f32) : Vec Ideal S18432x2048 .bf16 :=
  fun i => branch x g a w b v d ⟨2048 + (i 1).val, by have : (i 1).val < 2048 := (i 1).isLt; omega⟩ (i 0) *
    branch x g a w b v d ⟨4096 + (i 1).val, by have : (i 1).val < 2048 := (i 1).isLt; omega⟩ (i 0)

theorem before_at {A B : Prop} [Decidable A] [Decidable B] (f : ¬ A → EReal) (b : EReal) (h : A ↔ B) (hf : ∀ h, f h = b) :
    (if h : A then 0 else f h) = if B then 0 else b := by
  by_cases hA : A
  · exact (dif_pos hA).trans (if_pos (h.mp hA)).symm
  · exact (dif_neg hA).trans ((hf hA).trans (if_neg fun hB => hA (h.mpr hB)).symm)

theorem after_at {A B : Prop} [Decidable A] [Decidable B] (f : A → EReal) (b : EReal) (h : A ↔ ¬ B) (hf : ∀ h, f h = b) :
    (if h : A then f h else 0) = if B then 0 else b := by
  by_cases hA : A
  · exact (dif_pos hA).trans ((hf hA).trans (if_neg (h.mp hA)).symm)
  · exact (dif_neg hA).trans (if_pos (Classical.not_not.mp fun hB => hA (h.mpr hB))).symm

/-- The convolution, the latent tokens' and the context's apart. -/
theorem apart (P : Fin 8 → Fin 2304 → EReal) (p : Fin 18432 → EReal) (hP : ∀ b t, P b t = p ⟨b.val * 2304 + t.val, by omega⟩) (c0 c1 c2 d : EReal) (r : Fin 18432) :
    (if _h : r.val % 2304 < 2048 then
      (if _h : r.val % 2304 % 64 < 1 then 0 else P ⟨r.val / 2304, by omega⟩ ⟨r.val % 2304 / 64 * 64 + (r.val % 2304 % 64 - 1), by omega⟩) * c0 +
        P ⟨r.val / 2304, by omega⟩ ⟨r.val % 2304 / 64 * 64 + r.val % 2304 % 64, by omega⟩ * c1 +
        (if _h : r.val % 2304 % 64 < 63 then P ⟨r.val / 2304, by omega⟩ ⟨r.val % 2304 / 64 * 64 + (1 + r.val % 2304 % 64), by omega⟩ else 0) * c2 + d
    else
      (if _h : r.val % 2304 - 2048 < 1 then 0 else P ⟨r.val / 2304, by omega⟩ ⟨2048 + (r.val % 2304 - 2048 - 1), by omega⟩) * c0 +
        P ⟨r.val / 2304, by omega⟩ ⟨2048 + (r.val % 2304 - 2048), by omega⟩ * c1 +
        (if _h : r.val % 2304 - 2048 < 255 then P ⟨r.val / 2304, by omega⟩ ⟨2048 + (1 + (r.val % 2304 - 2048)), by omega⟩ else 0) * c2 + d) =
      taps p c0 c1 c2 d r := by
  have hr := r.isLt
  unfold taps
  simp only [hP]
  by_cases h : r.val % 2304 < 2048
  · refine (dif_pos h).trans (congrArg (· + d) (congrArg₂ (· + ·) (congrArg₂ (· + ·) (congrArg (· * c0) ?_) (congrArg (· * c1) ?_)) (congrArg (· * c2) ?_)))
    · exact before_at _ _ (by omega) fun h' => congrArg p (Fin.ext (by simp only; omega))
    · exact congrArg p (Fin.ext (by simp only; omega))
    · exact after_at _ _ (by omega) fun h' => congrArg p (Fin.ext (by simp only; omega))
  · refine (dif_neg h).trans (congrArg (· + d) (congrArg₂ (· + ·) (congrArg₂ (· + ·) (congrArg (· * c0) ?_) (congrArg (· * c1) ?_)) (congrArg (· * c2) ?_)))
    · exact before_at _ _ (by omega) fun h' => congrArg p (Fin.ext (by simp only; omega))
    · exact congrArg p (Fin.ext (by simp only; omega))
    · exact after_at _ _ (by omega) fun h' => congrArg p (Fin.ext (by simp only; omega))

/-- A row of a weight or bias, for every token of the latent grid. -/
def wide (a : FVec Ideal S6144 .f32) : FVec Ideal S8x32x64x6144 .f32 :=
  broadcastInDim _ ![0, 1, 2, 3] bcast_S1x1x1x6144_S8x32x64x6144_0_1_2_3 (broadcastInDim S1x1x1x6144 ![3] bcast_S6144_S1x1x1x6144_3 a)

/-- The same, for every token of the context. -/
def broad (a : FVec Ideal S6144 .f32) : FVec Ideal S8x256x6144 .f32 :=
  broadcastInDim _ ![0, 1, 2] bcast_S1x1x6144_S8x256x6144_0_1_2 (broadcastInDim S1x1x6144 ![2] bcast_S6144_S1x1x6144_2 a)

/-- The latent grid's convolution. -/
def latent (U : FVec Ideal S8x32x64x6144 .f32) (v : FVec Ideal S3x6144 .f32) (d : FVec Ideal S6144 .f32) : FVec Ideal S8x32x64x6144 .f32 :=
  addf (addf (addf
    (mulf (concatenate S8x32x64x6144 2 [⟨S8x32x1x6144, broadcastInDim _ ![] bcast_S_S8x32x1x6144 (constant S_ .f32 0x00000000#32)⟩,
        ⟨S8x32x63x6144, extractStridedSlice _ ![0, 0, 0, 0] U slices_S8x32x64x6144_S8x32x63x6144_0_0_0_0⟩] concatenates_S8x32x1x6144_S8x32x63x6144_S8x32x64x6144_d2)
      (wide (shapeCast _ (extractStridedSlice S1x6144 ![0, 0] v slices_S3x6144_S1x6144_0_0) shapeCasts_S1x6144_S6144)))
    (mulf U (wide (shapeCast _ (extractStridedSlice S1x6144 ![1, 0] v slices_S3x6144_S1x6144_1_0) shapeCasts_S1x6144_S6144))))
    (mulf (concatenate S8x32x64x6144 2 [⟨S8x32x63x6144, extractStridedSlice _ ![0, 0, 1, 0] U slices_S8x32x64x6144_S8x32x63x6144_0_0_1_0⟩,
        ⟨S8x32x1x6144, broadcastInDim _ ![] bcast_S_S8x32x1x6144 (constant S_ .f32 0x00000000#32)⟩] concatenates_S8x32x63x6144_S8x32x1x6144_S8x32x64x6144_d2)
      (wide (shapeCast _ (extractStridedSlice S1x6144 ![2, 0] v slices_S3x6144_S1x6144_2_0) shapeCasts_S1x6144_S6144))))
    (wide d)

/-- The context's convolution. -/
def ctx (U : FVec Ideal S8x256x6144 .f32) (v : FVec Ideal S3x6144 .f32) (d : FVec Ideal S6144 .f32) : FVec Ideal S8x256x6144 .f32 :=
  addf (addf (addf
    (mulf (concatenate S8x256x6144 1 [⟨S8x1x6144, broadcastInDim _ ![] bcast_S_S8x1x6144 (constant S_ .f32 0x00000000#32)⟩,
        ⟨S8x255x6144, extractStridedSlice _ ![0, 0, 0] U slices_S8x256x6144_S8x255x6144_0_0_0⟩] concatenates_S8x1x6144_S8x255x6144_S8x256x6144_d1)
      (broad (shapeCast _ (extractStridedSlice S1x6144 ![0, 0] v slices_S3x6144_S1x6144_0_0) shapeCasts_S1x6144_S6144)))
    (mulf U (broad (shapeCast _ (extractStridedSlice S1x6144 ![1, 0] v slices_S3x6144_S1x6144_1_0) shapeCasts_S1x6144_S6144))))
    (mulf (concatenate S8x256x6144 1 [⟨S8x255x6144, extractStridedSlice _ ![0, 1, 0] U slices_S8x256x6144_S8x255x6144_0_1_0⟩,
        ⟨S8x1x6144, broadcastInDim _ ![] bcast_S_S8x1x6144 (constant S_ .f32 0x00000000#32)⟩] concatenates_S8x255x6144_S8x1x6144_S8x256x6144_d1)
      (broad (shapeCast _ (extractStridedSlice S1x6144 ![2, 0] v slices_S3x6144_S1x6144_2_0) shapeCasts_S1x6144_S6144))))
    (broad d)

/-- The convolution of every token. -/
def whole (P : FVec Ideal S8x2304x6144 .f32) (v : FVec Ideal S3x6144 .f32) (d : FVec Ideal S6144 .f32) : FVec Ideal S18432x6144 .f32 :=
  shapeCast _ (concatenate S8x2304x6144 1
    [⟨S8x2048x6144, shapeCast _ (latent (shapeCast _ (extractStridedSlice S8x2048x6144 ![0, 0, 0] P slices_S8x2304x6144_S8x2048x6144_0_0_0)
        shapeCasts_S8x2048x6144_S8x32x64x6144) v d) shapeCasts_S8x32x64x6144_S8x2048x6144⟩,
      ⟨S8x256x6144, ctx (extractStridedSlice _ ![0, 2048, 0] P slices_S8x2304x6144_S8x256x6144_0_2048_0) v d⟩]
    concatenates_S8x2048x6144_S8x256x6144_S8x2304x6144_d1) shapeCasts_S8x2304x6144_S18432x6144

theorem latent_at (U : FVec Ideal S8x32x64x6144 .f32) (v : FVec Ideal S3x6144 .f32) (d : FVec Ideal S6144 .f32) (b : Fin 8) (r : Fin 32) (k : Fin 64) (q : Fin 6144) :
    latent U v d (ix4 b r k q) = (if _h : k.val < 1 then 0 else U (ix4 b r ⟨k.val - 1, by omega⟩ q)) * v (ix2 0 q) + U (ix4 b r k q) * v (ix2 1 q) +
      (if _h : k.val < 63 then U (ix4 b r ⟨1 + k.val, by omega⟩ q) else 0) * v (ix2 2 q) + d (ix1 q) := by
  pointwise [latent, wide]

theorem ctx_at (U : FVec Ideal S8x256x6144 .f32) (v : FVec Ideal S3x6144 .f32) (d : FVec Ideal S6144 .f32) (b : Fin 8) (t : Fin 256) (q : Fin 6144) :
    ctx U v d (ix3 b t q) = (if _h : t.val < 1 then 0 else U (ix3 b ⟨t.val - 1, by omega⟩ q)) * v (ix2 0 q) + U (ix3 b t q) * v (ix2 1 q) +
      (if _h : t.val < 255 then U (ix3 b ⟨1 + t.val, by omega⟩ q) else 0) * v (ix2 2 q) + d (ix1 q) := by
  pointwise [ctx, broad]

theorem rows_at (P : FVec Ideal S8x2304x6144 .f32) (b : Fin 8) (r : Fin 32) (k : Fin 64) (q : Fin 6144) :
    (shapeCast S8x32x64x6144 (extractStridedSlice S8x2048x6144 ![0, 0, 0] P slices_S8x2304x6144_S8x2048x6144_0_0_0) shapeCasts_S8x2048x6144_S8x32x64x6144) (ix4 b r k q) =
      P (ix3 b ⟨r.val * 64 + k.val, by omega⟩ q) := by
  pointwise []

theorem tail_at (P : FVec Ideal S8x2304x6144 .f32) (b : Fin 8) (t : Fin 256) (q : Fin 6144) :
    (extractStridedSlice S8x256x6144 ![0, 2048, 0] P slices_S8x2304x6144_S8x256x6144_0_2048_0) (ix3 b t q) = P (ix3 b ⟨2048 + t.val, by omega⟩ q) := by
  pointwise []

theorem joined_at (L : FVec Ideal S8x32x64x6144 .f32) (C : FVec Ideal S8x256x6144 .f32) (r : Fin 18432) (q : Fin 6144) :
    shapeCast S18432x6144 (concatenate S8x2304x6144 1 [⟨S8x2048x6144, shapeCast _ L shapeCasts_S8x32x64x6144_S8x2048x6144⟩, ⟨S8x256x6144, C⟩]
      concatenates_S8x2048x6144_S8x256x6144_S8x2304x6144_d1) shapeCasts_S8x2304x6144_S18432x6144 (ix2 r q) =
    if h : r.val % 2304 < 2048 then L (ix4 ⟨r.val / 2304, by omega⟩ ⟨r.val % 2304 / 64, by omega⟩ ⟨r.val % 2304 % 64, by omega⟩ q)
    else C (ix3 ⟨r.val / 2304, by omega⟩ ⟨r.val % 2304 - 2048, by omega⟩ q) := by
  pointwise []

theorem whole_at (P : FVec Ideal S8x2304x6144 .f32) (v : FVec Ideal S3x6144 .f32) (d : FVec Ideal S6144 .f32) (p : Fin 18432 → EReal) (q : Fin 6144)
    (hP : ∀ b t, P (ix3 b t q) = p ⟨b.val * 2304 + t.val, by omega⟩) (r : Fin 18432) :
    whole P v d (ix2 r q) = taps p (v (ix2 0 q)) (v (ix2 1 q)) (v (ix2 2 q)) (d (ix1 q)) r := by
  unfold whole
  rw [joined_at]
  simp only [latent_at, ctx_at, rows_at, tail_at]
  exact apart (fun b t => P (ix3 b t q)) p hP _ _ _ _ r

/-- The normed tokens' projection. -/
def product (H : FVec Ideal S8x2304x2048 .f32) (w : FVec Ideal S2048x6144 .f32) (b : FVec Ideal S6144 .f32) : FVec Ideal S8x2304x6144 .f32 :=
  addf (Host.dotGeneral dot_S8x2304x2048_S2048x6144_S8x2304x6144_2_0_01_1_n_n none H w)
    (broadcastInDim _ ![0, 1, 2] bcast_S1x1x6144_S8x2304x6144_0_1_2 (broadcastInDim S1x1x6144 ![2] bcast_S6144_S1x1x6144_2 b))

theorem projected_at (H : FVec Ideal S8x2304x2048 .f32) (w : FVec Ideal S2048x6144 .f32) (a : FVec Ideal S6144 .f32) (b : Fin 8) (t : Fin 2304) (q : Fin 6144) :
    product H w a (ix3 b t q) = (∑ k : Fin 2048, H (ix3 b t k) * w (ix2 k q)) + a (ix1 q) := by
  pointwise [product]

/-- The reference's two results are this convolution, of the projected tokens. -/
theorem staged (m : (ℓ : Loc nD τ sig) → Buf (Elt Ideal) ℓ) (c : Dev nD) : ∃ H : FVec Ideal S8x2304x2048 .f32,
    (∀ (b : Fin 8) (t : Fin 2304) (k : Fin 2048), H (ix3 b t k) = token (m (c.tc.loc main_arg0)) (m (c.tc.loc main_arg1)) (m (c.tc.loc main_arg2))
      ⟨b.val * 2304 + t.val, by omega⟩ k) ∧
    Value.res_main_v117 (F := Ideal) m c = truncf .bf16 (extractStridedSlice S18432x2048 ![0, 0] (whole (product H (m (c.tc.loc main_arg3)) (m (c.tc.loc main_arg4)))
      (m (c.tc.loc main_arg5)) (m (c.tc.loc main_arg6))) slices_S18432x6144_S18432x2048_0_0) bitsLt_bf16_f32 ∧
    Value.res_main_v121 (F := Ideal) m c = truncf .bf16 (mulf
      (extractStridedSlice S18432x2048 ![0, 2048] (whole (product H (m (c.tc.loc main_arg3)) (m (c.tc.loc main_arg4)))
        (m (c.tc.loc main_arg5)) (m (c.tc.loc main_arg6))) slices_S18432x6144_S18432x2048_0_2048)
      (extractStridedSlice S18432x2048 ![0, 4096] (whole (product H (m (c.tc.loc main_arg3)) (m (c.tc.loc main_arg4)))
        (m (c.tc.loc main_arg5)) (m (c.tc.loc main_arg6))) slices_S18432x6144_S18432x2048_0_4096)) bitsLt_bf16_f32 := by
  refine ⟨_, ?_, rfl, rfl⟩
  intro b t k
  clean_types
  pointwise [token, normed, modulation]
  have e : ∀ p, (⟨(b.val * 2304 + t.val) / 2304, p⟩ : Fin 16) = ⟨b.val, by omega⟩ := fun p => Fin.ext (show (b.val * 2304 + t.val) / 2304 = b.val by omega)
  by_cases h : t.val < 2048
  · refine (dif_pos h).trans ?_
    simp only [e, if_neg (show ¬ 2048 ≤ (b.val * 2304 + t.val) % 2304 by omega)]
  · have f : ∀ p, (⟨b.val * 2304 + (2048 + (t.val - 2048)), p⟩ : Fin 18432) = ⟨b.val * 2304 + t.val, by omega⟩ :=
      fun p => Fin.ext (show b.val * 2304 + (2048 + (t.val - 2048)) = b.val * 2304 + t.val by omega)
    refine (dif_neg h).trans ?_
    simp only [f, if_pos (show 2048 ≤ (b.val * 2304 + t.val) % 2304 by omega)]

/-- The reference's results. -/
theorem run (m : (ℓ : Loc nD τ sig) → Buf (Elt Ideal) ℓ)
    (ρ : Dev nD → PrngReg) :
    θ_run defs (onTc (τ := τ) (main (F := Ideal))) ⟨m, fun _ => 0, ρ⟩ fun r =>
      ∀ c : Dev nD,
      r.2.mem (c.tc.loc main_v117) = first (m (c.tc.loc main_arg0))
        (m (c.tc.loc main_arg1)) (m (c.tc.loc main_arg2)) (m (c.tc.loc main_arg3))
        (m (c.tc.loc main_arg4)) (m (c.tc.loc main_arg5)) (m (c.tc.loc main_arg6))
      ∧ r.2.mem (c.tc.loc main_v121) = second (m (c.tc.loc main_arg0))
        (m (c.tc.loc main_arg1)) (m (c.tc.loc main_arg2)) (m (c.tc.loc main_arg3))
        (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  suffices e : ∀ c, Value.res_main_v117 (F := Ideal) m c = first (m (c.tc.loc main_arg0))
        (m (c.tc.loc main_arg1)) (m (c.tc.loc main_arg2)) (m (c.tc.loc main_arg3))
        (m (c.tc.loc main_arg4)) (m (c.tc.loc main_arg5)) (m (c.tc.loc main_arg6))
      ∧ Value.res_main_v121 (F := Ideal) m c = second (m (c.tc.loc main_arg0))
        (m (c.tc.loc main_arg1)) (m (c.tc.loc main_arg2)) (m (c.tc.loc main_arg3))
        (m (c.tc.loc main_arg4)) (m (c.tc.loc main_arg5)) (m (c.tc.loc main_arg6)) from
    (θ_run defs _ _).mono (fun r h c => ⟨(h c).1.trans (e c).1, (h c).2.1.trans (e c).2, (h c).2.2⟩)
      (Value.run (F := Ideal) m ρ)
  intro c
  obtain ⟨H, hH, e, f⟩ := staged m c
  have hP : ∀ (b : Fin 8) (t : Fin 2304) (q : Fin 6144), product H (m (c.tc.loc main_arg3)) (m (c.tc.loc main_arg4)) (ix3 b t q) =
      projected (m (c.tc.loc main_arg0)) (m (c.tc.loc main_arg1)) (m (c.tc.loc main_arg2)) (m (c.tc.loc main_arg3)) (m (c.tc.loc main_arg4)) q
        ⟨b.val * 2304 + t.val, by omega⟩ := fun b t q =>
    (projected_at H _ _ b t q).trans (congrArg (· + _) (Finset.sum_congr rfl fun k _ => congrArg (· * _) (hH b t k)))
  rw [e, f]
  generalize product H _ _ = P at *
  constructor
  · funext i
    idx_vars i
    pointwise []
    exact whole_at P _ _ _ _ (fun b t => hP b t _) i0
  · funext i
    idx_vars i
    pointwise []
    exact congrArg₂ (· * ·) (whole_at P _ _ _ _ (fun b t => hP b t _) i0) (whole_at P _ _ _ _ (fun b t => hP b t _) i0)

end Reference

section Kernel

open Cert.Kernel6Ideal Cert.Kernel6Ideal.Gen

theorem context_word (n : ℕ) (hn : n < 16) (r : ℕ) (hr : r < 1152) :
    IntOp.andi (if n % 2 = 1 then 1#1 else 0#1) (IntOp.cmpi .sge (BitVec.ofNat 32 r) 896#32) = if n % 2 = 1 ∧ 896 ≤ r then 1#1 else 0#1 := by
  have f : IntOp.cmpi .sge (BitVec.ofNat 32 r) 896#32 = if 896 ≤ r then 1#1 else 0#1 := by split <;> word_omega
  rw [f]
  by_cases h1 : n % 2 = 1 <;> by_cases h2 : 896 ≤ r <;> simp only [h1, h2, if_true, if_false, and_self, and_true, true_and, and_false, false_and] <;> rfl

theorem context_at_row (i : grid0.Coords) (r : Fin 1152) : k0_pay21 i (ix2 r 0) = if (i 0).val % 2 = 1 ∧ 896 ≤ r.val then 1#1 else 0#1 := by
  have hn : (i 0).val < 16 := (i 0).isLt
  pointwise [k0_pay21]
  simp only [two_word, sign_word, parity_at _ hn]
  exact context_word _ hn _ r.isLt

theorem grid_word : Scalar.select (Scalar.cmpi .eq 64#32 0#32) 1#32 64#32 = 64#32 := rfl

theorem column_word : ∀ r : Fin 1152, Scalar.select (IntOp.andi (IntOp.xori (IntOp.cmpi .slt (IntOp.remsi .vector (BitVec.ofNat 32 r.val) 64#32) 0#32)
    (Scalar.cmpi .slt 64#32 0#32)) (IntOp.cmpi .ne (IntOp.remsi .vector (BitVec.ofNat 32 r.val) 64#32) 0#32))
    (IntOp.addi (IntOp.remsi .vector (BitVec.ofNat 32 r.val) 64#32) 64#32) (IntOp.remsi .vector (BitVec.ofNat 32 r.val) 64#32) =
    BitVec.ofNat 32 (r.val % 64) := by decide +kernel

theorem offset_word : ∀ r : Fin 1152, 896 ≤ r.val → IntOp.subi (BitVec.ofNat 32 r.val) 896#32 = BitVec.ofNat 32 (r.val - 896) := by decide +kernel

theorem position_at (i : grid0.Coords) (r : Fin 1152) :
    k0_pay22 i (ix2 r 0) = if (i 0).val % 2 = 1 ∧ 896 ≤ r.val then BitVec.ofNat 32 (r.val - 896) else BitVec.ofNat 32 (r.val % 64) := by
  pointwise [k0_pay22]
  simp only [grid_word, column_word, context_at_row]
  split
  · rename_i h
    exact offset_word r h.2
  · rfl

theorem select_if {A : Prop} [Decidable A] {α : Type} (a b : α) : Scalar.select (if A then 0#1 else 1#1) a b = if A then b else a := by
  split <;> rfl

/-- Whether a row has a neighbour before it. -/
theorem before_word (i : grid0.Coords) (r : Fin 1152) : IntOp.cmpi .ne (k0_pay22 i (ix2 r 0)) 0#32 =
    if (1152 * (i 0).val + r.val) % 2304 = 2048 ∨ (1152 * (i 0).val + r.val) % 2304 < 2048 ∧ (1152 * (i 0).val + r.val) % 2304 % 64 = 0 then 0#1 else 1#1 := by
  have hr := r.isLt
  rw [position_at]
  generalize (i 0).val = n
  by_cases h : n % 2 = 1 ∧ 896 ≤ r.val
  · rw [if_pos h]
    split <;> word_omega
  · rw [if_neg h]
    split <;> word_omega

/-- Whether a row has a neighbour after it. -/
theorem after_word (i : grid0.Coords) (r : Fin 1152) :
    IntOp.cmpi .ne (k0_pay22 i (ix2 r 0)) (Scalar.select (k0_pay21 i (ix2 r 0)) 255#32 63#32) =
    if (1152 * (i 0).val + r.val) % 2304 = 2303 ∨ (1152 * (i 0).val + r.val) % 2304 < 2048 ∧ (1152 * (i 0).val + r.val) % 2304 % 64 = 63 then 0#1 else 1#1 := by
  have hr := r.isLt
  rw [position_at, context_at_row]
  generalize (i 0).val = n
  by_cases h : n % 2 = 1 ∧ 896 ≤ r.val
  · rw [if_pos h, if_pos h]
    show IntOp.cmpi .ne _ 255#32 = _
    split <;> word_omega
  · rw [if_neg h, if_neg h]
    show IntOp.cmpi .ne _ 63#32 = _
    split <;> word_omega

/-- A tile's convolution is the convolution at its rows' tokens. -/
theorem tile_at (P : Fin 1152 → EReal) (p : Fin 18432 → EReal) (n : ℕ) (hn : n < 16) (hP : ∀ r, P r = p ⟨1152 * n + r.val, by omega⟩) (c0 c1 c2 d : EReal) (r : Fin 1152) :
    (if (1152 * n + r.val) % 2304 = 2048 ∨ (1152 * n + r.val) % 2304 < 2048 ∧ (1152 * n + r.val) % 2304 % 64 = 0 then 0
      else P ⟨(r.val + 1152 - 1) % 1152, by omega⟩ * c0) + P r * c1 +
    (if (1152 * n + r.val) % 2304 = 2303 ∨ (1152 * n + r.val) % 2304 < 2048 ∧ (1152 * n + r.val) % 2304 % 64 = 63 then 0
      else P ⟨(r.val + 1152 - 1151) % 1152, by omega⟩ * c2) + d = taps p c0 c1 c2 d ⟨1152 * n + r.val, by omega⟩ := by
  have hr := r.isLt
  unfold taps
  simp only [hP]
  refine congrArg (· + d) (congrArg₂ (· + ·) (congrArg (· + _) ?_) ?_)
  · split
    · exact (zero_mul c0).symm
    · exact congrArg (fun s => p s * c0) (Fin.ext (by simp only; omega))
  · split
    · exact (zero_mul c2).symm
    · exact congrArg (fun s => p s * c2) (Fin.ext (by simp only; omega))

theorem branch_at (i : grid0.Coords) (a : Vec Ideal S1152x2048 .bf16) (w : Vec Ideal S2048x512 .bf16) (b c0 c1 c2 d : Vec Ideal S1x512 .f32) (r : Fin 1152) (q : Fin 512)
    (p : Fin 18432 → EReal) (hp : ∀ r : Fin 1152, (∑ k, a (ix2 r k) * w (ix2 k q)) + b (ix2 0 q) = p ⟨1152 * (i 0).val + r.val, by have : (i 0).val < 16 := (i 0).isLt; omega⟩) :
    k0_pay25 (F := Ideal) (k0_pay21 i) (k0_pay22 i) 255#32 63#32 a w b c0 c1 c2 d (ix2 r q) =
      taps p (c0 (ix2 0 q)) (c1 (ix2 0 q)) (c2 (ix2 0 q)) (d (ix2 0 q)) ⟨1152 * (i 0).val + r.val, by have : (i 0).val < 16 := (i 0).isLt; omega⟩ := by
  pointwise [k0_pay25, k0_pay24, k0_pay23]
  rw [before_word, after_word]
  simp only [select_if]
  exact tile_at (fun r => (∑ k, a (ix2 r k) * w (ix2 k q)) + b (ix2 0 q)) p _ (i 0).isLt hp _ _ _ _ r

theorem pair_at (i : grid0.Coords) (a : Vec Ideal S1152x2048 .bf16) (w w' : Vec Ideal S2048x512 .bf16) (b c0 c1 c2 d b' c0' c1' c2' d' : Vec Ideal S1x512 .f32)
    (r : Fin 1152) (q : Fin 512)
    (p : Fin 18432 → EReal) (hp : ∀ r : Fin 1152, (∑ k, a (ix2 r k) * w (ix2 k q)) + b (ix2 0 q) = p ⟨1152 * (i 0).val + r.val, by have : (i 0).val < 16 := (i 0).isLt; omega⟩)
    (p' : Fin 18432 → EReal) (hp' : ∀ r : Fin 1152, (∑ k, a (ix2 r k) * w' (ix2 k q)) + b' (ix2 0 q) = p' ⟨1152 * (i 0).val + r.val, by have : (i 0).val < 16 := (i 0).isLt; omega⟩) :
    k0_pay1 (F := Ideal) (k0_pay23 (k0_pay22 i)) (k0_pay24 (k0_pay21 i) (k0_pay22 i) 255#32 63#32)
      (k0_pay26 (k0_pay23 (k0_pay22 i)) (k0_pay24 (k0_pay21 i) (k0_pay22 i) 255#32 63#32) a w b c0 c1 c2 d) (k0_pay27 a w') b' c0' c1' c2' d' (ix2 r q) =
      taps p (c0 (ix2 0 q)) (c1 (ix2 0 q)) (c2 (ix2 0 q)) (d (ix2 0 q)) ⟨1152 * (i 0).val + r.val, by have : (i 0).val < 16 := (i 0).isLt; omega⟩ *
      taps p' (c0' (ix2 0 q)) (c1' (ix2 0 q)) (c2' (ix2 0 q)) (d' (ix2 0 q)) ⟨1152 * (i 0).val + r.val, by have : (i 0).val < 16 := (i 0).isLt; omega⟩ := by
  pointwise [k0_pay1, k0_pay27, k0_pay26, k0_pay24, k0_pay23]
  rw [before_word, after_word]
  simp only [select_if]
  exact congrArg₂ (· * ·) (tile_at (fun r => (∑ k, a (ix2 r k) * w (ix2 k q)) + b (ix2 0 q)) p _ (i 0).isLt hp _ _ _ _ r)
    (tile_at (fun r => (∑ k, a (ix2 r k) * w' (ix2 k q)) + b' (ix2 0 q)) p' _ (i 0).isLt hp' _ _ _ _ r)

theorem ld_taps (x : Vec Ideal S3x512 .f32) (o : Fin 3) (inb) (q : Fin 512) :
    View.ld (Val := Elt Ideal) (e' := .f32) x (Rect.unit (s := S3x512) ![o.val, 0] ![1, 512] inb) (ix2 0 q) = x (ix2 o q) :=
  View.ld_unit_apply_of _ _ _ _ _ _ fun a => by
    match a with
    | ⟨0, _⟩ => rfl
    | ⟨1, _⟩ => exact (Nat.zero_add _).symm

variable (m : (ℓ : Loc nD τ sig) → Buf (Elt Ideal) ℓ) (c : Dev nD)

theorem point_lt (t : Fin cfg0.N) : t.val < 64 := t.isLt.trans_eq N_0

/-- The first output's tile, of the rows in the scratch. -/
def front (a : Vec Ideal S1152x2048 .bf16) (t : Fin cfg0.N) : Vec Ideal S1152x512 .bf16 :=
  k0_pay25 (k0_pay21 (grid0.coords t)) (k0_pay22 (grid0.coords t)) (255#32) (63#32) a (iblk m c 4 t) (iblk m c 7 t)
    (View.ld (iblk m c 10 t) (Rect.unit ![0, 0] ![1, 512] inb_S3x512_S1x512_0_0))
    (View.ld (iblk m c 10 t) (Rect.unit ![1, 0] ![1, 512] inb_S3x512_S1x512_1_0))
    (View.ld (iblk m c 10 t) (Rect.unit ![2, 0] ![1, 512] inb_S3x512_S1x512_2_0)) (iblk m c 13 t)

/-- The second output's. -/
def back (a : Vec Ideal S1152x2048 .bf16) (t : Fin cfg0.N) : Vec Ideal S1152x512 .bf16 :=
  k0_pay1 (k0_pay23 (k0_pay22 (grid0.coords t))) (k0_pay24 (k0_pay21 (grid0.coords t)) (k0_pay22 (grid0.coords t)) 255#32 63#32)
    (k0_pay26 (k0_pay23 (k0_pay22 (grid0.coords t))) (k0_pay24 (k0_pay21 (grid0.coords t)) (k0_pay22 (grid0.coords t)) 255#32 63#32) a
      (iblk m c 5 t) (iblk m c 8 t) (View.ld (iblk m c 11 t) (Rect.unit ![0, 0] ![1, 512] inb_S3x512_S1x512_0_0))
      (View.ld (iblk m c 11 t) (Rect.unit ![1, 0] ![1, 512] inb_S3x512_S1x512_1_0))
      (View.ld (iblk m c 11 t) (Rect.unit ![2, 0] ![1, 512] inb_S3x512_S1x512_2_0)) (iblk m c 14 t))
    (k0_pay27 a (iblk m c 6 t)) (iblk m c 9 t)
    (View.ld (iblk m c 12 t) (Rect.unit ![0, 0] ![1, 512] inb_S3x512_S1x512_0_0))
    (View.ld (iblk m c 12 t) (Rect.unit ![1, 0] ![1, 512] inb_S3x512_S1x512_1_0))
    (View.ld (iblk m c 12 t) (Rect.unit ![2, 0] ![1, 512] inb_S3x512_S1x512_2_0)) (iblk m c 15 t)

theorem next_front (t : Fin cfg0.N) (h : ¬ t.val % 4 = 0) :
    (outsAt0 m c t.val t.isLt).1 = front m c (outsAt0 m c (t.val - 1) (by omega)).2.2 t := by
  rw [outsAt0_B m c t h]
  frame_out
  simp only [read_unread_whole]
  rfl

theorem next_back (t : Fin cfg0.N) (h : ¬ t.val % 4 = 0) :
    (outsAt0 m c t.val t.isLt).2.1 = back m c (outsAt0 m c (t.val - 1) (by omega)).2.2 t := by
  rw [outsAt0_B m c t h]
  frame_out
  simp only [read_unread_whole]
  rfl

theorem next_scratch (t : Fin cfg0.N) (h : ¬ t.val % 4 = 0) :
    (outsAt0 m c t.val t.isLt).2.2 = (outsAt0 m c (t.val - 1) (by omega)).2.2 := by
  rw [outsAt0_B m c t h]
  rfl

theorem first_front (t : Fin cfg0.N) (h : t.val % 4 = 0) :
    (outsAt0 m c t.val t.isLt).1 = front m c (outsAt0 m c t.val t.isLt).2.2 t := by
  rw [outsAt0_A m c t h]
  dsimp only
  frame_out
  simp only [View.readCov_eq_canon']
  refine congrArg (fun z => front m c z t) ?_
  generalize View.canon (Val := Elt Ideal) _ = L
  funext y
  refine congrArg L (funext fun a => Fin.ext ?_)
  match a with
  | ⟨0, _⟩ => exact (show 0 + 1 * (y 0).val = (y 0).val by omega)
  | ⟨1, _⟩ => exact (show 0 + 1 * (y 1).val = (y 1).val by omega)

theorem first_back (t : Fin cfg0.N) (h : t.val % 4 = 0) :
    (outsAt0 m c t.val t.isLt).2.1 = back m c (outsAt0 m c t.val t.isLt).2.2 t := by
  rw [outsAt0_A m c t h]
  dsimp only
  frame_out
  simp only [View.readCov_eq_canon']
  refine congrArg (fun z => back m c z t) ?_
  generalize View.canon (Val := Elt Ideal) _ = L
  funext y
  refine congrArg L (funext fun a => Fin.ext ?_)
  match a with
  | ⟨0, _⟩ => exact (show 0 + 1 * (y 0).val = (y 0).val by omega)
  | ⟨1, _⟩ => exact (show 0 + 1 * (y 1).val = (y 1).val by omega)

theorem first_scratch (t : Fin cfg0.N) (h : t.val % 4 = 0) :
    (outsAt0 m c t.val t.isLt).2.2 = rows (grid0.coords t 0).val (iblk m c 0 t) (iblk m c 1 t) (iblk m c 2 t) (iblk m c 3 t) := by
  rw [outsAt0_A m c t h]
  dsimp only
  frame_out
  have hn : (grid0.coords t 0 : ℕ) < 16 := (grid0.coords t 0).isLt
  funext y
  generalize (grid0.coords t 0 : ℕ) = n at *
  rw [parity_at n hn]
  refine View.canon_apply_of_pieces (rows n (iblk m c 0 t) (iblk m c 1 t) (iblk m c 2 t) (iblk m c 3 t)) _ (View.PiecesOf.mem ?_) y
    (View.cover_of_tiled_head _ _ _ (by rfl) y)
  refine ⟨?_, ?_, ?_, ?_, trivial⟩
  · intro x
    idx_vars x
    refine (piece_fourth n hn _ _ _ _ _ _ x0 (x0.val + 864) rfl x1).trans ?_
    refine Eq.trans ?_ (congrArg (rows n _ _ _ _) (emb_rows 864 _ (by omega) x0 x1)).symm
    exact normed_congr (fun j => ld_rows _ 864 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_third n hn _ _ _ _ _ _ x0 (x0.val + 576) rfl x1).trans ?_
    refine Eq.trans ?_ (congrArg (rows n _ _ _ _) (emb_rows 576 _ (by omega) x0 x1)).symm
    exact normed_congr (fun j => ld_rows _ 576 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_second n hn _ _ _ _ _ _ x0 (x0.val + 288) rfl x1).trans ?_
    refine Eq.trans ?_ (congrArg (rows n _ _ _ _) (emb_rows 288 _ (by omega) x0 x1)).symm
    exact normed_congr (fun j => ld_rows _ 288 _ (by omega) x0 j) (fun j => if_congr Iff.rfl (ld_modulation _ 1 _ j) (ld_modulation _ 1 _ j))
      (fun j => if_congr Iff.rfl (ld_modulation _ 0 _ j) (ld_modulation _ 0 _ j)) x1
  · intro x
    idx_vars x
    refine (piece_first n hn _ _ _ _ _ _ x0 (x0.val + 0) rfl x1).trans ?_
    refine Eq.trans ?_ (congrArg (rows n _ _ _ _) (emb_rows 0 _ (by omega) x0 x1)).symm
    exact normed_congr (fun j => ld_rows _ 0 _ (by omega) x0 j) (fun j => if_congr Iff.rfl (ld_modulation _ 1 _ j) (ld_modulation _ 1 _ j))
      (fun j => if_congr Iff.rfl (ld_modulation _ 0 _ j) (ld_modulation _ 0 _ j)) x1

/-- The blocks that a grid point reads and writes. -/
theorem index_at : ∀ t : Fin cfg0.N, win0_0.index t = ![t.val / 4, 0] ∧ win0_1.index t = ![0, 0] ∧ win0_2.index t = ![t.val / 4 / 2, 0, 0] ∧
    win0_3.index t = ![8, 0, 0] ∧ win0_16.index t = ![t.val / 4, t.val % 4] ∧ win0_17.index t = ![t.val / 4, t.val % 4] ∧
    (grid0.coords t 0).val = t.val / 4 := by decide +kernel

/-- The columns that it reads for the three branches. -/
theorem columns_at : ∀ t : Fin cfg0.N, (win0_4.index t = ![0, 0 + t.val % 4] ∧ win0_5.index t = ![0, 4 + t.val % 4] ∧ win0_6.index t = ![0, 8 + t.val % 4]) ∧
    (win0_7.index t = ![0, 0 + t.val % 4] ∧ win0_8.index t = ![0, 4 + t.val % 4] ∧ win0_9.index t = ![0, 8 + t.val % 4]) ∧
    (win0_10.index t = ![0, 0 + t.val % 4] ∧ win0_11.index t = ![0, 4 + t.val % 4] ∧ win0_12.index t = ![0, 8 + t.val % 4]) ∧
    (win0_13.index t = ![0, 0 + t.val % 4] ∧ win0_14.index t = ![0, 4 + t.val % 4] ∧ win0_15.index t = ![0, 8 + t.val % 4]) := by decide +kernel

theorem gains (k : Fin 2048) : V m c main_v3 (ix2 0 k) = m (c.tc.loc main_arg1) (ix1 k) := by
  unfold V
  after_reads_at
  try simp only [id_eq]
  try pointwise
  repeat (after_reads_at; try simp only [id_eq]; try pointwise)

theorem weights (k : Fin 2048) (q : Fin 6144) : V m c main_v0 (ix2 k q) = m (c.tc.loc main_arg3) (ix2 k q) := by
  unfold V
  after_reads_at
  try simp only [id_eq]
  try pointwise
  repeat (after_reads_at; try simp only [id_eq]; try pointwise)

theorem biases (q : Fin 6144) : V m c main_v1 (ix2 0 q) = m (c.tc.loc main_arg4) (ix1 q) := by
  unfold V
  after_reads_at
  try simp only [id_eq]
  try pointwise
  repeat (after_reads_at; try simp only [id_eq]; try pointwise)

theorem shifts (q : Fin 6144) : V m c main_v2 (ix2 0 q) = m (c.tc.loc main_arg6) (ix1 q) := by
  unfold V
  after_reads_at
  try simp only [id_eq]
  try pointwise
  repeat (after_reads_at; try simp only [id_eq]; try pointwise)

theorem row_at (t : Fin cfg0.N) (r : Fin 1152) (k : Fin 2048) :
    iblk m c 0 t (ix2 r k) = m (c.tc.loc main_arg0) (ix2 ⟨1152 * (t.val / 4) + r, by have := point_lt t; omega⟩ k) := by
  have e := (index_at t).1
  blk_ext [iblk, V_main_arg0, e]

theorem gain_at (t : Fin cfg0.N) (k : Fin 2048) : iblk m c 1 t (ix2 0 k) = m (c.tc.loc main_arg1) (ix1 k) := by
  have e := (index_at t).2.1
  have h : iblk m c 1 t (ix2 0 k) = V m c main_v3 (ix2 0 k) := by
    blk_ext [iblk, e]
  exact h.trans (gains m c _)

theorem own_at (t : Fin cfg0.N) (j : Fin 6) (k : Fin 2048) :
    iblk m c 2 t (ix3 0 j k) = m (c.tc.loc main_arg2) (ix3 ⟨t.val / 4 / 2, by have := point_lt t; omega⟩ j k) := by
  have e := (index_at t).2.2.1
  blk_ext [iblk, V_main_arg2, e]

theorem context_at (t : Fin cfg0.N) (j : Fin 6) (k : Fin 2048) :
    iblk m c 3 t (ix3 0 j k) = m (c.tc.loc main_arg2) (ix3 8 j k) := by
  have e := (index_at t).2.2.2.1
  blk_ext [iblk, V_main_arg2, e]

theorem weight_0 (t : Fin cfg0.N) (k : Fin 2048) (q : Fin 512) : iblk m c 4 t (ix2 k q) = m (c.tc.loc main_arg3) (ix2 k ⟨512 * (0 + t.val % 4) + q, by omega⟩) := by
  have e := (columns_at t).1.1
  have h : iblk m c 4 t (ix2 k q) = V m c main_v0 (ix2 k ⟨512 * (0 + t.val % 4) + q, by omega⟩) := by
    blk_ext [iblk, e]
  exact h.trans (weights m c _ _)

theorem bias_0 (t : Fin cfg0.N) (q : Fin 512) : iblk m c 7 t (ix2 0 q) = m (c.tc.loc main_arg4) (ix1 ⟨512 * (0 + t.val % 4) + q, by omega⟩) := by
  have e := (columns_at t).2.1.1
  have h : iblk m c 7 t (ix2 0 q) = V m c main_v1 (ix2 0 ⟨512 * (0 + t.val % 4) + q, by omega⟩) := by
    blk_ext [iblk, e]
  exact h.trans (biases m c _)

theorem tap_0 (t : Fin cfg0.N) (k : Fin 3) (q : Fin 512) : iblk m c 10 t (ix2 k q) = m (c.tc.loc main_arg5) (ix2 k ⟨512 * (0 + t.val % 4) + q, by omega⟩) := by
  have e := (columns_at t).2.2.1.1
  blk_ext [iblk, V_main_arg5, e]

theorem shift_0 (t : Fin cfg0.N) (q : Fin 512) : iblk m c 13 t (ix2 0 q) = m (c.tc.loc main_arg6) (ix1 ⟨512 * (0 + t.val % 4) + q, by omega⟩) := by
  have e := (columns_at t).2.2.2.1
  have h : iblk m c 13 t (ix2 0 q) = V m c main_v2 (ix2 0 ⟨512 * (0 + t.val % 4) + q, by omega⟩) := by
    blk_ext [iblk, e]
  exact h.trans (shifts m c _)

theorem weight_1 (t : Fin cfg0.N) (k : Fin 2048) (q : Fin 512) : iblk m c 5 t (ix2 k q) = m (c.tc.loc main_arg3) (ix2 k ⟨512 * (4 + t.val % 4) + q, by omega⟩) := by
  have e := (columns_at t).1.2.1
  have h : iblk m c 5 t (ix2 k q) = V m c main_v0 (ix2 k ⟨512 * (4 + t.val % 4) + q, by omega⟩) := by
    blk_ext [iblk, e]
  exact h.trans (weights m c _ _)

theorem bias_1 (t : Fin cfg0.N) (q : Fin 512) : iblk m c 8 t (ix2 0 q) = m (c.tc.loc main_arg4) (ix1 ⟨512 * (4 + t.val % 4) + q, by omega⟩) := by
  have e := (columns_at t).2.1.2.1
  have h : iblk m c 8 t (ix2 0 q) = V m c main_v1 (ix2 0 ⟨512 * (4 + t.val % 4) + q, by omega⟩) := by
    blk_ext [iblk, e]
  exact h.trans (biases m c _)

theorem tap_1 (t : Fin cfg0.N) (k : Fin 3) (q : Fin 512) : iblk m c 11 t (ix2 k q) = m (c.tc.loc main_arg5) (ix2 k ⟨512 * (4 + t.val % 4) + q, by omega⟩) := by
  have e := (columns_at t).2.2.1.2.1
  blk_ext [iblk, V_main_arg5, e]

theorem shift_1 (t : Fin cfg0.N) (q : Fin 512) : iblk m c 14 t (ix2 0 q) = m (c.tc.loc main_arg6) (ix1 ⟨512 * (4 + t.val % 4) + q, by omega⟩) := by
  have e := (columns_at t).2.2.2.2.1
  have h : iblk m c 14 t (ix2 0 q) = V m c main_v2 (ix2 0 ⟨512 * (4 + t.val % 4) + q, by omega⟩) := by
    blk_ext [iblk, e]
  exact h.trans (shifts m c _)

theorem weight_2 (t : Fin cfg0.N) (k : Fin 2048) (q : Fin 512) : iblk m c 6 t (ix2 k q) = m (c.tc.loc main_arg3) (ix2 k ⟨512 * (8 + t.val % 4) + q, by omega⟩) := by
  have e := (columns_at t).1.2.2
  have h : iblk m c 6 t (ix2 k q) = V m c main_v0 (ix2 k ⟨512 * (8 + t.val % 4) + q, by omega⟩) := by
    blk_ext [iblk, e]
  exact h.trans (weights m c _ _)

theorem bias_2 (t : Fin cfg0.N) (q : Fin 512) : iblk m c 9 t (ix2 0 q) = m (c.tc.loc main_arg4) (ix1 ⟨512 * (8 + t.val % 4) + q, by omega⟩) := by
  have e := (columns_at t).2.1.2.2
  have h : iblk m c 9 t (ix2 0 q) = V m c main_v1 (ix2 0 ⟨512 * (8 + t.val % 4) + q, by omega⟩) := by
    blk_ext [iblk, e]
  exact h.trans (biases m c _)

theorem tap_2 (t : Fin cfg0.N) (k : Fin 3) (q : Fin 512) : iblk m c 12 t (ix2 k q) = m (c.tc.loc main_arg5) (ix2 k ⟨512 * (8 + t.val % 4) + q, by omega⟩) := by
  have e := (columns_at t).2.2.1.2.2
  blk_ext [iblk, V_main_arg5, e]

theorem shift_2 (t : Fin cfg0.N) (q : Fin 512) : iblk m c 15 t (ix2 0 q) = m (c.tc.loc main_arg6) (ix1 ⟨512 * (8 + t.val % 4) + q, by omega⟩) := by
  have e := (columns_at t).2.2.2.2.2
  have h : iblk m c 15 t (ix2 0 q) = V m c main_v2 (ix2 0 ⟨512 * (8 + t.val % 4) + q, by omega⟩) := by
    blk_ext [iblk, e]
  exact h.trans (shifts m c _)

/-- The rows that a tile's first grid point leaves in the scratch. -/
theorem first_at (t : Fin cfg0.N) (h : t.val % 4 = 0) (r : Fin 1152) (k : Fin 2048) :
    (outsAt0 m c t.val t.isLt).2.2 (ix2 r k) = token (m (c.tc.loc main_arg0)) (m (c.tc.loc main_arg1)) (m (c.tc.loc main_arg2))
      ⟨1152 * (t.val / 4) + r, by have := point_lt t; omega⟩ k := by
  have ht := point_lt t
  have hq : t.val / 4 < 16 := by omega
  rw [first_scratch m c t h, (index_at t).2.2.2.2.2.2]
  show normed _ _ _ _ k = normed _ _ _ _ k
  rw [show (fun j : Fin 2048 => iblk m c 1 t (ix2 0 j)) = fun j => m (c.tc.loc main_arg1) (ix1 j) from funext fun j => gain_at m c t j]
  refine normed_congr (fun j => row_at m c t r j) (fun j => ?_) (fun j => ?_) k
  · exact (if_congr Iff.rfl (context_at m c t 1 j) (own_at m c t 1 j)).trans (modulation_at _ (t.val / 4) hq r 1 j)
  · exact (if_congr Iff.rfl (context_at m c t 0 j) (own_at m c t 0 j)).trans (modulation_at _ (t.val / 4) hq r 0 j)

/-- The rows that a grid point finds in the scratch, or leaves there: those of its tile. -/
theorem scratch_at (n : ℕ) (h : n < cfg0.N) (r : Fin 1152) (k : Fin 2048) :
    (outsAt0 m c n h).2.2 (ix2 r k) = token (m (c.tc.loc main_arg0)) (m (c.tc.loc main_arg1)) (m (c.tc.loc main_arg2))
      ⟨1152 * (n / 4) + r, by have := point_lt ⟨n, h⟩; simp only at this; omega⟩ k := by
  induction n with
  | zero => exact first_at m c ⟨0, h⟩ rfl r k
  | succ n ih =>
    by_cases h4 : (n + 1) % 4 = 0
    · exact first_at m c ⟨n + 1, h⟩ h4 r k
    · refine (congrFun (next_scratch m c ⟨n + 1, h⟩ h4) (ix2 r k)).trans ((ih (by omega)).trans ?_)
      exact congrArg (fun q => token _ _ _ q k) (Fin.ext (show 1152 * (n / 4) + r.val = 1152 * ((n + 1) / 4) + r.val by omega))

/-- A branch's columns at a grid point: the projection of the scratch's rows. -/
theorem projected_rows (t : Fin cfg0.N) (w : Vec Ideal S2048x512 .bf16) (b : Vec Ideal S1x512 .f32) (q : Fin 512) (s : Fin 6144)
    (hw : ∀ k, w (ix2 k q) = m (c.tc.loc main_arg3) (ix2 k s)) (hb : b (ix2 0 q) = m (c.tc.loc main_arg4) (ix1 s)) (r : Fin 1152) :
    (∑ k : Fin 2048, (outsAt0 m c t.val t.isLt).2.2 (ix2 r k) * w (ix2 k q)) + b (ix2 0 q) =
      projected (m (c.tc.loc main_arg0)) (m (c.tc.loc main_arg1)) (m (c.tc.loc main_arg2)) (m (c.tc.loc main_arg3)) (m (c.tc.loc main_arg4)) s
        ⟨1152 * (grid0.coords t 0).val + r.val, by have : (grid0.coords t 0).val < 16 := (grid0.coords t 0).isLt; omega⟩ := by
  have e := (index_at t).2.2.2.2.2.2
  refine congrArg₂ (· + ·) (Finset.sum_congr rfl fun k _ => congrArg₂ (· * ·) ?_ (hw k)) hb
  refine (scratch_at m c t.val t.isLt r k).trans (congrArg (fun i => token _ _ _ i k) (Fin.ext ?_))
  show 1152 * (t.val / 4) + r.val = 1152 * (grid0.coords t 0).val + r.val
  rw [e]

theorem taps_congr (p : Fin 18432 → EReal) {a0 a1 a2 a b0 b1 b2 b : EReal} {r s : Fin 18432} (h0 : a0 = b0) (h1 : a1 = b1) (h2 : a2 = b2) (h : a = b) (hr : r = s) :
    taps p a0 a1 a2 a r = taps p b0 b1 b2 b s := by
  rw [h0, h1, h2, h, hr]

/-- What a grid point writes of the first gate. -/
theorem front_at (t : Fin cfg0.N) (r : Fin 1152) (q : Fin 512) :
    (outsAt0 m c t.val t.isLt).1 (ix2 r q) = branch (m (c.tc.loc main_arg0)) (m (c.tc.loc main_arg1)) (m (c.tc.loc main_arg2)) (m (c.tc.loc main_arg3))
      (m (c.tc.loc main_arg4)) (m (c.tc.loc main_arg5)) (m (c.tc.loc main_arg6)) ⟨512 * (0 + t.val % 4) + q, by omega⟩
      ⟨1152 * (t.val / 4) + r, by have := point_lt t; omega⟩ := by
  have e : (outsAt0 m c t.val t.isLt).1 = front m c (outsAt0 m c t.val t.isLt).2.2 t := by
    by_cases h : t.val % 4 = 0
    · exact first_front m c t h
    · exact (next_front m c t h).trans (congrArg (fun z => front m c z t) (next_scratch m c t h).symm)
  refine (congrFun e _).trans ((branch_at _ _ _ _ _ _ _ _ r q _ (projected_rows m c t _ _ q _ (fun k => weight_0 m c t k q) (bias_0 m c t q))).trans ?_)
  exact taps_congr _ ((ld_taps _ 0 _ q).trans (tap_0 m c t 0 q)) ((ld_taps _ 1 _ q).trans (tap_0 m c t 1 q)) ((ld_taps _ 2 _ q).trans (tap_0 m c t 2 q))
    (shift_0 m c t q) (Fin.ext (congrArg (1152 * · + r.val) (index_at t).2.2.2.2.2.2))

/-- And of the second. -/
theorem back_at (t : Fin cfg0.N) (r : Fin 1152) (q : Fin 512) :
    (outsAt0 m c t.val t.isLt).2.1 (ix2 r q) = branch (m (c.tc.loc main_arg0)) (m (c.tc.loc main_arg1)) (m (c.tc.loc main_arg2)) (m (c.tc.loc main_arg3))
      (m (c.tc.loc main_arg4)) (m (c.tc.loc main_arg5)) (m (c.tc.loc main_arg6)) ⟨512 * (4 + t.val % 4) + q, by omega⟩
      ⟨1152 * (t.val / 4) + r, by have := point_lt t; omega⟩ *
      branch (m (c.tc.loc main_arg0)) (m (c.tc.loc main_arg1)) (m (c.tc.loc main_arg2)) (m (c.tc.loc main_arg3))
      (m (c.tc.loc main_arg4)) (m (c.tc.loc main_arg5)) (m (c.tc.loc main_arg6)) ⟨512 * (8 + t.val % 4) + q, by omega⟩
      ⟨1152 * (t.val / 4) + r, by have := point_lt t; omega⟩ := by
  have e : (outsAt0 m c t.val t.isLt).2.1 = back m c (outsAt0 m c t.val t.isLt).2.2 t := by
    by_cases h : t.val % 4 = 0
    · exact first_back m c t h
    · exact (next_back m c t h).trans (congrArg (fun z => back m c z t) (next_scratch m c t h).symm)
  refine (congrFun e _).trans ((pair_at _ _ _ _ _ _ _ _ _ _ _ _ _ _ r q _ (projected_rows m c t _ _ q _ (fun k => weight_1 m c t k q) (bias_1 m c t q))
    _ (projected_rows m c t _ _ q _ (fun k => weight_2 m c t k q) (bias_2 m c t q))).trans (congrArg₂ (· * ·) ?_ ?_))
  · exact taps_congr _ ((ld_taps _ 0 _ q).trans (tap_1 m c t 0 q)) ((ld_taps _ 1 _ q).trans (tap_1 m c t 1 q)) ((ld_taps _ 2 _ q).trans (tap_1 m c t 2 q))
      (shift_1 m c t q) (Fin.ext (congrArg (1152 * · + r.val) (index_at t).2.2.2.2.2.2))
  · exact taps_congr _ ((ld_taps _ 0 _ q).trans (tap_2 m c t 0 q)) ((ld_taps _ 1 _ q).trans (tap_2 m c t 1 q)) ((ld_taps _ 2 _ q).trans (tap_2 m c t 2 q))
      (shift_2 m c t q) (Fin.ext (congrArg (1152 * · + r.val) (index_at t).2.2.2.2.2.2))

/-- The kernel's first array. -/
theorem array_first : (dats m 0 c).arrAt 16 cfg0.N = first (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 16 _ (by decide +kernel) fun t hf y => ?_
  have e := (index_at t).2.2.2.2.1
  have := point_lt t
  blk_simp
  rw [after0_16]
  idx_vars y
  have e0 : ((((View.whole main_v4_0).slice (win0_16.rect t)).emb (ix2 y0 y1) 0 : ℕ)) = 1152 * (t.val / 4) + y0 := by blk_simp [e]; omega
  have e1 : ((((View.whole main_v4_0).slice (win0_16.rect t)).emb (ix2 y0 y1) 1 : ℕ)) = 512 * (t.val % 4) + y1 := by blk_simp [e]; omega
  have f : ((View.whole main_v4_0).slice (win0_16.rect t)).emb (ix2 y0 y1) = ix2 ⟨1152 * (t.val / 4) + y0, by omega⟩ ⟨512 * (t.val % 4) + y1, by omega⟩ := by
    funext a
    match a with
    | ⟨0, _⟩ => exact Fin.ext e0
    | ⟨1, _⟩ => exact Fin.ext e1
  rw [f]
  refine (front_at m c t y0 y1).trans (congrArg (fun q => branch _ _ _ _ _ _ _ q _) (Fin.ext ?_))
  show 512 * (0 + t.val % 4) + y1.val = 512 * (t.val % 4) + y1.val
  omega

/-- The kernel's second array. -/
theorem array_second : (dats m 0 c).arrAt 17 cfg0.N = second (m (c.tc.loc main_arg0)) (m (c.tc.loc main_arg1)) (m (c.tc.loc main_arg2))
    (m (c.tc.loc main_arg3)) (m (c.tc.loc main_arg4)) (m (c.tc.loc main_arg5)) (m (c.tc.loc main_arg6)) := by
  refine (dats m 0 c).arrAt_eq_of_covers 17 _ (by decide +kernel) fun t hf y => ?_
  have e := (index_at t).2.2.2.2.2.1
  have := point_lt t
  blk_simp
  rw [after0_17]
  idx_vars y
  have e0 : ((((View.whole main_v4_1).slice (win0_17.rect t)).emb (ix2 y0 y1) 0 : ℕ)) = 1152 * (t.val / 4) + y0 := by blk_simp [e]; omega
  have e1 : ((((View.whole main_v4_1).slice (win0_17.rect t)).emb (ix2 y0 y1) 1 : ℕ)) = 512 * (t.val % 4) + y1 := by blk_simp [e]; omega
  have f : ((View.whole main_v4_1).slice (win0_17.rect t)).emb (ix2 y0 y1) = ix2 ⟨1152 * (t.val / 4) + y0, by omega⟩ ⟨512 * (t.val % 4) + y1, by omega⟩ := by
    funext a
    match a with
    | ⟨0, _⟩ => exact Fin.ext e0
    | ⟨1, _⟩ => exact Fin.ext e1
  rw [f]
  refine (back_at m c t y0 y1).trans (congrArg₂ (· * ·) (congrArg (fun q => branch _ _ _ _ _ _ _ q _) (Fin.ext ?_))
    (congrArg (fun q => branch _ _ _ _ _ _ _ q _) (Fin.ext ?_)))
  · show 512 * (4 + t.val % 4) + y1.val = 2048 + (512 * (t.val % 4) + y1.val)
    omega
  · show 512 * (8 + t.val % 4) + y1.val = 4096 + (512 * (t.val % 4) + y1.val)
    omega

end Kernel

end Cert.Proof.Long
-- ==== Proof.lean ====
/- The claims: each call against the mathematics that it computes. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Arrays
public import proofs.«01_k».proof.Proof.Results
public import proofs.«01_k».proof.Proof.Finite
public import proofs.«01_k».proof.Proof.Up
public import proofs.«01_k».proof.Proof.Down
public import proofs.«01_k».proof.Proof.Norm
public import proofs.«01_k».proof.Proof.Out
public import proofs.«01_k».proof.Proof.Long
public import Idealize.ShloMosaic.Adequacy
public import Idealize.ShloMosaic.Init

@[expose] public section

noncomputable section

namespace Cert.Proof

open Idealize.ShloMosaic Idealize.SL.Sem

theorem kernel_quiescent : Cert.quiescent_Kernel (hKernel := Cert.Kernel.Gen.facts) := fun m g _ => Cert.Kernel.Gen.frame m g

theorem ideal_quiescent : Cert.quiescent_KernelIdeal (hKernelIdeal := Cert.KernelIdeal.Gen.facts) :=
  fun m g _ => Cert.KernelIdeal.Gen.frame m g

/-- The reference ends with its arguments as they were; it has no semaphore. -/
theorem reference_quiescent : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- From one device's arguments the kernel's two arrays and the reference's are the two scans. -/
theorem algebraic : Cert.algebraic_KernelIdeal_ReferenceIdeal_pre_finite_and_decaying (hKernelIdeal := Cert.KernelIdeal.Gen.facts)
    (hReferenceIdeal := Cert.ReferenceIdeal.Gen.facts) (hPre_finite_and_decaying := pre_facts) := by
  intro m g m' g' hp hm
  letI := pre_facts
  refine ⟨fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨a, l, hr⟩ := reals_of_pre _ _ (hp c)
  have hr' : Reals (m' (c.tc.loc Cert.ReferenceIdeal.main_arg0)) (m' (c.tc.loc Cert.ReferenceIdeal.main_arg1)) a l := by
    rw [(hm c).1, (hm c).2]; exact hr
  exact ⟨(h c).1.trans ((Ref.result_fwd m' c hr').trans (array_fwd m c hr).symm),
    (h c).2.1.trans ((Ref.result_bwd m' c hr').trans (array_bwd m c hr).symm), (h c).2.2⟩

theorem quiescent2 : Cert.quiescent_Kernel2 (hKernel2 := Cert.Kernel2.Gen.facts) := fun m g _ => Cert.Kernel2.Gen.frame m g

theorem ideal_quiescent2 : Cert.quiescent_Kernel2Ideal (hKernel2Ideal := Cert.Kernel2Ideal.Gen.facts) := fun m g _ => Cert.Kernel2Ideal.Gen.frame m g

theorem reference_quiescent2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- Kernel and reference both end with the experts' gated activations. -/
theorem algebraic2 : Cert.algebraic_Kernel2Ideal_Reference2Ideal (hKernel2Ideal := Cert.Kernel2Ideal.Gen.facts) (hReference2Ideal := Cert.Reference2Ideal.Gen.facts) := by
  intro m g m' g' _ hm
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨(h c).1.trans ?_, (h c).2⟩) (Up.run m' g')
  rw [(hm c).1, (hm c).2.1, (hm c).2.2]
  exact (Up.array m c).symm

theorem quiescent3 : Cert.quiescent_Kernel3 (hKernel3 := Cert.Kernel3.Gen.facts) := fun m g _ => Cert.Kernel3.Gen.frame m g

theorem ideal_quiescent3 : Cert.quiescent_Kernel3Ideal (hKernel3Ideal := Cert.Kernel3Ideal.Gen.facts) := fun m g _ => Cert.Kernel3Ideal.Gen.frame m g

theorem reference_quiescent3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- Kernel and reference both end with the experts' weighted outputs. -/
theorem algebraic3 : Cert.algebraic_Kernel3Ideal_Reference3Ideal (hKernel3Ideal := Cert.Kernel3Ideal.Gen.facts) (hReference3Ideal := Cert.Reference3Ideal.Gen.facts) := by
  intro m g m' g' _ hm
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ⟨(h c).1.trans ?_, (h c).2⟩) (Down.run m' g')
  rw [(hm c).1, (hm c).2.1, (hm c).2.2]
  exact (Down.array m c).symm

theorem quiescent4 : Cert.quiescent_Kernel4 (hKernel4 := Cert.Kernel4.Gen.facts) := fun m g _ => Cert.Kernel4.Gen.frame m g

theorem ideal_quiescent4 : Cert.quiescent_Kernel4Ideal (hKernel4Ideal := Cert.Kernel4Ideal.Gen.facts) := fun m g _ => Cert.Kernel4Ideal.Gen.frame m g

theorem reference_quiescent4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- Kernel and reference both end with the projected rows. -/
theorem algebraic4 : Cert.algebraic_Kernel4Ideal_Reference4Ideal (hKernel4Ideal := Cert.Kernel4Ideal.Gen.facts) (hReference4Ideal := Cert.Reference4Ideal.Gen.facts) := by
  intro m g m' g' _ hm
  refine ⟨fun c => (Cert.Kernel4Ideal.Gen.dats m 0 c).arrAt 5 Cert.Kernel4Ideal.cfg0.N, Cert.Kernel4Ideal.Value.run_blocks m g, ?_⟩
  refine (θ_run Cert.Reference4Ideal.defs _ _).mono (fun r h c => ⟨(h c).1.trans ?_, (h c).2⟩) (Norm.run m' g')
  rw [(hm c).1, (hm c).2.1, (hm c).2.2.1, (hm c).2.2.2]
  exact (Norm.array m c).symm

theorem quiescent5 : Cert.quiescent_Kernel5 (hKernel5 := Cert.Kernel5.Gen.facts) := fun m g _ => Cert.Kernel5.Gen.frame m g

theorem ideal_quiescent5 : Cert.quiescent_Kernel5Ideal (hKernel5Ideal := Cert.Kernel5Ideal.Gen.facts) := fun m g _ => Cert.Kernel5Ideal.Gen.frame m g

theorem reference_quiescent5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- Kernel and reference both end with the rows with the projection's on top. -/
theorem algebraic5 : Cert.algebraic_Kernel5Ideal_Reference5Ideal (hKernel5Ideal := Cert.Kernel5Ideal.Gen.facts) (hReference5Ideal := Cert.Reference5Ideal.Gen.facts) := by
  intro m g m' g' _ hm
  refine ⟨fun c => (Cert.Kernel5Ideal.Gen.dats m 0 c).arrAt 6 Cert.Kernel5Ideal.cfg0.N, Cert.Kernel5Ideal.Value.run_blocks m g, ?_⟩
  refine (θ_run Cert.Reference5Ideal.defs _ _).mono (fun r h c => ⟨(h c).1.trans ?_, (h c).2⟩) (Out.run m' g')
  rw [(hm c).1, (hm c).2.1, (hm c).2.2.1, (hm c).2.2.2.1, (hm c).2.2.2.2]
  exact (Out.array m c).symm

theorem quiescent6 : Cert.quiescent_Kernel6 (hKernel6 := Cert.Kernel6.Gen.facts) := fun m g _ => Cert.Kernel6.Gen.frame m g

theorem ideal_quiescent6 : Cert.quiescent_Kernel6Ideal (hKernel6Ideal := Cert.Kernel6Ideal.Gen.facts) := fun m g _ => Cert.Kernel6Ideal.Gen.frame m g

theorem reference_quiescent6 : Cert.quiescent_Reference6Ideal (hReference6Ideal := Cert.Reference6Ideal.Gen.facts) := fun m g _ =>
  (θ_run Cert.Reference6Ideal.defs _ _).mono (fun r h => ⟨fun c => (h c).2.2, sem_eq_zero_of_no_sems (by decide) r.2⟩)
    (Cert.Reference6Ideal.Value.run (F := Ideal) m g)

/-- Kernel and reference both end with the two gates. -/
theorem algebraic6 : Cert.algebraic_Kernel6Ideal_Reference6Ideal (hKernel6Ideal := Cert.Kernel6Ideal.Gen.facts) (hReference6Ideal := Cert.Reference6Ideal.Gen.facts) := by
  intro m g m' g' _ hm
  refine ⟨fun c => (Cert.Kernel6Ideal.Gen.dats m 0 c).arrAt 16 Cert.Kernel6Ideal.cfg0.N, fun c => (Cert.Kernel6Ideal.Gen.dats m 0 c).arrAt 17 Cert.Kernel6Ideal.cfg0.N,
    Cert.Kernel6Ideal.Value.run_blocks m g, ?_⟩
  refine (θ_run Cert.Reference6Ideal.defs _ _).mono (fun r h c => ⟨(h c).1.trans ?_, (h c).2.1.trans ?_, (h c).2.2⟩) (Long.run m' g')
  · rw [(hm c).1, (hm c).2.1, (hm c).2.2.1, (hm c).2.2.2.1, (hm c).2.2.2.2.1, (hm c).2.2.2.2.2.1, (hm c).2.2.2.2.2.2]
    exact (Long.array_first m c).symm
  · rw [(hm c).1, (hm c).2.1, (hm c).2.2.1, (hm c).2.2.2.1, (hm c).2.2.2.2.1, (hm c).2.2.2.2.2.1, (hm c).2.2.2.2.2.2]
    exact (Long.array_second m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    pre_facts,
    kernel_quiescent, ideal_quiescent, fun m g _ => Cert.KernelIdeal.Gen.frame m g, reference_quiescent,
    fun m g _ => reference_quiescent m g trivial,
    quiescent2, ideal_quiescent2, reference_quiescent2,
    quiescent3, ideal_quiescent3, reference_quiescent3,
    quiescent4, ideal_quiescent4, reference_quiescent4,
    quiescent5, ideal_quiescent5, reference_quiescent5,
    quiescent6, ideal_quiescent6, reference_quiescent6,
    IdealRules.named_const.statement Cert.KernelIdeal.κ "log2e" .f32 0x3FB8AA3B#32 (((Real.log 2)⁻¹ : ℝ) : EReal) rfl,
    algebraic,
    trivial, algebraic2,
    trivial, algebraic3,
    trivial, algebraic4,
    trivial, algebraic5,
    trivial, algebraic6⟩

end Cert.Proof

end
